-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x256 : Shape := ⟨3, ![2, 4096, 256]⟩
abbrev S16x256x128 : Shape := ⟨3, ![16, 256, 128]⟩
abbrev S16x8x128 : Shape := ⟨3, ![16, 8, 128]⟩
abbrev S_ : Shape := ⟨0, ![]⟩
abbrev S2 : Shape := ⟨1, ![2]⟩
abbrev S16 : Shape := ⟨1, ![16]⟩
abbrev S1 : Shape := ⟨1, ![1]⟩
abbrev S1x4096x256 : Shape := ⟨3, ![1, 4096, 256]⟩
abbrev S4096x256 : Shape := ⟨2, ![4096, 256]⟩
abbrev S256x256 : Shape := ⟨2, ![256, 256]⟩
abbrev S1x256x256 : Shape := ⟨3, ![1, 256, 256]⟩
abbrev S1x1x1 : Shape := ⟨3, ![1, 1, 1]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S256x4096, .f32⟩
  | .local _ .vmem, ⟨1, _⟩ => ⟨S2x4096x256, .f32⟩
  | .local _ .vmem, ⟨2, _⟩ => ⟨S16x256x128, .bf16⟩
  | .local _ .vmem, ⟨3, _⟩ => ⟨S16x256x128, .bf16⟩
  | .local _ .vmem, ⟨4, _⟩ => ⟨S4096x128, .f32⟩
  | .local _ .vmem, ⟨5, _⟩ => ⟨S16x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v21 : BitVec 1 := Scalar.cmpi .ne v2 c0_i32_5
  let v22 : BitVec 32 := Scalar.extui v21
  let c0_i32_6 : BitVec 32 := 0#32
  let v23 : BitVec 1 := Scalar.cmpi .ne v22 c0_i32_6
  v23

def k0_dev1 : Nat :=
  let c0_i32_609 : BitVec 32 := 0#32
  let c0_i32_607 : BitVec 32 := 0#32
  let c1_i32_608 : BitVec 32 := 1#32
  let v1091 : BitVec 32 := Scalar.muli c0_i32_607 c1_i32_608
  let v1092 : BitVec 32 := Scalar.addi c0_i32_609 v1091
  v1092.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v24 : BitVec 1 := Scalar.cmpi .ne v2 c1_i32_7
  let v25 : BitVec 32 := Scalar.extui v24
  let c0_i32_8 : BitVec 32 := 0#32
  let v26 : BitVec 1 := Scalar.cmpi .ne v25 c0_i32_8
  v26

def k0_dev2 : Nat :=
  let c0_i32_609 : BitVec 32 := 0#32
  let c1_i32_607 : BitVec 32 := 1#32
  let c1_i32_608 : BitVec 32 := 1#32
  let v1091 : BitVec 32 := Scalar.muli c1_i32_607 c1_i32_608
  let v1092 : BitVec 32 := Scalar.addi c0_i32_609 v1091
  v1092.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_9 : BitVec 32 := 2#32
  let v27 : BitVec 1 := Scalar.cmpi .ne v2 c2_i32_9
  let v28 : BitVec 32 := Scalar.extui v27
  let c0_i32_10 : BitVec 32 := 0#32
  let v29 : BitVec 1 := Scalar.cmpi .ne v28 c0_i32_10
  v29

def k0_dev3 : Nat :=
  let c0_i32_609 : BitVec 32 := 0#32
  let c2_i32_607 : BitVec 32 := 2#32
  let c1_i32_608 : BitVec 32 := 1#32
  let v1091 : BitVec 32 := Scalar.muli c2_i32_607 c1_i32_608
  let v1092 : BitVec 32 := Scalar.addi c0_i32_609 v1091
  v1092.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 1 := Scalar.cmpi .ne v2 c3_i32
  let v31 : BitVec 32 := Scalar.extui v30
  let c0_i32_11 : BitVec 32 := 0#32
  let v32 : BitVec 1 := Scalar.cmpi .ne v31 c0_i32_11
  v32

def k0_dev4 : Nat :=
  let c0_i32_609 : BitVec 32 := 0#32
  let c3_i32_607 : BitVec 32 := 3#32
  let c1_i32_608 : BitVec 32 := 1#32
  let v1091 : BitVec 32 := Scalar.muli c3_i32_607 c1_i32_608
  let v1092 : BitVec 32 := Scalar.addi c0_i32_609 v1091
  v1092.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v33 : BitVec 1 := Scalar.cmpi .ne v2 c4_i32
  let v34 : BitVec 32 := Scalar.extui v33
  let c0_i32_12 : BitVec 32 := 0#32
  let v35 : BitVec 1 := Scalar.cmpi .ne v34 c0_i32_12
  v35

def k0_dev5 : Nat :=
  let c0_i32_609 : BitVec 32 := 0#32
  let c4_i32_607 : BitVec 32 := 4#32
  let c1_i32_608 : BitVec 32 := 1#32
  let v1091 : BitVec 32 := Scalar.muli c4_i32_607 c1_i32_608
  let v1092 : BitVec 32 := Scalar.addi c0_i32_609 v1091
  v1092.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 1 := Scalar.cmpi .ne v2 c5_i32
  let v37 : BitVec 32 := Scalar.extui v36
  let c0_i32_13 : BitVec 32 := 0#32
  let v38 : BitVec 1 := Scalar.cmpi .ne v37 c0_i32_13
  v38

def k0_dev6 : Nat :=
  let c0_i32_609 : BitVec 32 := 0#32
  let c5_i32_607 : BitVec 32 := 5#32
  let c1_i32_608 : BitVec 32 := 1#32
  let v1091 : BitVec 32 := Scalar.muli c5_i32_607 c1_i32_608
  let v1092 : BitVec 32 := Scalar.addi c0_i32_609 v1091
  v1092.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v39 : BitVec 1 := Scalar.cmpi .ne v2 c6_i32
  let v40 : BitVec 32 := Scalar.extui v39
  let c0_i32_14 : BitVec 32 := 0#32
  let v41 : BitVec 1 := Scalar.cmpi .ne v40 c0_i32_14
  v41

def k0_dev7 : Nat :=
  let c0_i32_609 : BitVec 32 := 0#32
  let c6_i32_607 : BitVec 32 := 6#32
  let c1_i32_608 : BitVec 32 := 1#32
  let v1091 : BitVec 32 := Scalar.muli c6_i32_607 c1_i32_608
  let v1092 : BitVec 32 := Scalar.addi c0_i32_609 v1091
  v1092.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v42 : BitVec 1 := Scalar.cmpi .ne v2 c7_i32
  let v43 : BitVec 32 := Scalar.extui v42
  let c0_i32_15 : BitVec 32 := 0#32
  let v44 : BitVec 1 := Scalar.cmpi .ne v43 c0_i32_15
  v44

def k0_dev8 : Nat :=
  let c0_i32_609 : BitVec 32 := 0#32
  let c7_i32_607 : BitVec 32 := 7#32
  let c1_i32_608 : BitVec 32 := 1#32
  let v1091 : BitVec 32 := Scalar.muli c7_i32_607 c1_i32_608
  let v1092 : BitVec 32 := Scalar.addi c0_i32_609 v1091
  v1092.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v45 : BitVec 1 := Scalar.cmpi .ne v2 c8_i32
  let v46 : BitVec 32 := Scalar.extui v45
  let c0_i32_16 : BitVec 32 := 0#32
  let v47 : BitVec 1 := Scalar.cmpi .ne v46 c0_i32_16
  v47

def k0_dev9 : Nat :=
  let c0_i32_609 : BitVec 32 := 0#32
  let c8_i32_607 : BitVec 32 := 8#32
  let c1_i32_608 : BitVec 32 := 1#32
  let v1091 : BitVec 32 := Scalar.muli c8_i32_607 c1_i32_608
  let v1092 : BitVec 32 := Scalar.addi c0_i32_609 v1091
  v1092.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v48 : BitVec 1 := Scalar.cmpi .ne v2 c9_i32
  let v49 : BitVec 32 := Scalar.extui v48
  let c0_i32_17 : BitVec 32 := 0#32
  let v50 : BitVec 1 := Scalar.cmpi .ne v49 c0_i32_17
  v50

def k0_dev10 : Nat :=
  let c0_i32_609 : BitVec 32 := 0#32
  let c9_i32_607 : BitVec 32 := 9#32
  let c1_i32_608 : BitVec 32 := 1#32
  let v1091 : BitVec 32 := Scalar.muli c9_i32_607 c1_i32_608
  let v1092 : BitVec 32 := Scalar.addi c0_i32_609 v1091
  v1092.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v51 : BitVec 1 := Scalar.cmpi .ne v2 c10_i32
  let v52 : BitVec 32 := Scalar.extui v51
  let c0_i32_18 : BitVec 32 := 0#32
  let v53 : BitVec 1 := Scalar.cmpi .ne v52 c0_i32_18
  v53

def k0_dev11 : Nat :=
  let c0_i32_609 : BitVec 32 := 0#32
  let c10_i32_607 : BitVec 32 := 10#32
  let c1_i32_608 : BitVec 32 := 1#32
  let v1091 : BitVec 32 := Scalar.muli c10_i32_607 c1_i32_608
  let v1092 : BitVec 32 := Scalar.addi c0_i32_609 v1091
  v1092.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v54 : BitVec 1 := Scalar.cmpi .ne v2 c11_i32
  let v55 : BitVec 32 := Scalar.extui v54
  let c0_i32_19 : BitVec 32 := 0#32
  let v56 : BitVec 1 := Scalar.cmpi .ne v55 c0_i32_19
  v56

def k0_dev12 : Nat :=
  let c0_i32_609 : BitVec 32 := 0#32
  let c11_i32_607 : BitVec 32 := 11#32
  let c1_i32_608 : BitVec 32 := 1#32
  let v1091 : BitVec 32 := Scalar.muli c11_i32_607 c1_i32_608
  let v1092 : BitVec 32 := Scalar.addi c0_i32_609 v1091
  v1092.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v57 : BitVec 1 := Scalar.cmpi .ne v2 c12_i32
  let v58 : BitVec 32 := Scalar.extui v57
  let c0_i32_20 : BitVec 32 := 0#32
  let v59 : BitVec 1 := Scalar.cmpi .ne v58 c0_i32_20
  v59

def k0_dev13 : Nat :=
  let c0_i32_609 : BitVec 32 := 0#32
  let c12_i32_607 : BitVec 32 := 12#32
  let c1_i32_608 : BitVec 32 := 1#32
  let v1091 : BitVec 32 := Scalar.muli c12_i32_607 c1_i32_608
  let v1092 : BitVec 32 := Scalar.addi c0_i32_609 v1091
  v1092.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v60 : BitVec 1 := Scalar.cmpi .ne v2 c13_i32
  let v61 : BitVec 32 := Scalar.extui v60
  let c0_i32_21 : BitVec 32 := 0#32
  let v62 : BitVec 1 := Scalar.cmpi .ne v61 c0_i32_21
  v62

def k0_dev14 : Nat :=
  let c0_i32_609 : BitVec 32 := 0#32
  let c13_i32_607 : BitVec 32 := 13#32
  let c1_i32_608 : BitVec 32 := 1#32
  let v1091 : BitVec 32 := Scalar.muli c13_i32_607 c1_i32_608
  let v1092 : BitVec 32 := Scalar.addi c0_i32_609 v1091
  v1092.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v63 : BitVec 1 := Scalar.cmpi .ne v2 c14_i32
  let v64 : BitVec 32 := Scalar.extui v63
  let c0_i32_22 : BitVec 32 := 0#32
  let v65 : BitVec 1 := Scalar.cmpi .ne v64 c0_i32_22
  v65

def k0_dev15 : Nat :=
  let c0_i32_609 : BitVec 32 := 0#32
  let c14_i32_607 : BitVec 32 := 14#32
  let c1_i32_608 : BitVec 32 := 1#32
  let v1091 : BitVec 32 := Scalar.muli c14_i32_607 c1_i32_608
  let v1092 : BitVec 32 := Scalar.addi c0_i32_609 v1091
  v1092.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v66 : BitVec 1 := Scalar.cmpi .ne v2 c15_i32
  let v67 : BitVec 32 := Scalar.extui v66
  let c0_i32_23 : BitVec 32 := 0#32
  let v68 : BitVec 1 := Scalar.cmpi .ne v67 c0_i32_23
  v68

def k0_dev16 : Nat :=
  let c0_i32_609 : BitVec 32 := 0#32
  let c15_i32_607 : BitVec 32 := 15#32
  let c1_i32_608 : BitVec 32 := 1#32
  let v1091 : BitVec 32 := Scalar.muli c15_i32_607 c1_i32_608
  let v1092 : BitVec 32 := Scalar.addi c0_i32_609 v1091
  v1092.toNat
def k0_off1 (d0 : Dev nD) (c0_i32_24 : BitVec 32) : Fin 2 → Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v69 : BitVec 32 := Scalar.addi c0_i32_24 v19
  let c8_i32_25 : BitVec 32 := 8#32
  let c0_i32_26 : BitVec 32 := 0#32
  let v70 : BitVec 1 := Scalar.cmpi .eq c8_i32_25 c0_i32_26
  let c1_i32_27 : BitVec 32 := 1#32
  let v71 : BitVec 32 := Scalar.select v70 c1_i32_27 c8_i32_25
  let v72 : BitVec 32 := Scalar.remsi v69 v71
  let c0_i32_29 : BitVec 32 := 0#32
  let v74 : BitVec 1 := Scalar.cmpi .slt v72 c0_i32_29
  let c0_i32_30 : BitVec 32 := 0#32
  let v75 : BitVec 1 := Scalar.cmpi .slt v71 c0_i32_30
  let v76 : BitVec 1 := Scalar.xori v74 v75
  let c0_i32_28 : BitVec 32 := 0#32
  let v73 : BitVec 1 := Scalar.cmpi .ne v72 c0_i32_28
  let v77 : BitVec 1 := Scalar.andi v76 v73
  let v78 : BitVec 32 := Scalar.addi v72 v71
  let v79 : BitVec 32 := Scalar.select v77 v78 v72
  let c256_i32 : BitVec 32 := 256#32
  let v80 : BitVec 32 := Scalar.muli v79 c256_i32
  ![0, v80.toNat]
def k0_off2 (d0 : Dev nD) (c0_i32_37 : BitVec 32) (c0_i32_71 : BitVec 32) : Fin 3 → Nat :=
  let c2_i32_70 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let v132 : BitVec 32 := Scalar.addi v131 c0_i32_71
  let v135 : Index := Scalar.indexCast v132
  let c0_72 : Index := 0#32
  let c0_73 : Index := 0#32
  ![v135.toNat, 0, 0]
def k0_cond17 (d0 : Dev nD) : BitVec 1 :=
  let c2_i32_70 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let c0_i32_71 : BitVec 32 := 0#32
  let v132 : BitVec 32 := Scalar.addi v131 c0_i32_71
  let v139 : BitVec 1 := Scalar.cmpi .eq v132 v2
  let v140 : BitVec 32 := Scalar.extui v139
  let c0_i32_74 : BitVec 32 := 0#32
  let v141 : BitVec 1 := Scalar.cmpi .ne v140 c0_i32_74
  v141

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond18 (d0 : Dev nD) : BitVec 1 :=
  let c2_i32_70 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let c0_i32_71 : BitVec 32 := 0#32
  let v132 : BitVec 32 := Scalar.addi v131 c0_i32_71
  let v142 : BitVec 1 := Scalar.cmpi .ne v132 v2
  let v143 : BitVec 32 := Scalar.extui v142
  let c0_i32_75 : BitVec 32 := 0#32
  let v144 : BitVec 1 := Scalar.cmpi .ne v143 c0_i32_75
  v144

def k0_off4 (d0 : Dev nD) : Fin 1 → Nat :=
  let c2_i32_70 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let c0_i32_71 : BitVec 32 := 0#32
  let v132 : BitVec 32 := Scalar.addi v131 c0_i32_71
  ![v132.toNat]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off7 (d0 : Dev nD) : Fin 3 → Nat :=
  let c2_i32_70 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let c0_i32_71 : BitVec 32 := 0#32
  let v132 : BitVec 32 := Scalar.addi v131 c0_i32_71
  let c0_i32_610 : BitVec 32 := 0#32
  let c0_i32_611 : BitVec 32 := 0#32
  ![v132.toNat, 0, 0]
def k0_dev17 (d0 : Dev nD) : Nat :=
  let c0_i32_607 : BitVec 32 := 0#32
  let c2_i32_70 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v131 : BitVec 32 := Scalar.muli c2_i32_70 v96
  let c0_i32_71 : BitVec 32 := 0#32
  let v132 : BitVec 32 := Scalar.addi v131 c0_i32_71
  let c1_i32_606 : BitVec 32 := 1#32
  let v1091 : BitVec 32 := Scalar.muli v132 c1_i32_606
  let v1092 : BitVec 32 := Scalar.addi c0_i32_607 v1091
  v1092.toNat
def k0_cond19 (d0 : Dev nD) : BitVec 1 :=
  let c2_i32_76 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v145 : BitVec 32 := Scalar.muli c2_i32_76 v96
  let c1_i32_77 : BitVec 32 := 1#32
  let v146 : BitVec 32 := Scalar.addi v145 c1_i32_77
  let v153 : BitVec 1 := Scalar.cmpi .eq v146 v2
  let v154 : BitVec 32 := Scalar.extui v153
  let c0_i32_80 : BitVec 32 := 0#32
  let v155 : BitVec 1 := Scalar.cmpi .ne v154 c0_i32_80
  v155

def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond20 (d0 : Dev nD) : BitVec 1 :=
  let c2_i32_76 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v145 : BitVec 32 := Scalar.muli c2_i32_76 v96
  let c1_i32_77 : BitVec 32 := 1#32
  let v146 : BitVec 32 := Scalar.addi v145 c1_i32_77
  let v156 : BitVec 1 := Scalar.cmpi .ne v146 v2
  let v157 : BitVec 32 := Scalar.extui v156
  let c0_i32_81 : BitVec 32 := 0#32
  let v158 : BitVec 1 := Scalar.cmpi .ne v157 c0_i32_81
  v158

def k0_off9 (d0 : Dev nD) : Fin 1 → Nat :=
  let c2_i32_76 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v145 : BitVec 32 := Scalar.muli c2_i32_76 v96
  let c1_i32_77 : BitVec 32 := 1#32
  let v146 : BitVec 32 := Scalar.addi v145 c1_i32_77
  ![v146.toNat]
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off12 (d0 : Dev nD) : Fin 3 → Nat :=
  let c2_i32_76 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v145 : BitVec 32 := Scalar.muli c2_i32_76 v96
  let c1_i32_77 : BitVec 32 := 1#32
  let v146 : BitVec 32 := Scalar.addi v145 c1_i32_77
  let c0_i32_610 : BitVec 32 := 0#32
  let c0_i32_611 : BitVec 32 := 0#32
  ![v146.toNat, 0, 0]
def k0_dev18 (d0 : Dev nD) : Nat :=
  let c0_i32_607 : BitVec 32 := 0#32
  let c2_i32_76 : BitVec 32 := 2#32
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v86 : BitVec 32 := Scalar.addi c0_i32_37 v19
  let c8_i32_38 : BitVec 32 := 8#32
  let c0_i32_39 : BitVec 32 := 0#32
  let v87 : BitVec 1 := Scalar.cmpi .eq c8_i32_38 c0_i32_39
  let c1_i32_40 : BitVec 32 := 1#32
  let v88 : BitVec 32 := Scalar.select v87 c1_i32_40 c8_i32_38
  let v89 : BitVec 32 := Scalar.remsi v86 v88
  let c0_i32_42 : BitVec 32 := 0#32
  let v91 : BitVec 1 := Scalar.cmpi .slt v89 c0_i32_42
  let c0_i32_43 : BitVec 32 := 0#32
  let v92 : BitVec 1 := Scalar.cmpi .slt v88 c0_i32_43
  let v93 : BitVec 1 := Scalar.xori v91 v92
  let c0_i32_41 : BitVec 32 := 0#32
  let v90 : BitVec 1 := Scalar.cmpi .ne v89 c0_i32_41
  let v94 : BitVec 1 := Scalar.andi v93 v90
  let v95 : BitVec 32 := Scalar.addi v89 v88
  let v96 : BitVec 32 := Scalar.select v94 v95 v89
  let v145 : BitVec 32 := Scalar.muli c2_i32_76 v96
  let c1_i32_77 : BitVec 32 := 1#32
  let v146 : BitVec 32 := Scalar.addi v145 c1_i32_77
  let c1_i32_606 : BitVec 32 := 1#32
  let v1091 : BitVec 32 := Scalar.muli v146 c1_i32_606
  let v1092 : BitVec 32 := Scalar.addi c0_i32_607 v1091
  v1092.toNat
def k0_cond21 (d0 : Dev nD) : BitVec 1 :=
  let c2_i32_115 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v204 : BitVec 32 := Scalar.muli c2_i32_115 v169
  let c0_i32_116 : BitVec 32 := 0#32
  let v205 : BitVec 32 := Scalar.addi v204 c0_i32_116
  let v212 : BitVec 1 := Scalar.cmpi .eq v205 v2
  let v213 : BitVec 32 := Scalar.extui v212
  let c0_i32_119 : BitVec 32 := 0#32
  let v214 : BitVec 1 := Scalar.cmpi .ne v213 c0_i32_119
  v214

def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond22 (d0 : Dev nD) : BitVec 1 :=
  let c2_i32_115 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v204 : BitVec 32 := Scalar.muli c2_i32_115 v169
  let c0_i32_116 : BitVec 32 := 0#32
  let v205 : BitVec 32 := Scalar.addi v204 c0_i32_116
  let v215 : BitVec 1 := Scalar.cmpi .ne v205 v2
  let v216 : BitVec 32 := Scalar.extui v215
  let c0_i32_120 : BitVec 32 := 0#32
  let v217 : BitVec 1 := Scalar.cmpi .ne v216 c0_i32_120
  v217

def k0_off14 (d0 : Dev nD) : Fin 1 → Nat :=
  let c2_i32_115 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v204 : BitVec 32 := Scalar.muli c2_i32_115 v169
  let c0_i32_116 : BitVec 32 := 0#32
  let v205 : BitVec 32 := Scalar.addi v204 c0_i32_116
  ![v205.toNat]
def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off17 (d0 : Dev nD) : Fin 3 → Nat :=
  let c2_i32_115 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v204 : BitVec 32 := Scalar.muli c2_i32_115 v169
  let c0_i32_116 : BitVec 32 := 0#32
  let v205 : BitVec 32 := Scalar.addi v204 c0_i32_116
  let c0_i32_610 : BitVec 32 := 0#32
  let c0_i32_611 : BitVec 32 := 0#32
  ![v205.toNat, 0, 0]
def k0_dev19 (d0 : Dev nD) : Nat :=
  let c0_i32_607 : BitVec 32 := 0#32
  let c2_i32_115 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v204 : BitVec 32 := Scalar.muli c2_i32_115 v169
  let c0_i32_116 : BitVec 32 := 0#32
  let v205 : BitVec 32 := Scalar.addi v204 c0_i32_116
  let c1_i32_606 : BitVec 32 := 1#32
  let v1091 : BitVec 32 := Scalar.muli v205 c1_i32_606
  let v1092 : BitVec 32 := Scalar.addi c0_i32_607 v1091
  v1092.toNat
def k0_cond23 (d0 : Dev nD) : BitVec 1 :=
  let c2_i32_121 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v218 : BitVec 32 := Scalar.muli c2_i32_121 v169
  let c1_i32_122 : BitVec 32 := 1#32
  let v219 : BitVec 32 := Scalar.addi v218 c1_i32_122
  let v226 : BitVec 1 := Scalar.cmpi .eq v219 v2
  let v227 : BitVec 32 := Scalar.extui v226
  let c0_i32_125 : BitVec 32 := 0#32
  let v228 : BitVec 1 := Scalar.cmpi .ne v227 c0_i32_125
  v228

def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond24 (d0 : Dev nD) : BitVec 1 :=
  let c2_i32_121 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v218 : BitVec 32 := Scalar.muli c2_i32_121 v169
  let c1_i32_122 : BitVec 32 := 1#32
  let v219 : BitVec 32 := Scalar.addi v218 c1_i32_122
  let v229 : BitVec 1 := Scalar.cmpi .ne v219 v2
  let v230 : BitVec 32 := Scalar.extui v229
  let c0_i32_126 : BitVec 32 := 0#32
  let v231 : BitVec 1 := Scalar.cmpi .ne v230 c0_i32_126
  v231

def k0_off19 (d0 : Dev nD) : Fin 1 → Nat :=
  let c2_i32_121 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v218 : BitVec 32 := Scalar.muli c2_i32_121 v169
  let c1_i32_122 : BitVec 32 := 1#32
  let v219 : BitVec 32 := Scalar.addi v218 c1_i32_122
  ![v219.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off22 (d0 : Dev nD) : Fin 3 → Nat :=
  let c2_i32_121 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v218 : BitVec 32 := Scalar.muli c2_i32_121 v169
  let c1_i32_122 : BitVec 32 := 1#32
  let v219 : BitVec 32 := Scalar.addi v218 c1_i32_122
  let c0_i32_610 : BitVec 32 := 0#32
  let c0_i32_611 : BitVec 32 := 0#32
  ![v219.toNat, 0, 0]
def k0_dev20 (d0 : Dev nD) : Nat :=
  let c0_i32_607 : BitVec 32 := 0#32
  let c2_i32_121 : BitVec 32 := 2#32
  let c1_i32_82 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v159 : BitVec 32 := Scalar.addi c1_i32_82 v19
  let c8_i32_83 : BitVec 32 := 8#32
  let c0_i32_84 : BitVec 32 := 0#32
  let v160 : BitVec 1 := Scalar.cmpi .eq c8_i32_83 c0_i32_84
  let c1_i32_85 : BitVec 32 := 1#32
  let v161 : BitVec 32 := Scalar.select v160 c1_i32_85 c8_i32_83
  let v162 : BitVec 32 := Scalar.remsi v159 v161
  let c0_i32_87 : BitVec 32 := 0#32
  let v164 : BitVec 1 := Scalar.cmpi .slt v162 c0_i32_87
  let c0_i32_88 : BitVec 32 := 0#32
  let v165 : BitVec 1 := Scalar.cmpi .slt v161 c0_i32_88
  let v166 : BitVec 1 := Scalar.xori v164 v165
  let c0_i32_86 : BitVec 32 := 0#32
  let v163 : BitVec 1 := Scalar.cmpi .ne v162 c0_i32_86
  let v167 : BitVec 1 := Scalar.andi v166 v163
  let v168 : BitVec 32 := Scalar.addi v162 v161
  let v169 : BitVec 32 := Scalar.select v167 v168 v162
  let v218 : BitVec 32 := Scalar.muli c2_i32_121 v169
  let c1_i32_122 : BitVec 32 := 1#32
  let v219 : BitVec 32 := Scalar.addi v218 c1_i32_122
  let c1_i32_606 : BitVec 32 := 1#32
  let v1091 : BitVec 32 := Scalar.muli v219 c1_i32_606
  let v1092 : BitVec 32 := Scalar.addi c0_i32_607 v1091
  v1092.toNat
def k0_cond25 (d0 : Dev nD) : BitVec 1 :=
  let c2_i32_161 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v277 : BitVec 32 := Scalar.muli c2_i32_161 v242
  let c0_i32_162 : BitVec 32 := 0#32
  let v278 : BitVec 32 := Scalar.addi v277 c0_i32_162
  let v285 : BitVec 1 := Scalar.cmpi .eq v278 v2
  let v286 : BitVec 32 := Scalar.extui v285
  let c0_i32_165 : BitVec 32 := 0#32
  let v287 : BitVec 1 := Scalar.cmpi .ne v286 c0_i32_165
  v287

def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond26 (d0 : Dev nD) : BitVec 1 :=
  let c2_i32_161 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v277 : BitVec 32 := Scalar.muli c2_i32_161 v242
  let c0_i32_162 : BitVec 32 := 0#32
  let v278 : BitVec 32 := Scalar.addi v277 c0_i32_162
  let v288 : BitVec 1 := Scalar.cmpi .ne v278 v2
  let v289 : BitVec 32 := Scalar.extui v288
  let c0_i32_166 : BitVec 32 := 0#32
  let v290 : BitVec 1 := Scalar.cmpi .ne v289 c0_i32_166
  v290

def k0_off24 (d0 : Dev nD) : Fin 1 → Nat :=
  let c2_i32_161 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v277 : BitVec 32 := Scalar.muli c2_i32_161 v242
  let c0_i32_162 : BitVec 32 := 0#32
  let v278 : BitVec 32 := Scalar.addi v277 c0_i32_162
  ![v278.toNat]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off27 (d0 : Dev nD) : Fin 3 → Nat :=
  let c2_i32_161 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v277 : BitVec 32 := Scalar.muli c2_i32_161 v242
  let c0_i32_162 : BitVec 32 := 0#32
  let v278 : BitVec 32 := Scalar.addi v277 c0_i32_162
  let c0_i32_610 : BitVec 32 := 0#32
  let c0_i32_611 : BitVec 32 := 0#32
  ![v278.toNat, 0, 0]
def k0_dev21 (d0 : Dev nD) : Nat :=
  let c0_i32_607 : BitVec 32 := 0#32
  let c2_i32_161 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v277 : BitVec 32 := Scalar.muli c2_i32_161 v242
  let c0_i32_162 : BitVec 32 := 0#32
  let v278 : BitVec 32 := Scalar.addi v277 c0_i32_162
  let c1_i32_606 : BitVec 32 := 1#32
  let v1091 : BitVec 32 := Scalar.muli v278 c1_i32_606
  let v1092 : BitVec 32 := Scalar.addi c0_i32_607 v1091
  v1092.toNat
def k0_cond27 (d0 : Dev nD) : BitVec 1 :=
  let c2_i32_167 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v291 : BitVec 32 := Scalar.muli c2_i32_167 v242
  let c1_i32_168 : BitVec 32 := 1#32
  let v292 : BitVec 32 := Scalar.addi v291 c1_i32_168
  let v299 : BitVec 1 := Scalar.cmpi .eq v292 v2
  let v300 : BitVec 32 := Scalar.extui v299
  let c0_i32_171 : BitVec 32 := 0#32
  let v301 : BitVec 1 := Scalar.cmpi .ne v300 c0_i32_171
  v301

def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond28 (d0 : Dev nD) : BitVec 1 :=
  let c2_i32_167 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v291 : BitVec 32 := Scalar.muli c2_i32_167 v242
  let c1_i32_168 : BitVec 32 := 1#32
  let v292 : BitVec 32 := Scalar.addi v291 c1_i32_168
  let v302 : BitVec 1 := Scalar.cmpi .ne v292 v2
  let v303 : BitVec 32 := Scalar.extui v302
  let c0_i32_172 : BitVec 32 := 0#32
  let v304 : BitVec 1 := Scalar.cmpi .ne v303 c0_i32_172
  v304

def k0_off29 (d0 : Dev nD) : Fin 1 → Nat :=
  let c2_i32_167 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v291 : BitVec 32 := Scalar.muli c2_i32_167 v242
  let c1_i32_168 : BitVec 32 := 1#32
  let v292 : BitVec 32 := Scalar.addi v291 c1_i32_168
  ![v292.toNat]
def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off32 (d0 : Dev nD) : Fin 3 → Nat :=
  let c2_i32_167 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v291 : BitVec 32 := Scalar.muli c2_i32_167 v242
  let c1_i32_168 : BitVec 32 := 1#32
  let v292 : BitVec 32 := Scalar.addi v291 c1_i32_168
  let c0_i32_610 : BitVec 32 := 0#32
  let c0_i32_611 : BitVec 32 := 0#32
  ![v292.toNat, 0, 0]
def k0_dev22 (d0 : Dev nD) : Nat :=
  let c0_i32_607 : BitVec 32 := 0#32
  let c2_i32_167 : BitVec 32 := 2#32
  let c2_i32_127 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v232 : BitVec 32 := Scalar.addi c2_i32_127 v19
  let c8_i32_128 : BitVec 32 := 8#32
  let c0_i32_129 : BitVec 32 := 0#32
  let v233 : BitVec 1 := Scalar.cmpi .eq c8_i32_128 c0_i32_129
  let c1_i32_130 : BitVec 32 := 1#32
  let v234 : BitVec 32 := Scalar.select v233 c1_i32_130 c8_i32_128
  let v235 : BitVec 32 := Scalar.remsi v232 v234
  let c0_i32_132 : BitVec 32 := 0#32
  let v237 : BitVec 1 := Scalar.cmpi .slt v235 c0_i32_132
  let c0_i32_133 : BitVec 32 := 0#32
  let v238 : BitVec 1 := Scalar.cmpi .slt v234 c0_i32_133
  let v239 : BitVec 1 := Scalar.xori v237 v238
  let c0_i32_131 : BitVec 32 := 0#32
  let v236 : BitVec 1 := Scalar.cmpi .ne v235 c0_i32_131
  let v240 : BitVec 1 := Scalar.andi v239 v236
  let v241 : BitVec 32 := Scalar.addi v235 v234
  let v242 : BitVec 32 := Scalar.select v240 v241 v235
  let v291 : BitVec 32 := Scalar.muli c2_i32_167 v242
  let c1_i32_168 : BitVec 32 := 1#32
  let v292 : BitVec 32 := Scalar.addi v291 c1_i32_168
  let c1_i32_606 : BitVec 32 := 1#32
  let v1091 : BitVec 32 := Scalar.muli v292 c1_i32_606
  let v1092 : BitVec 32 := Scalar.addi c0_i32_607 v1091
  v1092.toNat
def k0_cond29 (d0 : Dev nD) : BitVec 1 :=
  let c2_i32_207 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v350 : BitVec 32 := Scalar.muli c2_i32_207 v315
  let c0_i32_208 : BitVec 32 := 0#32
  let v351 : BitVec 32 := Scalar.addi v350 c0_i32_208
  let v358 : BitVec 1 := Scalar.cmpi .eq v351 v2
  let v359 : BitVec 32 := Scalar.extui v358
  let c0_i32_211 : BitVec 32 := 0#32
  let v360 : BitVec 1 := Scalar.cmpi .ne v359 c0_i32_211
  v360

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond30 (d0 : Dev nD) : BitVec 1 :=
  let c2_i32_207 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v350 : BitVec 32 := Scalar.muli c2_i32_207 v315
  let c0_i32_208 : BitVec 32 := 0#32
  let v351 : BitVec 32 := Scalar.addi v350 c0_i32_208
  let v361 : BitVec 1 := Scalar.cmpi .ne v351 v2
  let v362 : BitVec 32 := Scalar.extui v361
  let c0_i32_212 : BitVec 32 := 0#32
  let v363 : BitVec 1 := Scalar.cmpi .ne v362 c0_i32_212
  v363

def k0_off34 (d0 : Dev nD) : Fin 1 → Nat :=
  let c2_i32_207 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v350 : BitVec 32 := Scalar.muli c2_i32_207 v315
  let c0_i32_208 : BitVec 32 := 0#32
  let v351 : BitVec 32 := Scalar.addi v350 c0_i32_208
  ![v351.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off37 (d0 : Dev nD) : Fin 3 → Nat :=
  let c2_i32_207 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v350 : BitVec 32 := Scalar.muli c2_i32_207 v315
  let c0_i32_208 : BitVec 32 := 0#32
  let v351 : BitVec 32 := Scalar.addi v350 c0_i32_208
  let c0_i32_610 : BitVec 32 := 0#32
  let c0_i32_611 : BitVec 32 := 0#32
  ![v351.toNat, 0, 0]
def k0_dev23 (d0 : Dev nD) : Nat :=
  let c0_i32_607 : BitVec 32 := 0#32
  let c2_i32_207 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v350 : BitVec 32 := Scalar.muli c2_i32_207 v315
  let c0_i32_208 : BitVec 32 := 0#32
  let v351 : BitVec 32 := Scalar.addi v350 c0_i32_208
  let c1_i32_606 : BitVec 32 := 1#32
  let v1091 : BitVec 32 := Scalar.muli v351 c1_i32_606
  let v1092 : BitVec 32 := Scalar.addi c0_i32_607 v1091
  v1092.toNat
def k0_cond31 (d0 : Dev nD) : BitVec 1 :=
  let c2_i32_213 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v364 : BitVec 32 := Scalar.muli c2_i32_213 v315
  let c1_i32_214 : BitVec 32 := 1#32
  let v365 : BitVec 32 := Scalar.addi v364 c1_i32_214
  let v372 : BitVec 1 := Scalar.cmpi .eq v365 v2
  let v373 : BitVec 32 := Scalar.extui v372
  let c0_i32_217 : BitVec 32 := 0#32
  let v374 : BitVec 1 := Scalar.cmpi .ne v373 c0_i32_217
  v374

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond32 (d0 : Dev nD) : BitVec 1 :=
  let c2_i32_213 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v364 : BitVec 32 := Scalar.muli c2_i32_213 v315
  let c1_i32_214 : BitVec 32 := 1#32
  let v365 : BitVec 32 := Scalar.addi v364 c1_i32_214
  let v375 : BitVec 1 := Scalar.cmpi .ne v365 v2
  let v376 : BitVec 32 := Scalar.extui v375
  let c0_i32_218 : BitVec 32 := 0#32
  let v377 : BitVec 1 := Scalar.cmpi .ne v376 c0_i32_218
  v377

def k0_off39 (d0 : Dev nD) : Fin 1 → Nat :=
  let c2_i32_213 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v364 : BitVec 32 := Scalar.muli c2_i32_213 v315
  let c1_i32_214 : BitVec 32 := 1#32
  let v365 : BitVec 32 := Scalar.addi v364 c1_i32_214
  ![v365.toNat]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off42 (d0 : Dev nD) : Fin 3 → Nat :=
  let c2_i32_213 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v364 : BitVec 32 := Scalar.muli c2_i32_213 v315
  let c1_i32_214 : BitVec 32 := 1#32
  let v365 : BitVec 32 := Scalar.addi v364 c1_i32_214
  let c0_i32_610 : BitVec 32 := 0#32
  let c0_i32_611 : BitVec 32 := 0#32
  ![v365.toNat, 0, 0]
def k0_dev24 (d0 : Dev nD) : Nat :=
  let c0_i32_607 : BitVec 32 := 0#32
  let c2_i32_213 : BitVec 32 := 2#32
  let c3_i32_173 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v305 : BitVec 32 := Scalar.addi c3_i32_173 v19
  let c8_i32_174 : BitVec 32 := 8#32
  let c0_i32_175 : BitVec 32 := 0#32
  let v306 : BitVec 1 := Scalar.cmpi .eq c8_i32_174 c0_i32_175
  let c1_i32_176 : BitVec 32 := 1#32
  let v307 : BitVec 32 := Scalar.select v306 c1_i32_176 c8_i32_174
  let v308 : BitVec 32 := Scalar.remsi v305 v307
  let c0_i32_178 : BitVec 32 := 0#32
  let v310 : BitVec 1 := Scalar.cmpi .slt v308 c0_i32_178
  let c0_i32_179 : BitVec 32 := 0#32
  let v311 : BitVec 1 := Scalar.cmpi .slt v307 c0_i32_179
  let v312 : BitVec 1 := Scalar.xori v310 v311
  let c0_i32_177 : BitVec 32 := 0#32
  let v309 : BitVec 1 := Scalar.cmpi .ne v308 c0_i32_177
  let v313 : BitVec 1 := Scalar.andi v312 v309
  let v314 : BitVec 32 := Scalar.addi v308 v307
  let v315 : BitVec 32 := Scalar.select v313 v314 v308
  let v364 : BitVec 32 := Scalar.muli c2_i32_213 v315
  let c1_i32_214 : BitVec 32 := 1#32
  let v365 : BitVec 32 := Scalar.addi v364 c1_i32_214
  let c1_i32_606 : BitVec 32 := 1#32
  let v1091 : BitVec 32 := Scalar.muli v365 c1_i32_606
  let v1092 : BitVec 32 := Scalar.addi c0_i32_607 v1091
  v1092.toNat
def k0_cond33 (d0 : Dev nD) : BitVec 1 :=
  let c2_i32_253 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v423 : BitVec 32 := Scalar.muli c2_i32_253 v388
  let c0_i32_254 : BitVec 32 := 0#32
  let v424 : BitVec 32 := Scalar.addi v423 c0_i32_254
  let v431 : BitVec 1 := Scalar.cmpi .eq v424 v2
  let v432 : BitVec 32 := Scalar.extui v431
  let c0_i32_257 : BitVec 32 := 0#32
  let v433 : BitVec 1 := Scalar.cmpi .ne v432 c0_i32_257
  v433

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond34 (d0 : Dev nD) : BitVec 1 :=
  let c2_i32_253 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v423 : BitVec 32 := Scalar.muli c2_i32_253 v388
  let c0_i32_254 : BitVec 32 := 0#32
  let v424 : BitVec 32 := Scalar.addi v423 c0_i32_254
  let v434 : BitVec 1 := Scalar.cmpi .ne v424 v2
  let v435 : BitVec 32 := Scalar.extui v434
  let c0_i32_258 : BitVec 32 := 0#32
  let v436 : BitVec 1 := Scalar.cmpi .ne v435 c0_i32_258
  v436

def k0_off44 (d0 : Dev nD) : Fin 1 → Nat :=
  let c2_i32_253 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v423 : BitVec 32 := Scalar.muli c2_i32_253 v388
  let c0_i32_254 : BitVec 32 := 0#32
  let v424 : BitVec 32 := Scalar.addi v423 c0_i32_254
  ![v424.toNat]
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off47 (d0 : Dev nD) : Fin 3 → Nat :=
  let c2_i32_253 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v423 : BitVec 32 := Scalar.muli c2_i32_253 v388
  let c0_i32_254 : BitVec 32 := 0#32
  let v424 : BitVec 32 := Scalar.addi v423 c0_i32_254
  let c0_i32_610 : BitVec 32 := 0#32
  let c0_i32_611 : BitVec 32 := 0#32
  ![v424.toNat, 0, 0]
def k0_dev25 (d0 : Dev nD) : Nat :=
  let c0_i32_607 : BitVec 32 := 0#32
  let c2_i32_253 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v423 : BitVec 32 := Scalar.muli c2_i32_253 v388
  let c0_i32_254 : BitVec 32 := 0#32
  let v424 : BitVec 32 := Scalar.addi v423 c0_i32_254
  let c1_i32_606 : BitVec 32 := 1#32
  let v1091 : BitVec 32 := Scalar.muli v424 c1_i32_606
  let v1092 : BitVec 32 := Scalar.addi c0_i32_607 v1091
  v1092.toNat
def k0_cond35 (d0 : Dev nD) : BitVec 1 :=
  let c2_i32_259 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v437 : BitVec 32 := Scalar.muli c2_i32_259 v388
  let c1_i32_260 : BitVec 32 := 1#32
  let v438 : BitVec 32 := Scalar.addi v437 c1_i32_260
  let v445 : BitVec 1 := Scalar.cmpi .eq v438 v2
  let v446 : BitVec 32 := Scalar.extui v445
  let c0_i32_263 : BitVec 32 := 0#32
  let v447 : BitVec 1 := Scalar.cmpi .ne v446 c0_i32_263
  v447

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond36 (d0 : Dev nD) : BitVec 1 :=
  let c2_i32_259 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v437 : BitVec 32 := Scalar.muli c2_i32_259 v388
  let c1_i32_260 : BitVec 32 := 1#32
  let v438 : BitVec 32 := Scalar.addi v437 c1_i32_260
  let v448 : BitVec 1 := Scalar.cmpi .ne v438 v2
  let v449 : BitVec 32 := Scalar.extui v448
  let c0_i32_264 : BitVec 32 := 0#32
  let v450 : BitVec 1 := Scalar.cmpi .ne v449 c0_i32_264
  v450

def k0_off49 (d0 : Dev nD) : Fin 1 → Nat :=
  let c2_i32_259 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v437 : BitVec 32 := Scalar.muli c2_i32_259 v388
  let c1_i32_260 : BitVec 32 := 1#32
  let v438 : BitVec 32 := Scalar.addi v437 c1_i32_260
  ![v438.toNat]
def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off52 (d0 : Dev nD) : Fin 3 → Nat :=
  let c2_i32_259 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v437 : BitVec 32 := Scalar.muli c2_i32_259 v388
  let c1_i32_260 : BitVec 32 := 1#32
  let v438 : BitVec 32 := Scalar.addi v437 c1_i32_260
  let c0_i32_610 : BitVec 32 := 0#32
  let c0_i32_611 : BitVec 32 := 0#32
  ![v438.toNat, 0, 0]
def k0_dev26 (d0 : Dev nD) : Nat :=
  let c0_i32_607 : BitVec 32 := 0#32
  let c2_i32_259 : BitVec 32 := 2#32
  let c4_i32_219 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v378 : BitVec 32 := Scalar.addi c4_i32_219 v19
  let c8_i32_220 : BitVec 32 := 8#32
  let c0_i32_221 : BitVec 32 := 0#32
  let v379 : BitVec 1 := Scalar.cmpi .eq c8_i32_220 c0_i32_221
  let c1_i32_222 : BitVec 32 := 1#32
  let v380 : BitVec 32 := Scalar.select v379 c1_i32_222 c8_i32_220
  let v381 : BitVec 32 := Scalar.remsi v378 v380
  let c0_i32_224 : BitVec 32 := 0#32
  let v383 : BitVec 1 := Scalar.cmpi .slt v381 c0_i32_224
  let c0_i32_225 : BitVec 32 := 0#32
  let v384 : BitVec 1 := Scalar.cmpi .slt v380 c0_i32_225
  let v385 : BitVec 1 := Scalar.xori v383 v384
  let c0_i32_223 : BitVec 32 := 0#32
  let v382 : BitVec 1 := Scalar.cmpi .ne v381 c0_i32_223
  let v386 : BitVec 1 := Scalar.andi v385 v382
  let v387 : BitVec 32 := Scalar.addi v381 v380
  let v388 : BitVec 32 := Scalar.select v386 v387 v381
  let v437 : BitVec 32 := Scalar.muli c2_i32_259 v388
  let c1_i32_260 : BitVec 32 := 1#32
  let v438 : BitVec 32 := Scalar.addi v437 c1_i32_260
  let c1_i32_606 : BitVec 32 := 1#32
  let v1091 : BitVec 32 := Scalar.muli v438 c1_i32_606
  let v1092 : BitVec 32 := Scalar.addi c0_i32_607 v1091
  v1092.toNat
def k0_cond37 (d0 : Dev nD) : BitVec 1 :=
  let c2_i32_299 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v496 : BitVec 32 := Scalar.muli c2_i32_299 v461
  let c0_i32_300 : BitVec 32 := 0#32
  let v497 : BitVec 32 := Scalar.addi v496 c0_i32_300
  let v504 : BitVec 1 := Scalar.cmpi .eq v497 v2
  let v505 : BitVec 32 := Scalar.extui v504
  let c0_i32_303 : BitVec 32 := 0#32
  let v506 : BitVec 1 := Scalar.cmpi .ne v505 c0_i32_303
  v506

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond38 (d0 : Dev nD) : BitVec 1 :=
  let c2_i32_299 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v496 : BitVec 32 := Scalar.muli c2_i32_299 v461
  let c0_i32_300 : BitVec 32 := 0#32
  let v497 : BitVec 32 := Scalar.addi v496 c0_i32_300
  let v507 : BitVec 1 := Scalar.cmpi .ne v497 v2
  let v508 : BitVec 32 := Scalar.extui v507
  let c0_i32_304 : BitVec 32 := 0#32
  let v509 : BitVec 1 := Scalar.cmpi .ne v508 c0_i32_304
  v509

def k0_off54 (d0 : Dev nD) : Fin 1 → Nat :=
  let c2_i32_299 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v496 : BitVec 32 := Scalar.muli c2_i32_299 v461
  let c0_i32_300 : BitVec 32 := 0#32
  let v497 : BitVec 32 := Scalar.addi v496 c0_i32_300
  ![v497.toNat]
def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off57 (d0 : Dev nD) : Fin 3 → Nat :=
  let c2_i32_299 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v496 : BitVec 32 := Scalar.muli c2_i32_299 v461
  let c0_i32_300 : BitVec 32 := 0#32
  let v497 : BitVec 32 := Scalar.addi v496 c0_i32_300
  let c0_i32_610 : BitVec 32 := 0#32
  let c0_i32_611 : BitVec 32 := 0#32
  ![v497.toNat, 0, 0]
def k0_dev27 (d0 : Dev nD) : Nat :=
  let c0_i32_607 : BitVec 32 := 0#32
  let c2_i32_299 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v496 : BitVec 32 := Scalar.muli c2_i32_299 v461
  let c0_i32_300 : BitVec 32 := 0#32
  let v497 : BitVec 32 := Scalar.addi v496 c0_i32_300
  let c1_i32_606 : BitVec 32 := 1#32
  let v1091 : BitVec 32 := Scalar.muli v497 c1_i32_606
  let v1092 : BitVec 32 := Scalar.addi c0_i32_607 v1091
  v1092.toNat
def k0_cond39 (d0 : Dev nD) : BitVec 1 :=
  let c2_i32_305 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v510 : BitVec 32 := Scalar.muli c2_i32_305 v461
  let c1_i32_306 : BitVec 32 := 1#32
  let v511 : BitVec 32 := Scalar.addi v510 c1_i32_306
  let v518 : BitVec 1 := Scalar.cmpi .eq v511 v2
  let v519 : BitVec 32 := Scalar.extui v518
  let c0_i32_309 : BitVec 32 := 0#32
  let v520 : BitVec 1 := Scalar.cmpi .ne v519 c0_i32_309
  v520

def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond40 (d0 : Dev nD) : BitVec 1 :=
  let c2_i32_305 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v510 : BitVec 32 := Scalar.muli c2_i32_305 v461
  let c1_i32_306 : BitVec 32 := 1#32
  let v511 : BitVec 32 := Scalar.addi v510 c1_i32_306
  let v521 : BitVec 1 := Scalar.cmpi .ne v511 v2
  let v522 : BitVec 32 := Scalar.extui v521
  let c0_i32_310 : BitVec 32 := 0#32
  let v523 : BitVec 1 := Scalar.cmpi .ne v522 c0_i32_310
  v523

def k0_off59 (d0 : Dev nD) : Fin 1 → Nat :=
  let c2_i32_305 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v510 : BitVec 32 := Scalar.muli c2_i32_305 v461
  let c1_i32_306 : BitVec 32 := 1#32
  let v511 : BitVec 32 := Scalar.addi v510 c1_i32_306
  ![v511.toNat]
def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off62 (d0 : Dev nD) : Fin 3 → Nat :=
  let c2_i32_305 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v510 : BitVec 32 := Scalar.muli c2_i32_305 v461
  let c1_i32_306 : BitVec 32 := 1#32
  let v511 : BitVec 32 := Scalar.addi v510 c1_i32_306
  let c0_i32_610 : BitVec 32 := 0#32
  let c0_i32_611 : BitVec 32 := 0#32
  ![v511.toNat, 0, 0]
def k0_dev28 (d0 : Dev nD) : Nat :=
  let c0_i32_607 : BitVec 32 := 0#32
  let c2_i32_305 : BitVec 32 := 2#32
  let c5_i32_265 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v451 : BitVec 32 := Scalar.addi c5_i32_265 v19
  let c8_i32_266 : BitVec 32 := 8#32
  let c0_i32_267 : BitVec 32 := 0#32
  let v452 : BitVec 1 := Scalar.cmpi .eq c8_i32_266 c0_i32_267
  let c1_i32_268 : BitVec 32 := 1#32
  let v453 : BitVec 32 := Scalar.select v452 c1_i32_268 c8_i32_266
  let v454 : BitVec 32 := Scalar.remsi v451 v453
  let c0_i32_270 : BitVec 32 := 0#32
  let v456 : BitVec 1 := Scalar.cmpi .slt v454 c0_i32_270
  let c0_i32_271 : BitVec 32 := 0#32
  let v457 : BitVec 1 := Scalar.cmpi .slt v453 c0_i32_271
  let v458 : BitVec 1 := Scalar.xori v456 v457
  let c0_i32_269 : BitVec 32 := 0#32
  let v455 : BitVec 1 := Scalar.cmpi .ne v454 c0_i32_269
  let v459 : BitVec 1 := Scalar.andi v458 v455
  let v460 : BitVec 32 := Scalar.addi v454 v453
  let v461 : BitVec 32 := Scalar.select v459 v460 v454
  let v510 : BitVec 32 := Scalar.muli c2_i32_305 v461
  let c1_i32_306 : BitVec 32 := 1#32
  let v511 : BitVec 32 := Scalar.addi v510 c1_i32_306
  let c1_i32_606 : BitVec 32 := 1#32
  let v1091 : BitVec 32 := Scalar.muli v511 c1_i32_606
  let v1092 : BitVec 32 := Scalar.addi c0_i32_607 v1091
  v1092.toNat
def k0_cond41 (d0 : Dev nD) : BitVec 1 :=
  let c2_i32_345 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v569 : BitVec 32 := Scalar.muli c2_i32_345 v534
  let c0_i32_346 : BitVec 32 := 0#32
  let v570 : BitVec 32 := Scalar.addi v569 c0_i32_346
  let v577 : BitVec 1 := Scalar.cmpi .eq v570 v2
  let v578 : BitVec 32 := Scalar.extui v577
  let c0_i32_349 : BitVec 32 := 0#32
  let v579 : BitVec 1 := Scalar.cmpi .ne v578 c0_i32_349
  v579

def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond42 (d0 : Dev nD) : BitVec 1 :=
  let c2_i32_345 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v569 : BitVec 32 := Scalar.muli c2_i32_345 v534
  let c0_i32_346 : BitVec 32 := 0#32
  let v570 : BitVec 32 := Scalar.addi v569 c0_i32_346
  let v580 : BitVec 1 := Scalar.cmpi .ne v570 v2
  let v581 : BitVec 32 := Scalar.extui v580
  let c0_i32_350 : BitVec 32 := 0#32
  let v582 : BitVec 1 := Scalar.cmpi .ne v581 c0_i32_350
  v582

def k0_off64 (d0 : Dev nD) : Fin 1 → Nat :=
  let c2_i32_345 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v569 : BitVec 32 := Scalar.muli c2_i32_345 v534
  let c0_i32_346 : BitVec 32 := 0#32
  let v570 : BitVec 32 := Scalar.addi v569 c0_i32_346
  ![v570.toNat]
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off67 (d0 : Dev nD) : Fin 3 → Nat :=
  let c2_i32_345 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v569 : BitVec 32 := Scalar.muli c2_i32_345 v534
  let c0_i32_346 : BitVec 32 := 0#32
  let v570 : BitVec 32 := Scalar.addi v569 c0_i32_346
  let c0_i32_610 : BitVec 32 := 0#32
  let c0_i32_611 : BitVec 32 := 0#32
  ![v570.toNat, 0, 0]
def k0_dev29 (d0 : Dev nD) : Nat :=
  let c0_i32_607 : BitVec 32 := 0#32
  let c2_i32_345 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v569 : BitVec 32 := Scalar.muli c2_i32_345 v534
  let c0_i32_346 : BitVec 32 := 0#32
  let v570 : BitVec 32 := Scalar.addi v569 c0_i32_346
  let c1_i32_606 : BitVec 32 := 1#32
  let v1091 : BitVec 32 := Scalar.muli v570 c1_i32_606
  let v1092 : BitVec 32 := Scalar.addi c0_i32_607 v1091
  v1092.toNat
def k0_cond43 (d0 : Dev nD) : BitVec 1 :=
  let c2_i32_351 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v583 : BitVec 32 := Scalar.muli c2_i32_351 v534
  let c1_i32_352 : BitVec 32 := 1#32
  let v584 : BitVec 32 := Scalar.addi v583 c1_i32_352
  let v591 : BitVec 1 := Scalar.cmpi .eq v584 v2
  let v592 : BitVec 32 := Scalar.extui v591
  let c0_i32_355 : BitVec 32 := 0#32
  let v593 : BitVec 1 := Scalar.cmpi .ne v592 c0_i32_355
  v593

def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond44 (d0 : Dev nD) : BitVec 1 :=
  let c2_i32_351 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v583 : BitVec 32 := Scalar.muli c2_i32_351 v534
  let c1_i32_352 : BitVec 32 := 1#32
  let v584 : BitVec 32 := Scalar.addi v583 c1_i32_352
  let v594 : BitVec 1 := Scalar.cmpi .ne v584 v2
  let v595 : BitVec 32 := Scalar.extui v594
  let c0_i32_356 : BitVec 32 := 0#32
  let v596 : BitVec 1 := Scalar.cmpi .ne v595 c0_i32_356
  v596

def k0_off69 (d0 : Dev nD) : Fin 1 → Nat :=
  let c2_i32_351 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v583 : BitVec 32 := Scalar.muli c2_i32_351 v534
  let c1_i32_352 : BitVec 32 := 1#32
  let v584 : BitVec 32 := Scalar.addi v583 c1_i32_352
  ![v584.toNat]
def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off72 (d0 : Dev nD) : Fin 3 → Nat :=
  let c2_i32_351 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v583 : BitVec 32 := Scalar.muli c2_i32_351 v534
  let c1_i32_352 : BitVec 32 := 1#32
  let v584 : BitVec 32 := Scalar.addi v583 c1_i32_352
  let c0_i32_610 : BitVec 32 := 0#32
  let c0_i32_611 : BitVec 32 := 0#32
  ![v584.toNat, 0, 0]
def k0_dev30 (d0 : Dev nD) : Nat :=
  let c0_i32_607 : BitVec 32 := 0#32
  let c2_i32_351 : BitVec 32 := 2#32
  let c6_i32_311 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v524 : BitVec 32 := Scalar.addi c6_i32_311 v19
  let c8_i32_312 : BitVec 32 := 8#32
  let c0_i32_313 : BitVec 32 := 0#32
  let v525 : BitVec 1 := Scalar.cmpi .eq c8_i32_312 c0_i32_313
  let c1_i32_314 : BitVec 32 := 1#32
  let v526 : BitVec 32 := Scalar.select v525 c1_i32_314 c8_i32_312
  let v527 : BitVec 32 := Scalar.remsi v524 v526
  let c0_i32_316 : BitVec 32 := 0#32
  let v529 : BitVec 1 := Scalar.cmpi .slt v527 c0_i32_316
  let c0_i32_317 : BitVec 32 := 0#32
  let v530 : BitVec 1 := Scalar.cmpi .slt v526 c0_i32_317
  let v531 : BitVec 1 := Scalar.xori v529 v530
  let c0_i32_315 : BitVec 32 := 0#32
  let v528 : BitVec 1 := Scalar.cmpi .ne v527 c0_i32_315
  let v532 : BitVec 1 := Scalar.andi v531 v528
  let v533 : BitVec 32 := Scalar.addi v527 v526
  let v534 : BitVec 32 := Scalar.select v532 v533 v527
  let v583 : BitVec 32 := Scalar.muli c2_i32_351 v534
  let c1_i32_352 : BitVec 32 := 1#32
  let v584 : BitVec 32 := Scalar.addi v583 c1_i32_352
  let c1_i32_606 : BitVec 32 := 1#32
  let v1091 : BitVec 32 := Scalar.muli v584 c1_i32_606
  let v1092 : BitVec 32 := Scalar.addi c0_i32_607 v1091
  v1092.toNat
def k0_cond45 (d0 : Dev nD) : BitVec 1 :=
  let c2_i32_378 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v625 : BitVec 32 := Scalar.muli c2_i32_378 v607
  let c0_i32_379 : BitVec 32 := 0#32
  let v626 : BitVec 32 := Scalar.addi v625 c0_i32_379
  let v633 : BitVec 1 := Scalar.cmpi .eq v626 v2
  let v634 : BitVec 32 := Scalar.extui v633
  let c0_i32_382 : BitVec 32 := 0#32
  let v635 : BitVec 1 := Scalar.cmpi .ne v634 c0_i32_382
  v635

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond46 (d0 : Dev nD) : BitVec 1 :=
  let c2_i32_378 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v625 : BitVec 32 := Scalar.muli c2_i32_378 v607
  let c0_i32_379 : BitVec 32 := 0#32
  let v626 : BitVec 32 := Scalar.addi v625 c0_i32_379
  let v636 : BitVec 1 := Scalar.cmpi .ne v626 v2
  let v637 : BitVec 32 := Scalar.extui v636
  let c0_i32_383 : BitVec 32 := 0#32
  let v638 : BitVec 1 := Scalar.cmpi .ne v637 c0_i32_383
  v638

def k0_off74 (d0 : Dev nD) : Fin 1 → Nat :=
  let c2_i32_378 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v625 : BitVec 32 := Scalar.muli c2_i32_378 v607
  let c0_i32_379 : BitVec 32 := 0#32
  let v626 : BitVec 32 := Scalar.addi v625 c0_i32_379
  ![v626.toNat]
def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off77 (d0 : Dev nD) : Fin 3 → Nat :=
  let c2_i32_378 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v625 : BitVec 32 := Scalar.muli c2_i32_378 v607
  let c0_i32_379 : BitVec 32 := 0#32
  let v626 : BitVec 32 := Scalar.addi v625 c0_i32_379
  let c0_i32_610 : BitVec 32 := 0#32
  let c0_i32_611 : BitVec 32 := 0#32
  ![v626.toNat, 0, 0]
def k0_dev31 (d0 : Dev nD) : Nat :=
  let c0_i32_607 : BitVec 32 := 0#32
  let c2_i32_378 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v625 : BitVec 32 := Scalar.muli c2_i32_378 v607
  let c0_i32_379 : BitVec 32 := 0#32
  let v626 : BitVec 32 := Scalar.addi v625 c0_i32_379
  let c1_i32_606 : BitVec 32 := 1#32
  let v1091 : BitVec 32 := Scalar.muli v626 c1_i32_606
  let v1092 : BitVec 32 := Scalar.addi c0_i32_607 v1091
  v1092.toNat
def k0_cond47 (d0 : Dev nD) : BitVec 1 :=
  let c2_i32_384 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v639 : BitVec 32 := Scalar.muli c2_i32_384 v607
  let c1_i32_385 : BitVec 32 := 1#32
  let v640 : BitVec 32 := Scalar.addi v639 c1_i32_385
  let v647 : BitVec 1 := Scalar.cmpi .eq v640 v2
  let v648 : BitVec 32 := Scalar.extui v647
  let c0_i32_388 : BitVec 32 := 0#32
  let v649 : BitVec 1 := Scalar.cmpi .ne v648 c0_i32_388
  v649

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1091 : Index := Scalar.indexCast v2
  let c0_606 : Index := 0#32
  let c0_607 : Index := 0#32
  ![v1091.toNat, 0, 0]
def k0_cond48 (d0 : Dev nD) : BitVec 1 :=
  let c2_i32_384 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v639 : BitVec 32 := Scalar.muli c2_i32_384 v607
  let c1_i32_385 : BitVec 32 := 1#32
  let v640 : BitVec 32 := Scalar.addi v639 c1_i32_385
  let v650 : BitVec 1 := Scalar.cmpi .ne v640 v2
  let v651 : BitVec 32 := Scalar.extui v650
  let c0_i32_389 : BitVec 32 := 0#32
  let v652 : BitVec 1 := Scalar.cmpi .ne v651 c0_i32_389
  v652

def k0_off79 (d0 : Dev nD) : Fin 1 → Nat :=
  let c2_i32_384 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v639 : BitVec 32 := Scalar.muli c2_i32_384 v607
  let c1_i32_385 : BitVec 32 := 1#32
  let v640 : BitVec 32 := Scalar.addi v639 c1_i32_385
  ![v640.toNat]
def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_608 : BitVec 32 := 0#32
  let c0_i32_609 : BitVec 32 := 0#32
  ![v2.toNat, 0, 0]
def k0_off82 (d0 : Dev nD) : Fin 3 → Nat :=
  let c2_i32_384 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v639 : BitVec 32 := Scalar.muli c2_i32_384 v607
  let c1_i32_385 : BitVec 32 := 1#32
  let v640 : BitVec 32 := Scalar.addi v639 c1_i32_385
  let c0_i32_610 : BitVec 32 := 0#32
  let c0_i32_611 : BitVec 32 := 0#32
  ![v640.toNat, 0, 0]
def k0_dev32 (d0 : Dev nD) : Nat :=
  let c0_i32_607 : BitVec 32 := 0#32
  let c2_i32_384 : BitVec 32 := 2#32
  let c7_i32_357 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v597 : BitVec 32 := Scalar.addi c7_i32_357 v19
  let c8_i32_358 : BitVec 32 := 8#32
  let c0_i32_359 : BitVec 32 := 0#32
  let v598 : BitVec 1 := Scalar.cmpi .eq c8_i32_358 c0_i32_359
  let c1_i32_360 : BitVec 32 := 1#32
  let v599 : BitVec 32 := Scalar.select v598 c1_i32_360 c8_i32_358
  let v600 : BitVec 32 := Scalar.remsi v597 v599
  let c0_i32_362 : BitVec 32 := 0#32
  let v602 : BitVec 1 := Scalar.cmpi .slt v600 c0_i32_362
  let c0_i32_363 : BitVec 32 := 0#32
  let v603 : BitVec 1 := Scalar.cmpi .slt v599 c0_i32_363
  let v604 : BitVec 1 := Scalar.xori v602 v603
  let c0_i32_361 : BitVec 32 := 0#32
  let v601 : BitVec 1 := Scalar.cmpi .ne v600 c0_i32_361
  let v605 : BitVec 1 := Scalar.andi v604 v601
  let v606 : BitVec 32 := Scalar.addi v600 v599
  let v607 : BitVec 32 := Scalar.select v605 v606 v600
  let v639 : BitVec 32 := Scalar.muli c2_i32_384 v607
  let c1_i32_385 : BitVec 32 := 1#32
  let v640 : BitVec 32 := Scalar.addi v639 c1_i32_385
  let c1_i32_606 : BitVec 32 := 1#32
  let v1091 : BitVec 32 := Scalar.muli v640 c1_i32_606
  let v1092 : BitVec 32 := Scalar.addi c0_i32_607 v1091
  v1092.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_422 : BitVec 32 := 0#32
  let v701 : BitVec 1 := Scalar.cmpi .ne v2 c0_i32_422
  let v702 : BitVec 32 := Scalar.extui v701
  let c0_i32_423 : BitVec 32 := 0#32
  let v703 : BitVec 1 := Scalar.cmpi .ne v702 c0_i32_423
  v703

def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev33 : Nat :=
  let c0_i32_609 : BitVec 32 := 0#32
  let c0_i32_607 : BitVec 32 := 0#32
  let c1_i32_608 : BitVec 32 := 1#32
  let v1091 : BitVec 32 := Scalar.muli c0_i32_607 c1_i32_608
  let v1092 : BitVec 32 := Scalar.addi c0_i32_609 v1091
  v1092.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_424 : BitVec 32 := 1#32
  let v704 : BitVec 1 := Scalar.cmpi .ne v2 c1_i32_424
  let v705 : BitVec 32 := Scalar.extui v704
  let c0_i32_425 : BitVec 32 := 0#32
  let v706 : BitVec 1 := Scalar.cmpi .ne v705 c0_i32_425
  v706

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev34 : Nat :=
  let c0_i32_609 : BitVec 32 := 0#32
  let c1_i32_607 : BitVec 32 := 1#32
  let c1_i32_608 : BitVec 32 := 1#32
  let v1091 : BitVec 32 := Scalar.muli c1_i32_607 c1_i32_608
  let v1092 : BitVec 32 := Scalar.addi c0_i32_609 v1091
  v1092.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_426 : BitVec 32 := 2#32
  let v707 : BitVec 1 := Scalar.cmpi .ne v2 c2_i32_426
  let v708 : BitVec 32 := Scalar.extui v707
  let c0_i32_427 : BitVec 32 := 0#32
  let v709 : BitVec 1 := Scalar.cmpi .ne v708 c0_i32_427
  v709

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev35 : Nat :=
  let c0_i32_609 : BitVec 32 := 0#32
  let c2_i32_607 : BitVec 32 := 2#32
  let c1_i32_608 : BitVec 32 := 1#32
  let v1091 : BitVec 32 := Scalar.muli c2_i32_607 c1_i32_608
  let v1092 : BitVec 32 := Scalar.addi c0_i32_609 v1091
  v1092.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_428 : BitVec 32 := 3#32
  let v710 : BitVec 1 := Scalar.cmpi .ne v2 c3_i32_428
  let v711 : BitVec 32 := Scalar.extui v710
  let c0_i32_429 : BitVec 32 := 0#32
  let v712 : BitVec 1 := Scalar.cmpi .ne v711 c0_i32_429
  v712

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev36 : Nat :=
  let c0_i32_609 : BitVec 32 := 0#32
  let c3_i32_607 : BitVec 32 := 3#32
  let c1_i32_608 : BitVec 32 := 1#32
  let v1091 : BitVec 32 := Scalar.muli c3_i32_607 c1_i32_608
  let v1092 : BitVec 32 := Scalar.addi c0_i32_609 v1091
  v1092.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_430 : BitVec 32 := 4#32
  let v713 : BitVec 1 := Scalar.cmpi .ne v2 c4_i32_430
  let v714 : BitVec 32 := Scalar.extui v713
  let c0_i32_431 : BitVec 32 := 0#32
  let v715 : BitVec 1 := Scalar.cmpi .ne v714 c0_i32_431
  v715

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev37 : Nat :=
  let c0_i32_609 : BitVec 32 := 0#32
  let c4_i32_607 : BitVec 32 := 4#32
  let c1_i32_608 : BitVec 32 := 1#32
  let v1091 : BitVec 32 := Scalar.muli c4_i32_607 c1_i32_608
  let v1092 : BitVec 32 := Scalar.addi c0_i32_609 v1091
  v1092.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_432 : BitVec 32 := 5#32
  let v716 : BitVec 1 := Scalar.cmpi .ne v2 c5_i32_432
  let v717 : BitVec 32 := Scalar.extui v716
  let c0_i32_433 : BitVec 32 := 0#32
  let v718 : BitVec 1 := Scalar.cmpi .ne v717 c0_i32_433
  v718

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev38 : Nat :=
  let c0_i32_609 : BitVec 32 := 0#32
  let c5_i32_607 : BitVec 32 := 5#32
  let c1_i32_608 : BitVec 32 := 1#32
  let v1091 : BitVec 32 := Scalar.muli c5_i32_607 c1_i32_608
  let v1092 : BitVec 32 := Scalar.addi c0_i32_609 v1091
  v1092.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_434 : BitVec 32 := 6#32
  let v719 : BitVec 1 := Scalar.cmpi .ne v2 c6_i32_434
  let v720 : BitVec 32 := Scalar.extui v719
  let c0_i32_435 : BitVec 32 := 0#32
  let v721 : BitVec 1 := Scalar.cmpi .ne v720 c0_i32_435
  v721

def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev39 : Nat :=
  let c0_i32_609 : BitVec 32 := 0#32
  let c6_i32_607 : BitVec 32 := 6#32
  let c1_i32_608 : BitVec 32 := 1#32
  let v1091 : BitVec 32 := Scalar.muli c6_i32_607 c1_i32_608
  let v1092 : BitVec 32 := Scalar.addi c0_i32_609 v1091
  v1092.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_436 : BitVec 32 := 7#32
  let v722 : BitVec 1 := Scalar.cmpi .ne v2 c7_i32_436
  let v723 : BitVec 32 := Scalar.extui v722
  let c0_i32_437 : BitVec 32 := 0#32
  let v724 : BitVec 1 := Scalar.cmpi .ne v723 c0_i32_437
  v724

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev40 : Nat :=
  let c0_i32_609 : BitVec 32 := 0#32
  let c7_i32_607 : BitVec 32 := 7#32
  let c1_i32_608 : BitVec 32 := 1#32
  let v1091 : BitVec 32 := Scalar.muli c7_i32_607 c1_i32_608
  let v1092 : BitVec 32 := Scalar.addi c0_i32_609 v1091
  v1092.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_438 : BitVec 32 := 8#32
  let v725 : BitVec 1 := Scalar.cmpi .ne v2 c8_i32_438
  let v726 : BitVec 32 := Scalar.extui v725
  let c0_i32_439 : BitVec 32 := 0#32
  let v727 : BitVec 1 := Scalar.cmpi .ne v726 c0_i32_439
  v727

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev41 : Nat :=
  let c0_i32_609 : BitVec 32 := 0#32
  let c8_i32_607 : BitVec 32 := 8#32
  let c1_i32_608 : BitVec 32 := 1#32
  let v1091 : BitVec 32 := Scalar.muli c8_i32_607 c1_i32_608
  let v1092 : BitVec 32 := Scalar.addi c0_i32_609 v1091
  v1092.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_440 : BitVec 32 := 9#32
  let v728 : BitVec 1 := Scalar.cmpi .ne v2 c9_i32_440
  let v729 : BitVec 32 := Scalar.extui v728
  let c0_i32_441 : BitVec 32 := 0#32
  let v730 : BitVec 1 := Scalar.cmpi .ne v729 c0_i32_441
  v730

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev42 : Nat :=
  let c0_i32_609 : BitVec 32 := 0#32
  let c9_i32_607 : BitVec 32 := 9#32
  let c1_i32_608 : BitVec 32 := 1#32
  let v1091 : BitVec 32 := Scalar.muli c9_i32_607 c1_i32_608
  let v1092 : BitVec 32 := Scalar.addi c0_i32_609 v1091
  v1092.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_442 : BitVec 32 := 10#32
  let v731 : BitVec 1 := Scalar.cmpi .ne v2 c10_i32_442
  let v732 : BitVec 32 := Scalar.extui v731
  let c0_i32_443 : BitVec 32 := 0#32
  let v733 : BitVec 1 := Scalar.cmpi .ne v732 c0_i32_443
  v733

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev43 : Nat :=
  let c0_i32_609 : BitVec 32 := 0#32
  let c10_i32_607 : BitVec 32 := 10#32
  let c1_i32_608 : BitVec 32 := 1#32
  let v1091 : BitVec 32 := Scalar.muli c10_i32_607 c1_i32_608
  let v1092 : BitVec 32 := Scalar.addi c0_i32_609 v1091
  v1092.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_444 : BitVec 32 := 11#32
  let v734 : BitVec 1 := Scalar.cmpi .ne v2 c11_i32_444
  let v735 : BitVec 32 := Scalar.extui v734
  let c0_i32_445 : BitVec 32 := 0#32
  let v736 : BitVec 1 := Scalar.cmpi .ne v735 c0_i32_445
  v736

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev44 : Nat :=
  let c0_i32_609 : BitVec 32 := 0#32
  let c11_i32_607 : BitVec 32 := 11#32
  let c1_i32_608 : BitVec 32 := 1#32
  let v1091 : BitVec 32 := Scalar.muli c11_i32_607 c1_i32_608
  let v1092 : BitVec 32 := Scalar.addi c0_i32_609 v1091
  v1092.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_446 : BitVec 32 := 12#32
  let v737 : BitVec 1 := Scalar.cmpi .ne v2 c12_i32_446
  let v738 : BitVec 32 := Scalar.extui v737
  let c0_i32_447 : BitVec 32 := 0#32
  let v739 : BitVec 1 := Scalar.cmpi .ne v738 c0_i32_447
  v739

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev45 : Nat :=
  let c0_i32_609 : BitVec 32 := 0#32
  let c12_i32_607 : BitVec 32 := 12#32
  let c1_i32_608 : BitVec 32 := 1#32
  let v1091 : BitVec 32 := Scalar.muli c12_i32_607 c1_i32_608
  let v1092 : BitVec 32 := Scalar.addi c0_i32_609 v1091
  v1092.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_448 : BitVec 32 := 13#32
  let v740 : BitVec 1 := Scalar.cmpi .ne v2 c13_i32_448
  let v741 : BitVec 32 := Scalar.extui v740
  let c0_i32_449 : BitVec 32 := 0#32
  let v742 : BitVec 1 := Scalar.cmpi .ne v741 c0_i32_449
  v742

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev46 : Nat :=
  let c0_i32_609 : BitVec 32 := 0#32
  let c13_i32_607 : BitVec 32 := 13#32
  let c1_i32_608 : BitVec 32 := 1#32
  let v1091 : BitVec 32 := Scalar.muli c13_i32_607 c1_i32_608
  let v1092 : BitVec 32 := Scalar.addi c0_i32_609 v1091
  v1092.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_450 : BitVec 32 := 14#32
  let v743 : BitVec 1 := Scalar.cmpi .ne v2 c14_i32_450
  let v744 : BitVec 32 := Scalar.extui v743
  let c0_i32_451 : BitVec 32 := 0#32
  let v745 : BitVec 1 := Scalar.cmpi .ne v744 c0_i32_451
  v745

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev47 : Nat :=
  let c0_i32_609 : BitVec 32 := 0#32
  let c14_i32_607 : BitVec 32 := 14#32
  let c1_i32_608 : BitVec 32 := 1#32
  let v1091 : BitVec 32 := Scalar.muli c14_i32_607 c1_i32_608
  let v1092 : BitVec 32 := Scalar.addi c0_i32_609 v1091
  v1092.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_452 : BitVec 32 := 15#32
  let v746 : BitVec 1 := Scalar.cmpi .ne v2 c15_i32_452
  let v747 : BitVec 32 := Scalar.extui v746
  let c0_i32_453 : BitVec 32 := 0#32
  let v748 : BitVec 1 := Scalar.cmpi .ne v747 c0_i32_453
  v748

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_610 : BitVec 32 := 0#32
  let c0_i32_611 : BitVec 32 := 0#32
  ![v2.toNat, 0, 0]
def k0_dev48 : Nat :=
  let c0_i32_609 : BitVec 32 := 0#32
  let c15_i32_607 : BitVec 32 := 15#32
  let c1_i32_608 : BitVec 32 := 1#32
  let v1091 : BitVec 32 := Scalar.muli c15_i32_607 c1_i32_608
  let v1092 : BitVec 32 := Scalar.addi c0_i32_609 v1091
  v1092.toNat
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.KernelIdeal.Base.lean ====
/-
The protocol of the exchange, stated once for every pair of devices.

Sixteen devices multiply a row block of `x` with `w`, send every peer one column block of the product,
tell every peer the largest entry of their product, and each device rounds the column block it received
against the scale the sixteen maxima give. The cells of the exchange are one barrier semaphore per device
and, per device and peer, four transfer semaphores (largest entry sent, received; block sent, received).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.ShareLeaves
public import Idealize.ShloMosaic.Lib.ViewIndex
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the launch library's copy, the exchange's cells, the counters of local transfers -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

/-! ## Blocks of the buffers -/

/-- Offset of block `s` of a three-axis buffer cut along its first axis. -/
abbrev off3 (s : Fin 16) : Fin 3 → Nat := ![s.val, 0, 0]

theorem blk_inb (s : Fin 16) : ∀ a, off3 s a + S1x256x128.size a ≤ S16x256x128.size a := by
  revert s; decide
theorem amx_inb (s : Fin 16) : ∀ a, off3 s a + S1x8x128.size a ≤ S16x8x128.size a := by
  revert s; decide
theorem w_inb (b : Fin 2) : ∀ a, (![b.val, 0, 0] : Fin 3 → Nat) a + S1x4096x256.size a ≤ S2x4096x256.size a := by
  revert b; decide
theorem row_inb (s : Fin 16) : ∀ a, (![256 * s.val, 0] : Fin 2 → Nat) a + S256x128.size a ≤ S4096x128.size a := by
  revert s; decide
theorem col_inb (u : Fin 8) : ∀ a, (![0, 256 * u.val] : Fin 2 → Nat) a + S4096x256.size a ≤ S4096x2048.size a := by
  revert u; decide

abbrev blkR (s : Fin 16) : Rect S16x256x128 := Rect.unit (s := S16x256x128) (off3 s) S1x256x128.size (blk_inb s)
abbrev amxR (s : Fin 16) : Rect S16x8x128 := Rect.unit (s := S16x8x128) (off3 s) S1x8x128.size (amx_inb s)
abbrev wR (b : Fin 2) : Rect S2x4096x256 := Rect.unit (s := S2x4096x256) ![b.val, 0, 0] S1x4096x256.size (w_inb b)
abbrev rowR (s : Fin 16) : Rect S4096x128 := Rect.unit (s := S4096x128) ![256 * s.val, 0] S256x128.size (row_inb s)
abbrev colR (u : Fin 8) : Rect S4096x2048 := Rect.unit (s := S4096x2048) ![0, 256 * u.val] S4096x256.size (col_inb u)

abbrev xM : Memref sig .tc .vmem S256x4096 .f32 := Memref.whole cc0_scratch0
abbrev wM : Memref sig .tc .vmem S2x4096x256 .f32 := Memref.whole cc0_scratch1
abbrev sndM : Memref sig .tc .vmem S16x256x128 .bf16 := Memref.whole cc0_scratch2
abbrev rcvM : Memref sig .tc .vmem S16x256x128 .bf16 := Memref.whole cc0_scratch3
abbrev stgM : Memref sig .tc .vmem S4096x128 .f32 := Memref.whole cc0_scratch4
abbrev amxM : Memref sig .tc .vmem S16x8x128 .f32 := Memref.whole cc0_scratch5
abbrev xH : Memref sig .tc .hbm S256x4096 .f32 := Memref.whole main_arg0
abbrev wH : Memref sig .tc .hbm S4096x2048 .f32 := Memref.whole main_arg1
abbrev oH : Memref sig .tc .hbm S4096x128 .f32 := Memref.whole main_v1

abbrev wSlot (b : Fin 2) : Memref sig .tc .vmem S1x4096x256 .f32 := wM.slice (wR b) (fun _ => rfl)
abbrev sndSlot (s : Fin 16) : Memref sig .tc .vmem S1x256x128 .bf16 := sndM.slice (blkR s) (fun _ => rfl)
abbrev rcvSlot (s : Fin 16) : Memref sig .tc .vmem S1x256x128 .bf16 := rcvM.slice (blkR s) (fun _ => rfl)
abbrev amxSlot (s : Fin 16) : Memref sig .tc .vmem S1x8x128 .f32 := amxM.slice (amxR s) (fun _ => rfl)
abbrev stgRow (s : Fin 16) : Memref sig .tc .vmem S256x128 .f32 := stgM.slice (rowR s) (fun _ => rfl)
abbrev wCol (u : Fin 8) : Memref sig .tc .hbm S4096x256 .f32 := wH.slice (colR u) (fun _ => rfl)

/-! ## Semaphores -/

abbrev barS : Sem sig := (SemArray.scalar (sig.barrier 0 rfl) : Sems sig S_).sem

theorem one_inb (s : Fin 16) : ∀ a, (![s.val] : Fin 1 → Nat) a + S1.size a ≤ S16.size a := by
  revert s; decide
/-- Semaphore `s` of an array of sixteen, as the kernel takes it. -/
abbrev semAt (A : DmaSems sig S16) (s : Fin 16) : DmaSem sig :=
  ((A.slice (Rect.unit (s := S16) ![s.val] S1.size (one_inb s))).squeeze S_ squeezes_S1_S_).sem
theorem two_inb (b : Fin 2) : ∀ a, (![b.val] : Fin 1 → Nat) a + S1.size a ≤ S2.size a := by
  revert b; decide
abbrev wSem (b : Fin 2) : DmaSem sig :=
  ((cc0_scratch7.slice (Rect.unit (s := S2) ![b.val] S1.size (two_inb b))).squeeze S_ squeezes_S1_S_).sem

/-- Semaphore `s` of channel `k`: 0 largest entry sent, 1 received, 2 block sent, 3 received. -/
def chSem (k : Fin 4) (s : Fin 16) : DmaSem sig := ⟨4 + 16 * k.val + s.val, by revert k s; decide⟩

/-- The channel and the peer a semaphore belongs to. -/
def decode : SemLoc sig → Option (Fin 4 × Fin 16)
  | .reg _ => none
  | .dma q => if 4 ≤ q.val then some (⟨(q.val - 4) / 16 % 4, Nat.mod_lt _ (by decide)⟩, ⟨(q.val - 4) % 16, Nat.mod_lt _ (by decide)⟩) else none

theorem decode_ch (k : Fin 4) (s : Fin 16) : decode (.dma (chSem k s)) = some (k, s) := by revert k s; decide

theorem sem_asnd (s : Fin 16) : semAt cc0_scratch9 s = chSem 0 s := by fin_cases s <;> rfl
theorem sem_arcv (s : Fin 16) : semAt cc0_scratch10 s = chSem 1 s := by fin_cases s <;> rfl
theorem sem_dsnd (s : Fin 16) : semAt cc0_scratch11 s = chSem 2 s := by fin_cases s <;> rfl
theorem sem_drcv (s : Fin 16) : semAt cc0_scratch12 s = chSem 3 s := by fin_cases s <;> rfl

/-- The cells of one device: its barrier cell and four per peer. -/
abbrev CIx : Type := Option (Fin 4 × Fin 16)
def csem : CIx → SemLoc sig
  | none => .reg barS
  | some (k, s) => .dma (chSem k s)
abbrev kcell (ci : Dev nD × CIx) : GSem nD τ sig := ((ci.1 : Thread nD τ), csem ci.2)
abbrev barCell (c : Dev nD) : GSem nD τ sig := ((c : Thread nD τ), .reg barS)
abbrev chCell (k : Fin 4) (c : Dev nD) (s : Fin 16) : GSem nD τ sig := ((c : Thread nD τ), .dma (chSem k s))

theorem csem_inj : Function.Injective csem := by
  rintro (_ | ⟨k, s⟩) (_ | ⟨k', s'⟩) h
  · rfl
  · cases h
  · cases h
  · have := congrArg decode h
    simp only [csem, decode_ch] at this
    rw [this]

/-- Credit of one block and of one row of largest entries. -/
abbrev ND : ℕ := ((rcvSlot 0).squeeze S256x128 squeezes_S1x256x128_S256x128).view.dmaCredit
abbrev NA : ℕ := ((amxSlot 0).squeeze S8x128 squeezes_S1x8x128_S8x128).view.dmaCredit
theorem ND_pos : 0 < ND := View.dmaCredit_pos _ (by decide)
theorem NA_pos : 0 < NA := View.dmaCredit_pos _ (by decide)

/-! ## Contents -/

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-- Device `c`'s row block of `x` and its copy of `w`. -/
def xC (c : Dev nD) : Vec F S256x4096 .f32 := m ((c : Thread nD τ).loc main_arg0)
def wC (c : Dev nD) : Vec F S4096x2048 .f32 := m ((c : Thread nD τ).loc main_arg1)
/-- Columns `256 u …` of `w` as they lie in a slot of the landing buffer. -/
def wB (c : Dev nD) (u : Fin 8) : Vec F S1x4096x256 .f32 :=
  fun i => wC m c ((colR u).emb (fun a => match a with | 0 => i 1 | 1 => i 2))
/-- The block of columns device `c` multiplies with in its chunk `t`. -/
def chunkIx (c : Dev nD) (t : Fin 8) : Fin 8 := ⟨(t.val + c.val / 2) % 8, Nat.mod_lt _ (by decide)⟩
/-- The peer half `j` of chunk `t` goes to. -/
def peerOf (c : Dev nD) (t : Fin 8) (j : Fin 2) : Fin 16 := ⟨2 * (chunkIx c t).val + j.val, by have := (chunkIx c t).isLt; omega⟩

/-- The rounded product block device `c` sends to `s`. -/
def sendV (c : Dev nD) (s : Fin 16) : Vec F S1x256x128 .bf16 :=
  if s.val % 2 = 0 then k0_pay14 (xC m c) (wB m c ⟨s.val / 2, by omega⟩) else k0_pay17 (xC m c) (wB m c ⟨s.val / 2, by omega⟩)
/-- The largest entry of the first `t + 1` chunks, in the order device `c` computes them. -/
def pmax (c : Dev nD) : ℕ → F .f32
  | 0 => k0_pay4 (k0_pay3 (xC m c) (wB m c (chunkIx c 0)))
  | t + 1 => k0_pay12 (pmax c t) (xC m c) (wB m c (chunkIx c (Fin.ofNat 8 (t + 1))))
/-- The row of largest entries device `c` sends. -/
def amaxV (c : Dev nD) : Vec F S1x8x128 .f32 := k0_pay67 (pmax m c 7)
/-- All sixteen rows. -/
def amaxAll : Vec F S16x8x128 .f32 := fun i => amaxV m (i 0) (fun a => match a with | 0 => ⟨0, Nat.one_pos⟩ | 1 => i 1 | 2 => i 2)
def scaleV : F .f32 := k0_pay83 (amaxAll m)
/-- The rows of the result device `c` computes from what `s` sent. -/
def outB (c : Dev nD) (s : Fin 16) : Vec F S256x128 .f32 := k0_pay87 (scaleV m) (sendV m s c)
/-- Device `c`'s result. -/
def outV (c : Dev nD) : Vec F S4096x128 .f32 :=
  fun i => outB m c ⟨(i 0).val / 256, by have h : (i 0).val < 4096 := (i 0).isLt; omega⟩
    (fun a => match a with | 0 => ⟨(i 0).val % 256, Nat.mod_lt _ (by decide)⟩ | 1 => i 1)

/-! ## Ownership of blocks -/

abbrev fs : PosShare TreeShare := fullShare
/-- Share `s` of sixteen. -/
abbrev leafS (s : Fin 16) : PosShare TreeShare := ShareLeaves.leaf 4 fullShare s

abbrev sndP (c : Dev nD) (s : Fin 16) (X : Vec F S1x256x128 .bf16) : sProp 𝕄 := owns (c : Thread nD τ) (sndSlot s) fullShare X
abbrev rcvP (c : Dev nD) (s : Fin 16) (X : Vec F S1x256x128 .bf16) : sProp 𝕄 := owns (c : Thread nD τ) (rcvSlot s) fullShare X
abbrev amxP (c : Dev nD) (s : Fin 16) (q : PosShare TreeShare) (X : Vec F S1x8x128 .f32) : sProp 𝕄 := owns (c : Thread nD τ) (amxSlot s) q X
def sndE (c : Dev nD) (s : Fin 16) : sProp 𝕄 := iprop(∃ X, sndP c s X)
def rcvE (c : Dev nD) (s : Fin 16) : sProp 𝕄 := iprop(∃ X, rcvP c s X)
def amxE (c : Dev nD) (s : Fin 16) : sProp 𝕄 := iprop(∃ X, amxP c s fullShare X)
instance sndE_storable (c : Dev nD) (s : Fin 16) : BI.Storable (upEmb : UEmb _ 𝕄) (sndE (F := F) c s) := by unfold sndE; infer_instance
instance rcvE_storable (c : Dev nD) (s : Fin 16) : BI.Storable (upEmb : UEmb _ 𝕄) (rcvE (F := F) c s) := by unfold rcvE; infer_instance
instance amxE_storable (c : Dev nD) (s : Fin 16) : BI.Storable (upEmb : UEmb _ 𝕄) (amxE (F := F) c s) := by unfold amxE; infer_instance

/-! ## The schedule: one round -/

/-- What `p`'s signal hands device `c`: the slots of `p` that `c` writes. -/
def barPay (c p : Dev nD) : sProp 𝕄 := iprop(rcvE p c ∗ amxE p c)
/-- What a transfer on channel `k` between `c` and `s` leaves at `c`. -/
def chPay (k : Fin 4) (c : Dev nD) (s : Fin 16) : sProp 𝕄 :=
  match k with
  | 0 => amxP c c (leafS s) (amaxV m c)
  | 1 => amxP c s fullShare (amaxV m s)
  | 2 => sndP c s (sendV m c s)
  | 3 => rcvP c s (sendV m s c)
instance barPay_storable (c p : Dev nD) : BI.Storable (upEmb : UEmb _ 𝕄) (barPay (F := F) c p) := by unfold barPay; infer_instance
instance chPay_storable (k : Fin 4) (c : Dev nD) (s : Fin 16) : BI.Storable (upEmb : UEmb _ 𝕄) (chPay (F := F) m k c s) := by
  unfold chPay; split <;> infer_instance

def chAmt (k : Fin 4) : ℕ := if k.val < 2 then NA else ND
theorem chAmt_pos (k : Fin 4) : 0 < chAmt k := by unfold chAmt; split; exacts [NA_pos, ND_pos]

def chDuties (c : Dev nD) : Option (Fin 4 × Fin 16) → Finset (Dev nD)
  | none => ∅
  | some (_, s) => if s = c then ∅ else {s}
def chAmount : Option (Fin 4 × Fin 16) → ℕ
  | none => 1
  | some (k, _) => chAmt k
def chPayload (c : Dev nD) : Option (Fin 4 × Fin 16) → sProp 𝕄
  | none => iprop(emp)
  | some (k, s) => chPay m k c s
instance chPayload_storable (c : Dev nD) (o) : BI.Storable (upEmb : UEmb _ 𝕄) (chPayload (F := F) m c o) := by
  unfold chPayload; split <;> infer_instance

def Rd : Rounds.Schedule (GSem nD τ sig) (Dev nD) 𝕄 where
  duties g r := if r = 0 ∧ g.1.2 = .tc then (if g.2 = .reg barS then Finset.univ.erase g.1.1 else chDuties g.1.1 (decode g.2)) else ∅
  unitless _ := False
  amount g _ _ := if g.2 = .reg barS then 1 else chAmount (decode g.2)
  payload g _ d := if g.2 = .reg barS then barPay g.1.1 d else chPayload m g.1.1 (decode g.2)
  amount_pos g _ _ _ := by
    by_cases h : g.2 = .reg barS
    · rw [if_pos h]; exact Nat.one_pos
    · rw [if_neg h]; unfold chAmount; split; exacts [Nat.one_pos, chAmt_pos _]

instance Rd_payload_storable (g : GSem nD τ sig) (r : ℕ) (d : Dev nD) :
    BI.Storable (upEmb : UEmb _ 𝕄) ((Rd (F := F) m).payload g r d) := by
  show BI.Storable upEmb (if g.2 = .reg barS then barPay g.1.1 d else chPayload m g.1.1 (decode g.2))
  split <;> infer_instance

section Sched
variable (c : Dev nD) (k : Fin 4) (s : Fin 16)
theorem ch_ne_bar : (SemLoc.dma (chSem k s) : SemLoc sig) ≠ .reg barS := fun h => by cases h

omit [FloatOps F] in
theorem duties_bar [FloatOps F] : (Rd (F := F) m).duties (barCell c) 0 = Finset.univ.erase c := by
  dsimp only [Rd]; rw [if_pos ⟨rfl, rfl⟩]; exact if_pos rfl
theorem duties_ch : (Rd (F := F) m).duties (chCell k c s) 0 = if s = c then ∅ else {s} := by
  dsimp only [Rd]; rw [if_pos ⟨rfl, rfl⟩, if_neg (ch_ne_bar k s)]; show chDuties c (decode (.dma (chSem k s))) = _
  rw [decode_ch]; rfl
theorem duties_later (g : GSem nD τ sig) : ∀ r, 1 ≤ r → (Rd (F := F) m).duties g r = ∅ :=
  fun r hr => by dsimp only [Rd]; rw [if_neg fun h => by omega]
theorem duties_diag : ∀ r, 0 ≤ r → (Rd (F := F) m).duties (chCell k c c) r = ∅ := fun r _ => by
  rcases Nat.eq_zero_or_pos r with rfl | h
  · rw [duties_ch, if_pos rfl]
  · exact duties_later m _ r h
theorem amount_bar (d : Dev nD) : (Rd (F := F) m).amount (barCell c) 0 d = 1 := by dsimp only [Rd]; exact if_pos rfl
theorem amount_ch (d : Dev nD) : (Rd (F := F) m).amount (chCell k c s) 0 d = chAmt k := by
  dsimp only [Rd]; rw [if_neg (ch_ne_bar k s)]; show chAmount (decode (.dma (chSem k s))) = _; rw [decode_ch]; rfl
theorem payload_bar (d : Dev nD) : (Rd (F := F) m).payload (barCell c) 0 d = barPay c d := by dsimp only [Rd]; exact if_pos rfl
theorem payload_ch (d : Dev nD) : (Rd (F := F) m).payload (chCell k c s) 0 d = chPay m k c s := by
  dsimp only [Rd]; rw [if_neg (ch_ne_bar k s)]; show chPayload m c (decode (.dma (chSem k s))) = _; rw [decode_ch]; rfl
theorem expect_bar : (Rd (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ]
  rfl
theorem expect_ch (h : s ≠ c) : (Rd (F := F) m).expect (chCell k c s) 0 = chAmt k := by
  unfold Schedule.expect Schedule.amountOf; rw [duties_ch, if_neg h, Finset.sum_singleton, amount_ch]
theorem rest_ch (h : s ≠ c) : bigSep ((Rd (F := F) m).duties (chCell k c s) 0 \ ∅) (fun d => (Rd (F := F) m).payload (chCell k c s) 0 d) = chPay m k c s := by
  rw [Finset.sdiff_empty, duties_ch, if_neg h, bigSep_singleton, payload_ch]
theorem rest_bar : bigSep ((Rd (F := F) m).duties (barCell c) 0 \ ∅) (fun d => (Rd (F := F) m).payload (barCell c) 0 d)
    = bigSep (Finset.univ.erase c) (fun d => barPay (F := F) c d) := by
  rw [Finset.sdiff_empty, duties_bar]; exact bigSep_congr fun d _ => payload_bar m c d
end Sched

/-! ## Levels -/

def L (g : GSem nD τ sig) : Finset Unit := if g.1.2 = .tc then {()} else ∅
def chLv : Option (Fin 4 × Fin 16) → ℕ
  | none => 0
  | some (k, _) => if k.val % 2 = 1 then 2 else 0
/-- Barrier cells at 1, the cells a peer raises at 2, everything else at 0. -/
def lv (g : GSem nD τ sig) (_ : Unit) : ℕ := if g.2 = .reg barS then 1 else chLv (decode g.2)
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_ch (k : Fin 4) (c : Dev nD) (s : Fin 16) : lv (chCell k c s) () = if k.val % 2 = 1 then 2 else 0 := by
  unfold lv; rw [if_neg (ch_ne_bar k s)]; show chLv (decode (.dma (chSem k s))) = _; rw [decode_ch]; rfl

/-! ## Every cell's invariant, and that its round is reached: what all devices share -/

abbrev AllC : Type := Dev nD × CIx
def records (K : AllC → ℕ) : sProp 𝕄 :=
  iprop((bigSep (Finset.univ : Finset AllC) fun g => cellInv ER (Rd m) (K g) (kcell g)) ∗ (bigSep (Finset.univ : Finset AllC) fun g => reached ER (kcell g) 0))
instance records_persistent (K : AllC → ℕ) : BI.Persistent (records (F := F) m K) := by unfold records; infer_instance
theorem records_inv (K : AllC → ℕ) (g : AllC) : records (F := F) m K ⊢ cellInv ER (Rd m) (K g) (kcell g) := by
  unfold records; exact sep_elim_left.trans (bigSep_elim (Finset.mem_univ g))
theorem records_reached (K : AllC → ℕ) (g : AllC) : records (F := F) m K ⊢ reached ER (kcell g) 0 := by
  unfold records; exact sep_elim_right.trans (bigSep_elim (Finset.mem_univ g))
theorem inv_bar (K : AllC → ℕ) (c : Dev nD) : records (F := F) m K ⊢ cellInv ER (Rd m) (K (c, none)) (barCell c) := records_inv m K (c, none)
theorem inv_ch (K : AllC → ℕ) (k : Fin 4) (c : Dev nD) (s : Fin 16) :
    records (F := F) m K ⊢ cellInv ER (Rd m) (K (c, some (k, s))) (chCell k c s) := records_inv m K (c, some (k, s))
theorem reached_bar (K : AllC → ℕ) (c : Dev nD) : records (F := F) m K ⊢ reached ER (barCell c) 0 := records_reached m K (c, none)
theorem reached_ch (K : AllC → ℕ) (k : Fin 4) (c : Dev nD) (s : Fin 16) : records (F := F) m K ⊢ reached ER (chCell k c s) 0 :=
  records_reached m K (c, some (k, s))

end Cert.KernelIdeal.Hand
end
-- ==== Proof.KernelIdeal.State.lean ====
/-
What a device holds between two statements of its body, peer by peer, as one of twelve stages, and the
step from a stage to the next each statement of the body makes.
-/
module

public import proofs.«01_k».proof.Proof.KernelIdeal.Base

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Stages -/

abbrev tok (g : GSem nD τ sig) (d : Dev nD) : sProp 𝕄 := dutyTok ER g 0 d
abbrev at0 (g : GSem nD τ sig) : sProp 𝕄 := atPos ER g 0 ∅ 0
abbrev at1 (g : GSem nD τ sig) : sProp 𝕄 := atPos ER g 1 ∅ 0
abbrev crd (g : GSem nD τ sig) (n : ℕ) : sProp 𝕄 := cred (tallyAt g () n)

/-- The ghost state of one transfer each way between `c` and `s`, on the channel pair `k` (sent), `k'` (received),
    before and after `c`'s transfer is issued, and after both waits. -/
def Ch0 (k k' : Fin 4) (c : Dev nD) (s : Fin 16) : sProp 𝕄 :=
  iprop(tok (chCell k c s) s ∗ tok (chCell k' s c) c ∗ at0 (chCell k c s) ∗ at0 (chCell k' c s) ∗ crd (chCell k' c s) (chAmt k'))
def Ch1 (k k' : Fin 4) (c : Dev nD) (s : Fin 16) : sProp 𝕄 :=
  iprop(crd (chCell k c s) (chAmt k) ∗ at0 (chCell k c s) ∗ at0 (chCell k' c s) ∗ crd (chCell k' c s) (chAmt k'))
def Ch2 (k k' : Fin 4) (c : Dev nD) (s : Fin 16) : sProp 𝕄 := iprop(at1 (chCell k c s) ∗ at1 (chCell k' c s))

/-- What device `c` holds for a peer `s` at stage `n`. -/
def Peer (c : Dev nD) (s : Fin 16) : ℕ → sProp 𝕄
  | 0 => iprop(tok (barCell s) c ∗ (rcvE c s ∗ amxE c s) ∗ sndE c s ∗ Ch0 2 3 c s ∗ Ch0 0 1 c s)
  | 1 => iprop(sndE c s ∗ Ch0 2 3 c s ∗ Ch0 0 1 c s)
  | 2 => iprop((rcvE s c ∗ amxE s c) ∗ sndE c s ∗ Ch0 2 3 c s ∗ Ch0 0 1 c s)
  | 3 | 4 => iprop((rcvE s c ∗ amxE s c) ∗ sndP c s (sendV m c s) ∗ Ch0 2 3 c s ∗ Ch0 0 1 c s)
  | 5 | 6 => iprop(amxE s c ∗ Ch1 2 3 c s ∗ Ch0 0 1 c s)
  | 7 => iprop(amxP c c (leafS s) (amaxV m c) ∗ amxE s c ∗ Ch1 2 3 c s ∗ Ch0 0 1 c s)
  | 8 => iprop(Ch1 2 3 c s ∗ Ch1 0 1 c s)
  | 9 => iprop((amxP c s fullShare (amaxV m s) ∗ amxP c c (leafS s) (amaxV m c)) ∗ Ch1 2 3 c s ∗ Ch2 0 1 c s)
  | 10 => iprop(Ch1 2 3 c s ∗ Ch2 0 1 c s)
  | _ => iprop((rcvP c s (sendV m s c) ∗ sndP c s (sendV m c s)) ∗ Ch2 2 3 c s ∗ Ch2 0 1 c s)

/-- What it holds of its own slot: the four cells between `c` and itself are never used. -/
def Own (c : Dev nD) : ℕ → sProp 𝕄
  | 0 | 1 | 2 => iprop(sndE c c ∗ rcvE c c ∗ amxE c c)
  | 3 => iprop(sndP c c (sendV m c c) ∗ rcvE c c ∗ amxE c c)
  | 4 | 5 => iprop(sndP c c (sendV m c c) ∗ rcvP c c (sendV m c c) ∗ amxE c c)
  | 6 => iprop(sndP c c (sendV m c c) ∗ rcvP c c (sendV m c c) ∗ amxP c c fullShare (amaxV m c))
  | 7 | 8 | 9 => iprop(sndP c c (sendV m c c) ∗ rcvP c c (sendV m c c) ∗ amxP c c (leafS c) (amaxV m c))
  | _ => iprop(sndP c c (sendV m c c) ∗ rcvP c c (sendV m c c))

def Slot (c : Dev nD) (s : Fin 16) (n : ℕ) : sProp 𝕄 := if s = c then Own m c n else Peer m c s n
theorem Slot_own (c : Dev nD) (n : ℕ) : Slot m c c n = Own m c n := if_pos rfl
theorem Slot_peer {c : Dev nD} {s : Fin 16} (h : s ≠ c) (n : ℕ) : Slot m c s n = Peer m c s n := if_neg h

def St (c : Dev nD) (σ : Fin 16 → ℕ) : sProp 𝕄 := bigSep Finset.univ fun s => Slot m c s (σ s)

/-- What device `c` still owes peer `s` at stage `n`: a unit on its barrier cell, a block, a row of largest entries. -/
def debt (c : Dev nD) (s : Fin 16) (n : ℕ) : CellTallies nD τ sig Unit :=
  if s = c then 0 else
    ((if n < 8 then tallyAt (chCell 1 s c) () (chAmt 1) else 0) + (if n < 5 then tallyAt (chCell 3 s c) () (chAmt 3) else 0))
      + (if n < 1 then tallyAt (barCell s) () 1 else 0)
def Debt (c : Dev nD) (σ : Fin 16 → ℕ) : CellTallies nD τ sig Unit := ∑ s, debt c s (σ s)

theorem Debt_step {c : Dev nD} {σ σ' : Fin 16 → ℕ} (s : Fin 16) (hσ : ∀ j, j ≠ s → σ' j = σ j) {T : CellTallies nD τ sig Unit}
    (h : debt c s (σ s) = debt c s (σ' s) + T) : Debt c σ = Debt c σ' + T := by
  unfold Debt
  have e : ∑ j ∈ Finset.univ.erase s, debt c j (σ j) = ∑ j ∈ Finset.univ.erase s, debt c j (σ' j) :=
    Finset.sum_congr rfl fun j hj => by rw [hσ j (Finset.ne_of_mem_erase hj)]
  rw [← Finset.add_sum_erase Finset.univ (fun j => debt c j (σ j)) (Finset.mem_univ s),
    ← Finset.add_sum_erase Finset.univ (fun j => debt c j (σ' j)) (Finset.mem_univ s), e, h]
  exact add_right_comm _ _ _
theorem Debt_zero {c : Dev nD} {σ : Fin 16 → ℕ} (h : ∀ s, 8 ≤ σ s) : Debt c σ = 0 :=
  Finset.sum_eq_zero fun s _ => by
    have h8 := h s
    unfold debt
    rw [if_neg (show ¬ σ s < 8 by omega), if_neg (show ¬ σ s < 5 by omega), if_neg (show ¬ σ s < 1 by omega), add_zero, add_zero]
    split <;> rfl

/-- What is owed at a cell: only barrier cells of peers not yet signalled and cells a peer waits at. -/
theorem Debt_pos {c : Dev nD} {σ : Fin 16 → ℕ} {g : GSem nD τ sig} {u : Unit} (h : 0 < Debt c σ g u) :
    ∃ s, s ≠ c ∧ (g = chCell 1 s c ∨ g = chCell 3 s c ∨ (g = barCell s ∧ σ s < 1)) := by
  unfold Debt at h
  rw [Finset.sum_apply, Finsupp.finset_sum_apply] at h
  obtain ⟨s, -, hs⟩ := Finset.exists_ne_zero_of_sum_ne_zero (Nat.pos_iff_ne_zero.mp h)
  refine ⟨s, ?_⟩
  unfold debt at hs
  by_cases hc : s = c
  · rw [if_pos hc] at hs; exact absurd rfl hs
  refine ⟨hc, ?_⟩
  by_contra hn
  rw [not_or, not_or, not_and] at hn
  apply hs
  rw [if_neg hc, Pi.add_apply, Finsupp.add_apply, Pi.add_apply, Finsupp.add_apply]
  have h1 : (if σ s < 8 then tallyAt (chCell 1 s c) () (chAmt 1) else (0 : CellTallies nD τ sig Unit)) g u = 0 := by
    split
    · rw [tallyAt_apply, if_neg (fun h' => hn.1 h'.1)]
    · rfl
  have h2 : (if σ s < 5 then tallyAt (chCell 3 s c) () (chAmt 3) else (0 : CellTallies nD τ sig Unit)) g u = 0 := by
    split
    · rw [tallyAt_apply, if_neg (fun h' => hn.2.1 h'.1)]
    · rfl
  have h3 : (if σ s < 1 then tallyAt (barCell s) () 1 else (0 : CellTallies nD τ sig Unit)) g u = 0 := by
    split
    · next h1 => rw [tallyAt_apply, if_neg (fun h' => hn.2.2 h'.1 h1)]
    · rfl
  rw [h1, h2, h3]; rfl

/-- A wait at a cell below everything owed. -/
theorem mayWait_low (c : Dev nD) (sm : SemLoc sig) (σ : Fin 16 → ℕ) (b : ℕ) (hb : lv ((c : Thread nD τ), sm) () ≤ b)
    (h1 : b = 0 ∨ (b = 1 ∧ ∀ s, 1 ≤ σ s)) : (levAts L lv : sProp 𝕄) ⊢ MayWait (c : Thread nD τ) sm () (Debt c σ) :=
  MayOwe.of_cut (L := L) (lev := lv) b (fun p hp => by rw [Finset.mem_singleton.mp hp, L_tc]; exact Finset.mem_singleton_self _)
    (fun g u hg => by obtain ⟨s, -, rfl | rfl | ⟨rfl, -⟩⟩ := Debt_pos hg <;> exact Finset.mem_singleton_self _)
    (fun p hp => by rw [Finset.mem_singleton.mp hp]; exact hb)
    (fun g u hg => by
      obtain ⟨s, -, rfl | rfl | ⟨rfl, h⟩⟩ := Debt_pos hg
      · rw [lv_ch]; show b < 2; omega
      · rw [lv_ch]; show b < 2; omega
      · rw [lv_bar]; rcases h1 with h1 | ⟨-, h1⟩
        · omega
        · have := h1 s; omega)

/-- The whole state at stages `σ`. -/
def Full (K : AllC → ℕ) (c : Dev nD) (σ : Fin 16 → ℕ) : sProp 𝕄 :=
  iprop(records m K ∗ levAts L lv ∗ (∃ W, owes (c : Thread nD τ) (Debt c σ) W) ∗ St m c σ)

variable (K : AllC → ℕ)

abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem lift_bind {α β : Type} (e : TpuEff nD τ sig (Elt F) Λ₀ .tc α) (k : α → Prog (TpuEff nD τ sig (Elt F) Λ₀ .tc) β) :
    (Prog.lift e >>= k) = .op e k := rfl
theorem sig_bind {β : Type} (d : Dev nD) (sm : Sem sig) (k : PUnit → Prog (TpuEff nD τ sig (Elt F) Λ₀ .tc) β) :
    (semSignalWord d sm 1#32 >>= k) = .op (.semSignal (d : Thread nD τ) sm ((1 : ℕ) : ℤ)) k := rfl
theorem semWait_bind {β : Type} (sm : Sem sig) (k : PUnit → Prog (TpuEff nD τ sig (Elt F) Λ₀ .tc) β) :
    (semWaitWord sm 15#32 >>= k) = .op (.semWait sm ((15 : ℕ) : ℤ)) k := rfl

/-- One slot of the state taken out, to be put back at its next stage. -/
theorem St_step {c : Dev nD} {σ σ' : Fin 16 → ℕ} (s : Fin 16) {n n' : ℕ} (h0 : σ s = n) (h1 : σ' s = n') (hσ : ∀ j, j ≠ s → σ' j = σ j) :
    St m c σ ⊢ iprop(Slot m c s n ∗ (Slot m c s n' -∗ St m c σ')) := by
  subst h0 h1; unfold St
  exact bigSep_univ_update (Φ := fun s => Slot m c s (σ s)) (Ψ := fun s => Slot m c s (σ' s)) s fun j hj => by rw [hσ j hj]

theorem St_peer {c : Dev nD} {σ σ' : Fin 16 → ℕ} (s : Fin 16) (hs : s ≠ c) {n n' : ℕ} (h0 : σ s = n) (h1 : σ' s = n') (hσ : ∀ j, j ≠ s → σ' j = σ j) :
    St m c σ ⊢ iprop(Peer m c s n ∗ (Peer m c s n' -∗ St m c σ')) := by
  rw [← Slot_peer m hs, ← Slot_peer m hs]; exact St_step m s h0 h1 hσ
theorem St_own {c : Dev nD} {σ σ' : Fin 16 → ℕ} {n n' : ℕ} (h0 : σ c = n) (h1 : σ' c = n') (hσ : ∀ j, j ≠ c → σ' j = σ j) :
    St m c σ ⊢ iprop(Own m c n ∗ (Own m c n' -∗ St m c σ')) := by
  rw [← Slot_own m, ← Slot_own m]; exact St_step m c h0 h1 hσ

/-- A step that changes nothing for `s`. -/
theorem St_skip {c : Dev nD} {σ σ' : Fin 16 → ℕ} (s : Fin 16) {n n' : ℕ} (h0 : σ s = n) (h1 : σ' s = n') (hσ : ∀ j, j ≠ s → σ' j = σ j)
    (h : Slot m c s n = Slot m c s n') (hd : debt c s n = debt c s n') : Full m K c σ ⊢ Full m K c σ' := by
  have e : Debt c σ = Debt c σ' := by
    rw [Debt_step (T := 0) s hσ (by rw [h0, h1, add_zero, hd]), add_zero]
  unfold Full
  rw [e]
  iintro ⟨#Hr, #Hl, Ho, HS⟩
  isplitr; · iexact Hr
  isplitr; · iexact Hl
  isplitl [Ho]; · iexact Ho
  ihave H := (St_step m s h0 h1 hσ) $$ HS
  icases H with ⟨Hs, Hc⟩
  iapply Hc
  iapply (Entails.of_eq h) $$ Hs

theorem debt_own (c : Dev nD) (n : ℕ) : debt c c n = 0 := if_pos rfl
theorem debt_congr (c : Dev nD) (s : Fin 16) {n n' : ℕ} (h8 : n < 8 ↔ n' < 8) (h5 : n < 5 ↔ n' < 5) (h1 : n < 1 ↔ n' < 1) : debt c s n = debt c s n' := by
  unfold debt; simp only [h8, h5, h1]

/-! ## The barrier -/

/-- The signal to peer `s`, if `s` is not the device itself. -/
theorem step_sig {c : Dev nD} {σ σ' : Fin 16 → ℕ} (s : Fin 16) {cond : Prop} [Decidable cond] {dv : cond → Dev nD}
    (hc : cond ↔ s ≠ c) (hdv : ∀ h, dv h = s) (h0 : σ s = 0) (h1 : σ' s = 1) (hσ : ∀ j, j ≠ s → σ' j = σ j)
    {α : Type} {R : Prog (TpuEff nD τ sig (Elt F) Λ₀ .tc) α} {Q : α → sProp 𝕄} :
    Full m K c σ ⊢ iprop((Full m K c σ' -∗ WPc c R Q)
      -∗ WPc c (dite cond (fun h => (semSignalWord (dv h) barS 1#32 >>= fun _ => R)) (fun _ => R)) Q) := by
  by_cases h : cond
  · rw [dif_pos h]
    have hs := hc.mp h
    rw [hdv h, sig_bind]
    have E := St_peer m s hs h0 h1 hσ
    simp only [Peer] at E
    unfold Full
    iintro ⟨#Hr, #Hl, ⟨%W, Ho⟩, HS⟩ Hk
    ihave H := E $$ HS
    icases H with ⟨Hs, Hc⟩
    icases Hs with ⟨Ht, Hp, Hrest⟩
    ihave HI := (inv_bar m K s) $$ Hr
    ihave HR := (reached_bar m K s) $$ Hr
    iapply (Rounds.wp_signal 𝒱₀ ER (Rd m) (c : Thread nD τ) none (dst := ((s : Dev nD) : Thread nD τ)) (κ := K (s, none))
      (d := c) (by show c ∈ (Rd (F := F) m).duties (barCell s) 0; rw [duties_bar]; exact Finset.mem_erase.mpr ⟨Ne.symm hs, Finset.mem_univ _⟩)
      (amount_bar m s c) () (Debt c σ')
      (Debt_step s hσ (by rw [h0, h1]; unfold debt; rw [if_neg hs, if_neg hs]; simp; rfl))) $$ [HI Ho Ht Hp HR]
    · isplitl [HI]; · iexact HI
      isplitl [Ho]; · iexact Ho
      isplitl [Ht]; · iexact Ht
      isplitl [Hp]
      · iapply (Entails.of_eq (payload_bar m s c).symm)
        unfold barPay; iexact Hp
      iexact HR
    iintro Ho
    iapply Hk
    isplitr; · iexact Hr
    isplitr; · iexact Hl
    isplitl [Ho]; · iexists W; iexact Ho
    iapply Hc
    iexact Hrest
  · rw [dif_neg h]
    have hs : s = c := Classical.not_not.mp fun h' => h (hc.mpr h')
    subst hs
    iintro H Hk
    iapply Hk
    iapply (St_skip m K s h0 h1 hσ (by rw [Slot_own, Slot_own]; rfl) (by rw [debt_own, debt_own])) $$ H

end Cert.KernelIdeal.Hand
end
-- ==== Proof.KernelIdeal.Steps.lean ====
/-
The steps of the body, each as a rule that takes the state before a statement to the state after it.
-/
module

public import proofs.«01_k».proof.Proof.KernelIdeal.State

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-- A rule used under a frame. -/
theorem stepA {A A' P W W' : sProp 𝕄} (h : A ⊢ iprop((A' -∗ W) -∗ W')) (hk : iprop(A' ∗ P) ⊢ W) : iprop(A ∗ P) ⊢ W' := by
  iintro ⟨HA, HP⟩
  iapply h $$ HA
  iintro HA
  iapply hk
  isplitl [HA]; · iexact HA
  iexact HP
/-- A change of state that runs nothing. -/
theorem stepE {A A' P W : sProp 𝕄} (h : A ⊢ A') (hk : iprop(A' ∗ P) ⊢ W) : iprop(A ∗ P) ⊢ W :=
  (sep_mono_left h).trans hk

/-! ## Loads and stores through a slot that is owned -/

theorem wp_own_load {c : Dev nD} {S : Shape} {e : EltTy} {M : Memref sig .tc .vmem S e} {r : Rect S} {hr : ∀ a, r.stride a = 1}
    {hl : M.view.LoadsAt r.toLoadRect} {α : Type} {k : (r.shape.Idx → Elt F e) → Prog (TpuEff nD τ sig (Elt F) Λ₀ .tc) α} {Q : α → sProp 𝕄}
    {q : PosShare TreeShare} {X : r.shape.Idx → Elt F e} :
    owns (c : Thread nD τ) (M.slice r hr) q X ⊢ iprop((owns (c : Thread nD τ) (M.slice r hr) q X -∗ WPc c (k X) Q)
      -∗ WPc c (.op (.load (cs := .vmem) M r.toLoadRect hl) k) Q) := by
  unfold owns
  iintro ⟨%f, %hf, H⟩ Hk
  subst hf
  iapply (wp_load_rect 𝒱₀ (c : Thread nD τ) none Set.univ (m := M) (r := r) (cs := .vmem) (Finset.Subset.refl _)) $$ H
  iintro H
  iapply Hk
  iexists f
  isplitr
  · ipureintro; rfl
  iexact H

theorem wp_own_store {c : Dev nD} {S : Shape} {e : EltTy} {M : Memref sig .tc .vmem S e} {r : Rect S} {hr : ∀ a, r.stride a = 1}
    {w : r.shape.Idx → Elt F e} {hx : (M.access r).Stores Finset.univ} {hm} {α : Type} {k : PUnit → Prog (TpuEff nD τ sig (Elt F) Λ₀ .tc) α} {Q : α → sProp 𝕄}
    {X : r.shape.Idx → Elt F e} :
    owns (c : Thread nD τ) (M.slice r hr) fullShare X ⊢ iprop((owns (c : Thread nD τ) (M.slice r hr) fullShare w -∗ WPc c (k ⟨⟩) Q)
      -∗ WPc c (.op (.store (cs := .vmem) M r w Finset.univ hx hm) k) Q) := by
  unfold owns
  iintro ⟨%f, %hf, H⟩ Hk
  iapply (wp_store 𝒱₀ (c : Thread nD τ) none Set.univ (m := M) (r := r) (Mk := Finset.univ) (cs := .vmem) (f := f) (w := w)
    (S := (M.slice r hr).view.set) (Finset.Subset.refl _)) $$ H
  iintro H
  iapply Hk
  iexists ((M.access r).write (Elt F) f w Finset.univ)
  isplitr
  · ipureintro; exact View.read_write_univ (v := M.access r) f w
  iexact H

theorem owns_at {c : Dev nD} {S : Shape} {e : EltTy} (M : Memref sig .tc .vmem S e) (q : PosShare TreeShare) (f : M.view.ty.Contents (Elt F))
    {X : S.Idx → Elt F e} (h : M.view.read (Elt F) f = X) : (M.view.loc (c : Thread nD τ) ↦[M.view.set]{q} f : sProp 𝕄) ⊢ owns (c : Thread nD τ) M q X := by
  subst h; unfold owns; iintro H; iexists f; isplitr
  · ipureintro; rfl
  iexact H

/-! ## Transfers between devices -/

/-- What a slot holds after a transfer from another through reshaped views. -/
theorem read_land {κ κ' : Kind} {sp sp' : Space} {s s' : Shape} {e : EltTy} (v : View sig κ sp s e) (v' : View sig κ' sp' s e) (h : s'.numel = s.numel)
    (f : v.ty.Contents (Elt F)) (f' : v'.ty.Contents (Elt F)) :
    v.read (Elt F) ((v.reshape s' h).write (Elt F) f ((v'.reshape s' h).read (Elt F) f') Finset.univ) = v'.read (Elt F) f' := by
  funext i
  obtain ⟨x, rfl⟩ := (Shape.reshapeEquiv h).surjective i
  rw [View.read_write_reshape]
  rfl

theorem wp_xfer (k k' : Fin 4) {c s : Dev nD} (hs : s ≠ c) (n : Dev nD) (hn : n = s) {S S' : Shape} {e : EltTy} (hq : S.Squeezes S')
    (M M' : Memref sig .tc .vmem S e) {q1 q2 : DmaSem sig} (h1 : q1 = chSem k s) (h2 : q2 = chSem k' c)
    {hsc : ((M'.squeeze S' hq : Memref sig .tc .vmem S' e) : Memref sig (Dev.tc n : Thread nD τ).2.kind .vmem S' e).view.ref.isScScratch = false}
    {hsrc : (M.squeeze S' hq).view.WordExact} {hdst : (M'.squeeze S' hq).view.WordExact}
    {hsem : DmaTarget.Typed .vmem (.dma q2) (.remote (Dev.tc n : Thread nD τ) (M'.squeeze S' hq : Memref sig .tc .vmem S' e) (.dma q1) hsc)}
    (hamt : (M'.squeeze S' hq).view.dmaCredit = chAmt k) (hamt' : chAmt k' = chAmt k)
    {q : PosShare TreeShare} {X Y : S.Idx → Elt F e}
    (hp1 : owns (c : Thread nD τ) M q X ⊢ chPay m k c s) (hp2 : owns (s : Thread nD τ) M' fullShare X ⊢ chPay m k' s c)
    {O₀ O : CellTallies nD τ sig Unit} (hO : O₀ = O + tallyAt (chCell k' s c) () (chAmt k)) {W : Waits sig Unit}
    {α : Type} {Q : α → sProp 𝕄} {R : PUnit → Prog (TpuEff nD τ sig (Elt F) Λ₀ .tc) α} :
    iprop(records m K ∗ owns (c : Thread nD τ) M q X ∗ owns (s : Thread nD τ) M' fullShare Y ∗ Ch0 k k' c s ∗ owes (c : Thread nD τ) O₀ W)
      ⊢ iprop(((Ch1 k k' c s ∗ owes (c : Thread nD τ) O W) -∗ WPc c (R ⟨⟩) Q)
        -∗ WPc c (.op (.enqueueDma (M.squeeze S' hq) (.remote (Dev.tc n : Thread nD τ) (M'.squeeze S' hq) (.dma q1) hsc) (.dma q2) hsrc hdst hsem) R) Q) := by
  subst hn h1 h2
  have hu1 : (owns (c : Thread nD τ) M q X : sProp 𝕄) = iprop(∃ f, ⌜M.view.read (Elt F) f = X⌝ ∗ (M.view.loc (c : Thread nD τ) ↦[M.view.set]{q} f)) := rfl
  have hu2 : (owns (n : Thread nD τ) M' fullShare Y : sProp 𝕄) = iprop(∃ f, ⌜M'.view.read (Elt F) f = Y⌝ ∗ (M'.view.loc (n : Thread nD τ) ↦[M'.view.set]{fullShare} f)) := rfl
  rw [hu1, hu2]
  unfold Ch0 Ch1
  iintro ⟨#Hr, ⟨%f, %hf, Hs⟩, ⟨%g, %hg, Hd⟩, ⟨Ht, Ht', Ha, Ha', Hc⟩, Ho⟩ Hk
  subst hf
  have e1 : (M.squeeze S' hq).view.set = M.view.set := View.set_reshape _ _
  have e2 : (M'.squeeze S' hq).view.set = M'.view.set := View.set_reshape _ _
  iapply (Rounds.wp_send_pointsTo 𝒱₀ ER (Rd m) (c : Thread nD τ) none (κ₁ := K (c, some (k, n))) (κ₂ := K (n, some (k', c)))
    (r₁ := 0) (r₂ := 0) (d₁ := n) (d₂ := c) (fs := f) (fd := g) (q := q)
    (c' := (Dev.tc n : Thread nD τ)) (src := M.squeeze S' hq) (dst := M'.squeeze S' hq) (sS := .dma (chSem k n)) (sem := .dma (chSem k' c))
    (by show n ∈ (Rd (F := F) m).duties (chCell k c n) 0; rw [duties_ch, if_neg hs]; exact Finset.mem_singleton_self _)
    (by show c ∈ (Rd (F := F) m).duties (chCell k' n c) 0; rw [duties_ch, if_neg (Ne.symm hs)]; exact Finset.mem_singleton_self _)
    () () (chAmt k) hamt (amount_ch m c k n n) ((amount_ch m n k' c c).trans hamt') O hO (W := W)
    (by
      rw [e1]
      exact (owns_at M q f rfl).trans (hp1.trans (Entails.of_eq (payload_ch m c k n n).symm)))
    (by
      rw [e2]
      exact (owns_at M' fullShare _ (read_land M'.view M.view hq.numel_eq g f)).trans (hp2.trans (Entails.of_eq (payload_ch m n k' c c).symm)))) $$ [Hs Hd Ht Ht' Ho]
  · isplitr; · iapply (inv_ch m K k c n) $$ Hr
    isplitr; · iapply (inv_ch m K k' n c) $$ Hr
    isplitl [Hs]; · iapply (Entails.of_eq (by rw [e1])) $$ Hs
    isplitl [Hd]; · iapply (Entails.of_eq (by rw [e2])) $$ Hd
    isplitl [Ho]; · iexact Ho
    isplitl [Ht]; · iexact Ht
    isplitr; · iapply (reached_ch m K k c n) $$ Hr
    isplitl [Ht']; · iexact Ht'
    iapply (reached_ch m K k' n c) $$ Hr
  iintro ⟨Hcr, Ho⟩
  iapply Hk
  isplitr [Ho]
  · isplitl [Hcr]; · iexact Hcr
    isplitl [Ha]; · iexact Ha
    isplitl [Ha']; · iexact Ha'
    iexact Hc
  iexact Ho

end Cert.KernelIdeal.Hand
end
-- ==== Proof.KernelIdeal.Moves.lean ====
/-
The exchange's steps: each takes every peer's stage before a statement to its stage after it.
-/
module

public import proofs.«01_k».proof.Proof.KernelIdeal.Steps
public import Idealize.ShloMosaic.Lib.MemrefSat

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## Stages that look the same on both sides of a statement -/

theorem Full_same {c : Dev nD} {σ σ' : Fin 16 → ℕ} (s : Fin 16) {n n' : ℕ} (h0 : σ s = n) (h1 : σ' s = n') (hσ : ∀ j, j ≠ s → σ' j = σ j)
    (h : Slot m c s n = Slot m c s n') (hd : debt c s n = debt c s n') {α : Type} {R : Prog (TpuEff nD τ sig (Elt F) Λ₀ .tc) α} {Q : α → sProp 𝕄} :
    Full m K c σ ⊢ iprop((Full m K c σ' -∗ WPc c R Q) -∗ WPc c R Q) := by
  iintro H Hk
  iapply Hk
  iapply (St_skip m K s h0 h1 hσ h hd) $$ H

/-- One slot taken out of the whole state, the rest to be put back with what is then owed. -/
theorem Full_open {c : Dev nD} {σ σ' : Fin 16 → ℕ} (s : Fin 16) {n n' : ℕ} (h0 : σ s = n) (h1 : σ' s = n') (hσ : ∀ j, j ≠ s → σ' j = σ j) :
    Full m K c σ ⊢ iprop(records m K ∗ (∃ W, owes (c : Thread nD τ) (Debt c σ) W) ∗ Slot m c s n
      ∗ (iprop((∃ W, owes (c : Thread nD τ) (Debt c σ') W) ∗ Slot m c s n') -∗ Full m K c σ')) := by
  have E := St_step m (c := c) s h0 h1 hσ
  unfold Full
  iintro ⟨#Hr, #Hl, Ho, HS⟩
  ihave H := E $$ HS
  icases H with ⟨Hs, Hc⟩
  isplitr; · iexact Hr
  isplitl [Ho]; · iexact Ho
  isplitl [Hs]; · iexact Hs
  iintro ⟨Ho, Hs⟩
  isplitr; · iexact Hr
  isplitr; · iexact Hl
  isplitl [Ho]; · iexact Ho
  iapply Hc
  iexact Hs

theorem split_at (c : Dev nD) (Φ : Dev nD → sProp 𝕄) : bigSep Finset.univ Φ = iprop(Φ c ∗ bigSep (Finset.univ.erase c) Φ) := BI.bigSep_univ_split c

/-! ## The barrier wait -/

theorem Debt_one {c : Dev nD} {σ σ' : Fin 16 → ℕ} (h0 : ∀ s, σ s = 1) (h1 : ∀ s, σ' s = 2) : Debt c σ = Debt c σ' :=
  Finset.sum_congr rfl fun s _ => by rw [h0, h1]; exact debt_congr c s (by omega) (by omega) (by omega)

theorem Peer_bar (c : Dev nD) (s : Fin 16) : iprop(Peer m c s 1 ∗ barPay (F := F) c s) ⊢ Peer m c s 2 := by
  simp only [Peer]; unfold barPay
  iintro ⟨H1, H2⟩
  isplitl [H2]; · iexact H2
  iexact H1

theorem St_bar {c : Dev nD} {σ σ' : Fin 16 → ℕ} (h0 : ∀ s, σ s = 1) (h1 : ∀ s, σ' s = 2) :
    iprop(St m c σ ∗ bigSep (Finset.univ.erase c) (fun d => barPay (F := F) c d)) ⊢ St m c σ' := by
  unfold St
  rw [split_at c (fun s => Slot m c s (σ s)), split_at c (fun s => Slot m c s (σ' s)), h0, h1, Slot_own, Slot_own]
  have e : iprop(bigSep (Finset.univ.erase c) (fun s => Slot m c s (σ s)) ∗ bigSep (Finset.univ.erase c) (fun d => barPay (F := F) c d))
      ⊢ bigSep (Finset.univ.erase c) (fun s => Slot m c s (σ' s)) := by
    refine (Entails.of_eq (bigSep_sep' _ _ _).symm).trans (bigSep_mono fun s hs => ?_)
    have e1 := Slot_peer m (c := c) (Finset.ne_of_mem_erase hs) 1
    have e2 := Slot_peer m (c := c) (Finset.ne_of_mem_erase hs) 2
    rw [h0, h1, e1, e2]
    exact Peer_bar m c s
  simp only [Own]
  iintro ⟨⟨H1, H2⟩, H3⟩
  isplitl [H1]; · iexact H1
  iapply e
  isplitl [H2]; · iexact H2
  iexact H3

theorem step_bar {c : Dev nD} {σ σ' : Fin 16 → ℕ} (h0 : ∀ s, σ s = 1) (h1 : ∀ s, σ' s = 2)
    {α : Type} {R : Prog (TpuEff nD τ sig (Elt F) Λ₀ .tc) α} {Q : α → sProp 𝕄} :
    iprop(Full m K c σ ∗ crd (barCell c) 15 ∗ at0 (barCell c)) ⊢ iprop((iprop(Full m K c σ' ∗ at1 (barCell c)) -∗ WPc c R Q)
      -∗ WPc c (semWaitWord barS 15#32 >>= fun _ => R) Q) := by
  rw [semWait_bind]
  have hD := Debt_one (c := c) h0 h1
  have E := St_bar m (c := c) h0 h1
  unfold Full
  rw [hD]
  iintro ⟨⟨#Hr, #Hl, ⟨%W, Ho⟩, HS⟩, Hcr, Ha⟩ Hk
  iapply (Rounds.wp_wait_rest_token 𝒱₀ ER (Rd m) (c : Thread nD τ) none (κ := K (c, none)) (wpE_semWait_eq 𝒱₀ (c : Thread nD τ) none Set.univ)
    (Set.mem_univ _) () (O := Debt c σ') (W := W) (R := 0) (m := 0) (T := ∅) (by rw [expect_bar, zero_add])) $$ [Hcr Ha Ho]
  · isplitr; · iapply (inv_bar m K c) $$ Hr
    isplitl [Hcr]; · iexact Hcr
    isplitl [Ho]; · iexact Ho
    isplitr [Ha]
    · iapply (mayWait_low c (.reg barS) σ' 1 (by rw [lv_bar]) (Or.inr ⟨rfl, fun s => by rw [h1]; omega⟩)) $$ Hl
    iexact Ha
  iintro ⟨Ho, Ha, _, Hp⟩
  iapply Hk
  isplitr [Ha]
  · isplitr; · iexact Hr
    isplitr; · iexact Hl
    isplitl [Ho]; · iexists _; iexact Ho
    iapply E
    isplitl [HS]; · iexact HS
    iapply (Entails.of_eq (rest_bar m c)) $$ Hp
  iexact Ha

/-! ## A wait at a channel -/

theorem wp_wait_ch (k : Fin 4) {c s : Dev nD} (hs : s ≠ c) {q : DmaSem sig} (hq : q = chSem k s) {S S' : Shape} {e e' : EltTy}
    {sw : Memref sig .tc .vmem S' e'} {dw : Memref sig .tc .vmem S e} {hsrc : sw.view.WordExact} {hdst : dw.view.WordExact} (hamt : dw.view.dmaCredit = chAmt k)
    {α : Type} {R : Prog (TpuEff nD τ sig (Elt F) Λ₀ .tc) α} {Q : α → sProp 𝕄} :
    iprop(records m K ∗ crd (chCell k c s) (chAmt k) ∗ at0 (chCell k c s) ∗ (∃ W, owes (c : Thread nD τ) 0 W))
      ⊢ iprop((iprop(chPay m k c s ∗ at1 (chCell k c s) ∗ (∃ W, owes (c : Thread nD τ) 0 W)) -∗ WPc c R Q)
        -∗ WPc c (Prog.lift (.waitDma2 q sw dw hsrc hdst) >>= fun _ => R) Q) := by
  subst hq
  rw [lift_bind]
  iintro ⟨#Hr, Hcr, Ha, ⟨%W, Ho⟩⟩ Hk
  iapply (Rounds.wp_wait_rest_token 𝒱₀ ER (Rd m) (c : Thread nD τ) none (κ := K (c, some (k, s))) (wpE_waitDma2_eq 𝒱₀ (c : Thread nD τ) none Set.univ)
    (Set.mem_univ _) () (O := 0) (W := W) (R := 0) (m := 0) (T := ∅) (by rw [zero_add, hamt]; exact (expect_ch m c k s hs).symm)) $$ [Hcr Ha Ho]
  · isplitr; · iapply (inv_ch m K k c s) $$ Hr
    isplitl [Hcr]; · iapply (Entails.of_eq (by rw [hamt])) $$ Hcr
    isplitl [Ho]; · iexact Ho
    isplitr [Ha]
    · rw [MayWait_zero]; iempintro
    iexact Ha
  iintro ⟨Ho, Ha, _, Hp⟩
  iapply Hk
  isplitl [Hp]; · iapply (Entails.of_eq (rest_ch m c k s hs)) $$ Hp
  isplitl [Ha]; · iexact Ha
  iexists _; iexact Ho

/-! ## Stage 2 to 3: the rounded product block into its slot of the send buffer -/

theorem Slot_snd (c : Dev nD) (s : Fin 16) : Slot m c s 2 ⊢ iprop(sndE c s ∗ (sndP c s (sendV m c s) -∗ Slot m c s 3)) := by
  by_cases h : s = c
  · subst h
    rw [Slot_own, Slot_own]; simp only [Own]
    iintro ⟨H1, H2⟩
    isplitl [H1]; · iexact H1
    iintro H1
    isplitl [H1]; · iexact H1
    iexact H2
  · rw [Slot_peer m h, Slot_peer m h]; simp only [Peer]
    iintro ⟨H0, H1, H2⟩
    isplitl [H1]; · iexact H1
    iintro H1
    isplitl [H0]; · iexact H0
    isplitl [H1]; · iexact H1
    iexact H2

theorem debt_snd (c : Dev nD) (s : Fin 16) : debt c s 2 = debt c s 3 := debt_congr c s (by omega) (by omega) (by omega)

theorem Debt_same {c : Dev nD} {σ σ' : Fin 16 → ℕ} (s : Fin 16) {n n' : ℕ} (h0 : σ s = n) (h1 : σ' s = n') (hσ : ∀ j, j ≠ s → σ' j = σ j)
    (hd : debt c s n = debt c s n') : Debt c σ = Debt c σ' := by
  rw [Debt_step (T := 0) s hσ (by rw [h0, h1, add_zero, hd]), add_zero]

theorem step_snd {c : Dev nD} {σ σ' : Fin 16 → ℕ} (s : Fin 16) (h0 : σ s = 2) (h1 : σ' s = 3) (hσ : ∀ j, j ≠ s → σ' j = σ j)
    {off : Fin 3 → Nat} (ho : off = off3 s) {inb inb'} {hl} {w : Vec F S1x256x128 .bf16} {hx} {hm} (hw : w = sendV m c s)
    {α : Type} {R : Prog (TpuEff nD τ sig (Elt F) Λ₀ .tc) α} {Q : α → sProp 𝕄} :
    Full m K c σ ⊢ iprop((Full m K c σ' -∗ WPc c R Q)
      -∗ WPc c (Prog.lift (.load (cs := .vmem) sndM (Rect.unit (s := S16x256x128) off S1x256x128.size inb).toLoadRect hl) >>= fun _ =>
        Prog.lift (.store (cs := .vmem) sndM (Rect.unit (s := S16x256x128) off S1x256x128.size inb') w Finset.univ hx hm) >>= fun _ => R) Q) := by
  subst ho hw
  rw [lift_bind]
  have hD := Debt_same (c := c) s h0 h1 hσ (debt_snd c s)
  iintro H Hk
  ihave H := (Full_open m K s h0 h1 hσ) $$ H
  icases H with ⟨_, Ho, Hs, Hc⟩
  ihave Hs := (Slot_snd m c s) $$ Hs
  icases Hs with ⟨He, Hs⟩
  ihave He := (Entails.of_eq (show sndE (F := F) c s = iprop(∃ X, sndP c s X) from rfl)) $$ He
  icases He with ⟨%X, He⟩
  iapply (wp_own_load (M := sndM) (r := blkR s) (hr := fun _ => rfl)) $$ He
  iintro He
  iapply (wp_own_store (M := sndM) (r := blkR s) (hr := fun _ => rfl) (k := fun _ => R)) $$ He
  iintro He
  iapply Hk
  iapply Hc
  isplitl [Ho]; · iapply (Entails.of_eq (by rw [hD])) $$ Ho
  iapply Hs
  iexact He

end Cert.KernelIdeal.Hand
end
-- ==== Proof.KernelIdeal.Moves2.lean ====
/-
The exchange's steps after the send buffer is filled: the block a device keeps, the block a peer gets, the
rows of largest entries, and the waits.
-/
module

public import proofs.«01_k».proof.Proof.KernelIdeal.Moves

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## What a device keeps -/

section OwnSteps
variable {c : Dev nD} {σ σ' : Fin 16 → ℕ} (s : Fin 16) {cond : Prop} [Decidable cond]

theorem step_keep (hc : cond ↔ s = c) (h0 : σ s = 3) (h1 : σ' s = 4) (hσ : ∀ j, j ≠ s → σ' j = σ j)
    {off : Fin 3 → Nat} (ho : off = off3 c) {inb inb' : cond → ∀ a, off a + S1x256x128.size a ≤ S16x256x128.size a}
    {hl : ∀ h : cond, rcvM.view.LoadsAt (Rect.unit (s := S16x256x128) off S1x256x128.size (inb h)).toLoadRect} {w : Vec F S1x256x128 .bf16}
    {hx : ∀ h : cond, (rcvM.access (Rect.unit (s := S16x256x128) off S1x256x128.size (inb' h))).Stores Finset.univ} {hm : ∀ h : cond, (Finset.univ : Finset (Rect.unit (s := S16x256x128) off S1x256x128.size (inb' h)).shape.Idx) = Finset.univ ∨ ∀ a, (Rect.unit (s := S16x256x128) off S1x256x128.size (inb' h)).stride a = 1}
    (hw : cond → w = sendV m c c)
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.load (cs := .vmem) rcvM (Rect.unit (s := S16x256x128) off S1x256x128.size (inb h)).toLoadRect (hl h)) >>= fun _ =>
            Prog.lift (.store (cs := .vmem) rcvM (Rect.unit (s := S16x256x128) off S1x256x128.size (inb' h)) w Finset.univ (hx h) (hm h)) >>= fun _ => R))
          (fun _ => R)) Q) := by
  by_cases h : cond
  · have hs := hc.mp h
    subst hs ho
    rw [dif_pos h, hw h, lift_bind]
    have hD := Debt_same (c := s) s h0 h1 hσ (by rw [debt_own, debt_own])
    have E := Full_open m K (c := s) s h0 h1 hσ
    rw [Slot_own, Slot_own] at E
    simp only [Own] at E
    iintro H Hk
    ihave H := E $$ H
    icases H with ⟨_, Ho, ⟨Hs, He, Hx⟩, Hc⟩
    ihave He := (Entails.of_eq (show rcvE (F := F) s s = iprop(∃ X, rcvP s s X) from rfl)) $$ He
    icases He with ⟨%X, He⟩
    iapply (wp_own_load (M := rcvM) (r := blkR s) (hr := fun _ => rfl)) $$ He
    iintro He
    iapply (wp_own_store (M := rcvM) (r := blkR s) (hr := fun _ => rfl) (k := fun _ => R)) $$ He
    iintro He
    iapply Hk
    iapply Hc
    isplitl [Ho]; · iapply (Entails.of_eq (by rw [hD])) $$ Ho
    isplitl [Hs]; · iexact Hs
    isplitl [He]; · iexact He
    iexact Hx
  · rw [dif_neg h]
    have hs : s ≠ c := fun h' => h (hc.mpr h')
    exact Full_same m K s h0 h1 hσ (by rw [Slot_peer m hs, Slot_peer m hs]; rfl) (debt_congr c s (by omega) (by omega) (by omega))

theorem step_amx (hc : cond ↔ s = c) (h0 : σ s = 5) (h1 : σ' s = 6) (hσ : ∀ j, j ≠ s → σ' j = σ j)
    {off : Fin 3 → Nat} (ho : off = off3 s) {inb inb' : cond → ∀ a, off a + S1x8x128.size a ≤ S16x8x128.size a}
    {hl : ∀ h : cond, amxM.view.LoadsAt (Rect.unit (s := S16x8x128) off S1x8x128.size (inb h)).toLoadRect} {w : Vec F S1x8x128 .f32}
    {hx : ∀ h : cond, (amxM.access (Rect.unit (s := S16x8x128) off S1x8x128.size (inb' h))).Stores Finset.univ} {hm : ∀ h : cond, (Finset.univ : Finset (Rect.unit (s := S16x8x128) off S1x8x128.size (inb' h)).shape.Idx) = Finset.univ ∨ ∀ a, (Rect.unit (s := S16x8x128) off S1x8x128.size (inb' h)).stride a = 1}
    (hw : w = amaxV m c)
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.load (cs := .vmem) amxM (Rect.unit (s := S16x8x128) off S1x8x128.size (inb h)).toLoadRect (hl h)) >>= fun _ =>
            Prog.lift (.store (cs := .vmem) amxM (Rect.unit (s := S16x8x128) off S1x8x128.size (inb' h)) w Finset.univ (hx h) (hm h)) >>= fun _ => R))
          (fun _ => R)) Q) := by
  by_cases h : cond
  · have hs := hc.mp h
    subst hs ho
    rw [dif_pos h, hw, lift_bind]
    have hD := Debt_same (c := s) s h0 h1 hσ (by rw [debt_own, debt_own])
    have E := Full_open m K (c := s) s h0 h1 hσ
    rw [Slot_own, Slot_own] at E
    simp only [Own] at E
    iintro H Hk
    ihave H := E $$ H
    icases H with ⟨_, Ho, ⟨Hs, Hx, He⟩, Hc⟩
    ihave He := (Entails.of_eq (show amxE (F := F) s s = iprop(∃ X, amxP s s fullShare X) from rfl)) $$ He
    icases He with ⟨%X, He⟩
    iapply (wp_own_load (M := amxM) (r := amxR s) (hr := fun _ => rfl)) $$ He
    iintro He
    iapply (wp_own_store (M := amxM) (r := amxR s) (hr := fun _ => rfl) (k := fun _ => R)) $$ He
    iintro He
    iapply Hk
    iapply Hc
    isplitl [Ho]; · iapply (Entails.of_eq (by rw [hD])) $$ Ho
    isplitl [Hs]; · iexact Hs
    isplitl [Hx]; · iexact Hx
    iexact He
  · rw [dif_neg h]
    have hs : s ≠ c := fun h' => h (hc.mpr h')
    exact Full_same m K s h0 h1 hσ (by rw [Slot_peer m hs, Slot_peer m hs]; rfl) (debt_congr c s (by omega) (by omega) (by omega))

/-! ## What a peer gets -/

theorem step_send {dv : cond → Dev nD} (hc : cond ↔ s ≠ c) (hdv : ∀ h, dv h = s) (h0 : σ s = 4) (h1 : σ' s = 5) (hσ : ∀ j, j ≠ s → σ' j = σ j)
    {o1 o2 : Fin 1 → Nat} {o3 o4 : Fin 3 → Nat} (e1 : o1 = ![s.val]) (e2 : o2 = ![c.val]) (e3 : o3 = off3 c) (e4 : o4 = off3 s)
    {i1 : cond → ∀ a, o1 a + S1.size a ≤ S16.size a} {i2 : cond → ∀ a, o2 a + S1.size a ≤ S16.size a}
    {i3 : cond → ∀ a, o3 a + S1x256x128.size a ≤ S16x256x128.size a} {i4 : cond → ∀ a, o4 a + S1x256x128.size a ≤ S16x256x128.size a}
    {hsc : ∀ h : cond, ((rcvM.slice (Rect.unit (s := S16x256x128) o3 S1x256x128.size (i3 h)) (fun _ => rfl)).squeeze S256x128 squeezes_S1x256x128_S256x128).view.ref.isScScratch = false}
    {hsrc : ∀ h : cond, ((sndM.slice (Rect.unit (s := S16x256x128) o4 S1x256x128.size (i4 h)) (fun _ => rfl)).squeeze S256x128 squeezes_S1x256x128_S256x128).view.WordExact} {hdst : ∀ h : cond, ((rcvM.slice (Rect.unit (s := S16x256x128) o3 S1x256x128.size (i3 h)) (fun _ => rfl)).squeeze S256x128 squeezes_S1x256x128_S256x128).view.WordExact}
    {hsem : ∀ h : cond, DmaTarget.Typed .vmem (.dma ((cc0_scratch12.slice (Rect.unit (s := S16) o2 S1.size (i2 h))).squeeze S_ squeezes_S1_S_).sem)
      (.remote (Dev.tc (dv h) : Thread nD τ) ((rcvM.slice (Rect.unit (s := S16x256x128) o3 S1x256x128.size (i3 h)) (fun _ => rfl)).squeeze S256x128 squeezes_S1x256x128_S256x128) (.dma ((cc0_scratch11.slice (Rect.unit (s := S16) o1 S1.size (i1 h))).squeeze S_ squeezes_S1_S_).sem) (hsc h))}
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.enqueueDma ((sndM.slice (Rect.unit (s := S16x256x128) o4 S1x256x128.size (i4 h)) (fun _ => rfl)).squeeze S256x128 squeezes_S1x256x128_S256x128)
            (.remote (Dev.tc (dv h)) ((rcvM.slice (Rect.unit (s := S16x256x128) o3 S1x256x128.size (i3 h)) (fun _ => rfl)).squeeze S256x128 squeezes_S1x256x128_S256x128)
              (.dma ((cc0_scratch11.slice (Rect.unit (s := S16) o1 S1.size (i1 h))).squeeze S_ squeezes_S1_S_).sem) (hsc h))
            (.dma ((cc0_scratch12.slice (Rect.unit (s := S16) o2 S1.size (i2 h))).squeeze S_ squeezes_S1_S_).sem) (hsrc h) (hdst h) (hsem h)) >>= fun _ => R))
          (fun _ => R)) Q) := by
  by_cases h : cond
  · have hs := hc.mp h
    subst e1 e2 e3 e4
    rw [dif_pos h, lift_bind]
    have hD : Debt c σ = Debt c σ' + tallyAt (chCell 3 s c) () (chAmt 2) :=
      Debt_step s hσ (by rw [h0, h1]; unfold debt; rw [if_neg hs, if_neg hs]; simp; rfl)
    have E := Full_open m K (c := c) s h0 h1 hσ
    rw [Slot_peer m hs, Slot_peer m hs] at E
    simp only [Peer] at E
    iintro H Hk
    ihave H := E $$ H
    icases H with ⟨#Hr, ⟨%W, Ho⟩, ⟨⟨Hrc, Ham⟩, Hs, Hch, Hch'⟩, Hc⟩
    ihave Hrc := (Entails.of_eq (show rcvE (F := F) s c = iprop(∃ X, rcvP s c X) from rfl)) $$ Hrc
    icases Hrc with ⟨%Y, Hrc⟩
    iapply (wp_xfer m K 2 3 hs (dv h) (hdv h) squeezes_S1x256x128_S256x128 (sndSlot s) (rcvSlot c) (sem_dsnd s) (sem_drcv c) (hsc := hsc h)
      (hsrc := hsrc h) (hdst := hdst h) (hsem := hsem h) rfl rfl (q := fullShare) (X := sendV m c s) (Y := Y) .rfl .rfl hD (W := W) (R := fun _ => R)) $$ [Ho Hrc Hs Hch]
    · isplitr; · iexact Hr
      isplitl [Hs]; · iexact Hs
      isplitl [Hrc]; · iexact Hrc
      isplitl [Hch]; · iexact Hch
      iexact Ho
    iintro ⟨Hch, Ho⟩
    iapply Hk
    iapply Hc
    isplitl [Ho]; · iexists W; iexact Ho
    isplitl [Ham]; · iexact Ham
    isplitl [Hch]; · iexact Hch
    iexact Hch'
  · rw [dif_neg h]
    have hs : s = c := Classical.not_not.mp fun h' => h (hc.mpr h')
    subst hs
    exact Full_same m K s h0 h1 hσ (by rw [Slot_own, Slot_own]; rfl) (by rw [debt_own, debt_own])

theorem step_asend {dv : cond → Dev nD} (hc : cond ↔ s ≠ c) (hdv : ∀ h, dv h = s) (h0 : σ s = 7) (h1 : σ' s = 8) (hσ : ∀ j, j ≠ s → σ' j = σ j)
    {o1 o2 : Fin 1 → Nat} {o3 o4 : Fin 3 → Nat} (e1 : o1 = ![s.val]) (e2 : o2 = ![c.val]) (e3 : o3 = off3 c) (e4 : o4 = off3 c)
    {i1 : cond → ∀ a, o1 a + S1.size a ≤ S16.size a} {i2 : cond → ∀ a, o2 a + S1.size a ≤ S16.size a}
    {i3 : cond → ∀ a, o3 a + S1x8x128.size a ≤ S16x8x128.size a} {i4 : cond → ∀ a, o4 a + S1x8x128.size a ≤ S16x8x128.size a}
    {hsc : ∀ h : cond, ((amxM.slice (Rect.unit (s := S16x8x128) o3 S1x8x128.size (i3 h)) (fun _ => rfl)).squeeze S8x128 squeezes_S1x8x128_S8x128).view.ref.isScScratch = false}
    {hsrc : ∀ h : cond, ((amxM.slice (Rect.unit (s := S16x8x128) o4 S1x8x128.size (i4 h)) (fun _ => rfl)).squeeze S8x128 squeezes_S1x8x128_S8x128).view.WordExact} {hdst : ∀ h : cond, ((amxM.slice (Rect.unit (s := S16x8x128) o3 S1x8x128.size (i3 h)) (fun _ => rfl)).squeeze S8x128 squeezes_S1x8x128_S8x128).view.WordExact}
    {hsem : ∀ h : cond, DmaTarget.Typed .vmem (.dma ((cc0_scratch10.slice (Rect.unit (s := S16) o2 S1.size (i2 h))).squeeze S_ squeezes_S1_S_).sem)
      (.remote (Dev.tc (dv h) : Thread nD τ) ((amxM.slice (Rect.unit (s := S16x8x128) o3 S1x8x128.size (i3 h)) (fun _ => rfl)).squeeze S8x128 squeezes_S1x8x128_S8x128) (.dma ((cc0_scratch9.slice (Rect.unit (s := S16) o1 S1.size (i1 h))).squeeze S_ squeezes_S1_S_).sem) (hsc h))}
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.enqueueDma ((amxM.slice (Rect.unit (s := S16x8x128) o4 S1x8x128.size (i4 h)) (fun _ => rfl)).squeeze S8x128 squeezes_S1x8x128_S8x128)
            (.remote (Dev.tc (dv h)) ((amxM.slice (Rect.unit (s := S16x8x128) o3 S1x8x128.size (i3 h)) (fun _ => rfl)).squeeze S8x128 squeezes_S1x8x128_S8x128)
              (.dma ((cc0_scratch9.slice (Rect.unit (s := S16) o1 S1.size (i1 h))).squeeze S_ squeezes_S1_S_).sem) (hsc h))
            (.dma ((cc0_scratch10.slice (Rect.unit (s := S16) o2 S1.size (i2 h))).squeeze S_ squeezes_S1_S_).sem) (hsrc h) (hdst h) (hsem h)) >>= fun _ => R))
          (fun _ => R)) Q) := by
  by_cases h : cond
  · have hs := hc.mp h
    subst e1 e2 e3 e4
    rw [dif_pos h, lift_bind]
    have hD : Debt c σ = Debt c σ' + tallyAt (chCell 1 s c) () (chAmt 0) :=
      Debt_step s hσ (by rw [h0, h1]; unfold debt; rw [if_neg hs, if_neg hs]; simp; rfl)
    have E := Full_open m K (c := c) s h0 h1 hσ
    rw [Slot_peer m hs, Slot_peer m hs] at E
    simp only [Peer] at E
    iintro H Hk
    ihave H := E $$ H
    icases H with ⟨#Hr, ⟨%W, Ho⟩, ⟨Hs, Hrc, Hch', Hch⟩, Hc⟩
    ihave Hrc := (Entails.of_eq (show amxE (F := F) s c = iprop(∃ X, amxP s c fullShare X) from rfl)) $$ Hrc
    icases Hrc with ⟨%Y, Hrc⟩
    iapply (wp_xfer m K 0 1 hs (dv h) (hdv h) squeezes_S1x8x128_S8x128 (amxSlot c) (amxSlot c) (sem_asnd s) (sem_arcv c) (hsc := hsc h)
      (hsrc := hsrc h) (hdst := hdst h) (hsem := hsem h) rfl rfl (q := leafS s) (X := amaxV m c) (Y := Y) .rfl .rfl hD (W := W) (R := fun _ => R)) $$ [Ho Hrc Hs Hch]
    · isplitr; · iexact Hr
      isplitl [Hs]; · iexact Hs
      isplitl [Hrc]; · iexact Hrc
      isplitl [Hch]; · iexact Hch
      iexact Ho
    iintro ⟨Hch, Ho⟩
    iapply Hk
    iapply Hc
    isplitl [Ho]; · iexists W; iexact Ho
    isplitl [Hch']; · iexact Hch'
    iexact Hch
  · rw [dif_neg h]
    have hs : s = c := Classical.not_not.mp fun h' => h (hc.mpr h')
    subst hs
    exact Full_same m K s h0 h1 hσ (by rw [Slot_own, Slot_own]; rfl) (by rw [debt_own, debt_own])

/-! ## The waits -/

variable {S S' : Shape} {e e' : EltTy} {S₁ S₁' : Shape} {e₁ e₁' : EltTy}

theorem step_await (hc : cond ↔ s ≠ c) (h0 : σ s = 8) (h1 : σ' s = 9) (hσ : ∀ j, j ≠ s → σ' j = σ j) (h8 : ∀ j, 8 ≤ σ j)
    {q1 q2 : cond → DmaSem sig} (hq1 : ∀ h, q1 h = chSem 1 s) (hq2 : ∀ h, q2 h = chSem 0 s)
    {sw : cond → Memref sig .tc .vmem S' e'} {dw : cond → Memref sig .tc .vmem S e} {hsrc : ∀ h : cond, (sw h).view.WordExact} {hdst : ∀ h : cond, (dw h).view.WordExact} (hamt : ∀ h, (dw h).view.dmaCredit = chAmt 1)
    {sw' : cond → Memref sig .tc .vmem S₁' e₁'} {dw' : cond → Memref sig .tc .vmem S₁ e₁} {hsrc' : ∀ h : cond, (sw' h).view.WordExact} {hdst' : ∀ h : cond, (dw' h).view.WordExact} (hamt' : ∀ h, (dw' h).view.dmaCredit = chAmt 0)
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.waitDma2 (q1 h) (sw h) (dw h) (hsrc h) (hdst h)) >>= fun _ => Prog.lift (.waitDma2 (q2 h) (sw' h) (dw' h) (hsrc' h) (hdst' h)) >>= fun _ => R))
          (fun _ => R)) Q) := by
  by_cases h : cond
  · have hs := hc.mp h
    rw [dif_pos h]
    have hD : Debt c σ = 0 := Debt_zero h8
    have hD' : Debt c σ' = 0 := Debt_zero fun j => by
      by_cases hj : j = s
      · rw [hj, h1]; omega
      · rw [hσ j hj]; exact h8 j
    have E := Full_open m K (c := c) s h0 h1 hσ
    rw [Slot_peer m hs, Slot_peer m hs, hD, hD'] at E
    simp only [Peer] at E
    unfold Ch1 Ch2 at E
    iintro H Hk
    ihave H := E $$ H
    icases H with ⟨#Hr, Ho, ⟨Hd, Hcs, Has, Har, Hcr⟩, Hc⟩
    iapply (wp_wait_ch m K 1 hs (hq1 h) (hamt h)) $$ [Hcr Har Ho]
    · isplitr; · iexact Hr
      isplitl [Hcr]; · iexact Hcr
      isplitl [Har]; · iexact Har
      iexact Ho
    iintro ⟨Hp1, Har, Ho⟩
    iapply (wp_wait_ch m K 0 hs (hq2 h) (hamt' h)) $$ [Hcs Has Ho]
    · isplitr; · iexact Hr
      isplitl [Hcs]; · iexact Hcs
      isplitl [Has]; · iexact Has
      iexact Ho
    iintro ⟨Hp0, Has, Ho⟩
    iapply Hk
    iapply Hc
    isplitl [Ho]; · iexact Ho
    isplitl [Hp0 Hp1]
    · isplitl [Hp1]; · iapply (Entails.of_eq (show chPay m 1 c s = amxP c s fullShare (amaxV m s) from rfl)) $$ Hp1
      iapply (Entails.of_eq (show chPay m 0 c s = amxP c c (leafS s) (amaxV m c) from rfl)) $$ Hp0
    isplitl [Hd]; · iexact Hd
    isplitl [Has]; · iexact Has
    iexact Har
  · rw [dif_neg h]
    have hs : s = c := Classical.not_not.mp fun h' => h (hc.mpr h')
    subst hs
    exact Full_same m K s h0 h1 hσ (by rw [Slot_own, Slot_own]; rfl) (by rw [debt_own, debt_own])

theorem step_dwait (hc : cond ↔ s ≠ c) (h0 : σ s = 10) (h1 : σ' s = 11) (hσ : ∀ j, j ≠ s → σ' j = σ j) (h8 : ∀ j, 8 ≤ σ j)
    {q1 q2 : cond → DmaSem sig} (hq1 : ∀ h, q1 h = chSem 3 s) (hq2 : ∀ h, q2 h = chSem 2 s)
    {sw : cond → Memref sig .tc .vmem S' e'} {dw : cond → Memref sig .tc .vmem S e} {hsrc : ∀ h : cond, (sw h).view.WordExact} {hdst : ∀ h : cond, (dw h).view.WordExact} (hamt : ∀ h, (dw h).view.dmaCredit = chAmt 3)
    {sw' : cond → Memref sig .tc .vmem S₁' e₁'} {dw' : cond → Memref sig .tc .vmem S₁ e₁} {hsrc' : ∀ h : cond, (sw' h).view.WordExact} {hdst' : ∀ h : cond, (dw' h).view.WordExact} (hamt' : ∀ h, (dw' h).view.dmaCredit = chAmt 2)
    {α : Type} {R : Prog (TpuEff nD τ sig (Elt F) Λ₀ .tc) α} {Q : α → sProp 𝕄} :
    Full m K c σ ⊢ iprop((Full m K c σ' -∗ WPc c R Q)
      -∗ WPc c (dite cond (fun h =>
          (Prog.lift (.waitDma2 (q1 h) (sw h) (dw h) (hsrc h) (hdst h)) >>= fun _ => Prog.lift (.waitDma2 (q2 h) (sw' h) (dw' h) (hsrc' h) (hdst' h)) >>= fun _ => R))
          (fun _ => R)) Q) := by
  by_cases h : cond
  · have hs := hc.mp h
    rw [dif_pos h]
    have hD : Debt c σ = 0 := Debt_zero h8
    have hD' : Debt c σ' = 0 := Debt_zero fun j => by
      by_cases hj : j = s
      · rw [hj, h1]; omega
      · rw [hσ j hj]; exact h8 j
    have E := Full_open m K (c := c) s h0 h1 hσ
    rw [Slot_peer m hs, Slot_peer m hs, hD, hD'] at E
    simp only [Peer] at E
    unfold Ch1 Ch2 at E
    iintro H Hk
    ihave H := E $$ H
    icases H with ⟨#Hr, Ho, ⟨⟨Hcs, Has, Har, Hcr⟩, Hd⟩, Hc⟩
    iapply (wp_wait_ch m K 3 hs (hq1 h) (hamt h)) $$ [Hcr Har Ho]
    · isplitr; · iexact Hr
      isplitl [Hcr]; · iexact Hcr
      isplitl [Har]; · iexact Har
      iexact Ho
    iintro ⟨Hp1, Har, Ho⟩
    iapply (wp_wait_ch m K 2 hs (hq2 h) (hamt' h)) $$ [Hcs Has Ho]
    · isplitr; · iexact Hr
      isplitl [Hcs]; · iexact Hcs
      isplitl [Has]; · iexact Has
      iexact Ho
    iintro ⟨Hp0, Has, Ho⟩
    iapply Hk
    iapply Hc
    isplitl [Ho]; · iexact Ho
    isplitl [Hp0 Hp1]
    · isplitl [Hp1]; · iapply (Entails.of_eq (show chPay m 3 c s = rcvP c s (sendV m s c) from rfl)) $$ Hp1
      iapply (Entails.of_eq (show chPay m 2 c s = sndP c s (sendV m c s) from rfl)) $$ Hp0
    isplitr [Hd]
    · isplitl [Has]; · iexact Has
      iexact Har
    iexact Hd
  · rw [dif_neg h]
    have hs : s = c := Classical.not_not.mp fun h' => h (hc.mpr h')
    subst hs
    exact Full_same m K s h0 h1 hσ (by rw [Slot_own, Slot_own]; rfl) (by rw [debt_own, debt_own])
end OwnSteps

end Cert.KernelIdeal.Hand
end
-- ==== Proof.KernelIdeal.Local.lean ====
module

public import proofs.«01_k».proof.Proof.KernelIdeal.Moves2
public import Idealize.ShloMosaic.Lib.Transfers
public import Idealize.ShloMosaic.Lib.ValueLayout

/-!
Transfers within one device: `x` once, the column blocks of `w` two at a time, the result once.
-/

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

abbrev EC : UEmb Counters (MT nD τ sig Unit (Elt F) ℕ UU ℕ) := countersEmb

/-- A transfer within device `c` in flight on semaphore `sm`, to deliver `D`. -/
abbrev Fl (c : Dev nD) (sm : DmaSem sig) (N : ℕ) (D : sProp 𝕄) : sProp 𝕄 := Transfers.Flight EC (c : Thread nD τ) (.dma sm) () N D
abbrev sv0 (c : Dev nD) (sm : DmaSem sig) : sProp 𝕄 := semVal ((c : Thread nD τ), .dma sm) 0

theorem sep_mono' {A A' B B' : sProp 𝕄} (h : A ⊢ A') (h' : B ⊢ B') : iprop(A ∗ B) ⊢ iprop(A' ∗ B') := (sep_mono_left h).trans (sep_mono_right h')

theorem owns_of_pts {c : Dev nD} {sp : Space} {s : Shape} {e : EltTy} (src : Memref sig .tc sp s e) (q : PosShare TreeShare) (f : src.view.ty.Contents (Elt F)) :
    (src.view.loc (c : Thread nD τ) ↦[src.view.set]{q} f : sProp 𝕄)
      ⊢ iprop(∃ g, ⌜src.view.read (Elt F) g = src.view.read (Elt F) f⌝ ∗ (src.view.loc (c : Thread nD τ) ↦[src.view.set]{q} g)) := by
  iintro H
  iexists f
  isplitr
  · ipureintro; rfl
  iexact H

/-- A local transfer issued: its source is lent to it. -/
theorem wp_local {c : Dev nD} {sp sp' : Space} {s : Shape} {e : EltTy} (src : Memref sig .tc sp s e) (dst : Memref sig .tc sp' s e) {sm : DmaSem sig}
    {hsrc : src.view.WordExact} {hdst : dst.view.WordExact} {hsem : DmaTarget.Typed (nD := nD) sp (.dma sm) (DmaTarget.here (p := (c : Thread nD τ).2) dst)}
    {q : PosShare TreeShare} {X : s.Idx → Elt F e} {fd : dst.view.ty.Contents (Elt F)} {D : sProp 𝕄} (h0 : 0 < dst.view.dmaCredit)
    (hD : (dst.view.loc (c : Thread nD τ) ↦[dst.view.set]{fullShare} (dst.view.write (Elt F) fd X Finset.univ) : sProp 𝕄) ⊢ D)
    {α : Type} {k : PUnit → Prog (TpuEff nD τ sig (Elt F) Λ₀ .tc) α} {Q : α → sProp 𝕄} :
    iprop(owns (c : Thread nD τ) src q X ∗ (dst.view.loc (c : Thread nD τ) ↦[dst.view.set]{fullShare} fd) ∗ sv0 c sm)
      ⊢ iprop((Fl c sm dst.view.dmaCredit iprop(D ∗ owns (c : Thread nD τ) src q X) -∗ WPc c (k ⟨⟩) Q)
        -∗ WPc c (.op (.enqueueDma src (.here dst) (.dma sm) hsrc hdst hsem) k) Q) := by
  have hu : (owns (c : Thread nD τ) src q X : sProp 𝕄) = iprop(∃ f, ⌜src.view.read (Elt F) f = X⌝ ∗ (src.view.loc (c : Thread nD τ) ↦[src.view.set]{q} f)) := rfl
  rw [hu]
  iintro ⟨⟨%f, %hf, Hs⟩, Hd, Hv⟩ Hk
  subst hf
  iapply (Transfers.wp_dmaLocal EC 𝒱₀ (c : Thread nD τ) none (src := src) (via := .same) (dst := dst) (sm := .dma sm) (q := q) (fs := f) (fd := fd) () dst.view.dmaCredit rfl h0 (Finset.Subset.refl _)) $$ [Hs Hd Hv]
  · isplitl [Hs]; · iexact Hs
    isplitl [Hd]; · iexact Hd
    iexact Hv
  iintro Hf
  iapply Hk
  iapply (Transfers.Flight_mono EC (c : Thread nD τ) (sep_mono' hD (owns_of_pts src q f))) $$ Hf

/-- A local transfer waited for. -/
theorem wp_local_wait {c : Dev nD} {σ : Fin 16 → ℕ} {sm : DmaSem sig} (hlv : lv ((c : Thread nD τ), .dma sm) () ≤ 0) {N : ℕ} {D : sProp 𝕄}
    {S S' : Shape} {e e' : EltTy} {sp sp' : Space} {sw : Memref sig .tc sp' S' e'} {dw : Memref sig .tc sp S e} {hsrc : sw.view.WordExact} {hdst : dw.view.WordExact}
    (hamt : dw.view.dmaCredit = N) {α : Type} {R : Prog (TpuEff nD τ sig (Elt F) Λ₀ .tc) α} {Q : α → sProp 𝕄} :
    iprop(Full m K c σ ∗ Fl c sm N D) ⊢ iprop((iprop(Full m K c σ ∗ D ∗ sv0 c sm) -∗ WPc c R Q)
      -∗ WPc c (Prog.lift (.waitDma2 sm sw dw hsrc hdst) >>= fun _ => R) Q) := by
  rw [lift_bind]
  unfold Full
  iintro ⟨⟨#Hr, #Hl, ⟨%W, Ho⟩, HS⟩, Hf⟩ Hk
  iapply (Transfers.wp_waitLocalO EC 𝒱₀ (c : Thread nD τ) none (srcw := sw) (dstw := dw) (k := fun _ => R) () hamt (O := Debt c σ) (W := W)) $$ [Ho Hf]
  · isplitl [Hf]; · iexact Hf
    isplitl [Ho]; · iexact Ho
    iapply (mayWait_low c (.dma sm) σ 0 hlv (Or.inl rfl)) $$ Hl
  iintro ⟨HD, Hv, Ho⟩
  iapply Hk
  isplitr [HD Hv]
  · isplitr; · iexact Hr
    isplitr; · iexact Hl
    isplitl [Ho]; · iexists _; iexact Ho
    iexact HS
  isplitl [HD]; · iexact HD
  iexact Hv

/-! ## `x` -/

abbrev xSem : DmaSem sig := cc0_scratch6.sem
abbrev oSem : DmaSem sig := cc0_scratch8.sem
theorem lv_x (c : Dev nD) : lv ((c : Thread nD τ), .dma xSem) () ≤ 0 := Nat.le_of_eq rfl
theorem lv_o (c : Dev nD) : lv ((c : Thread nD τ), .dma oSem) () ≤ 0 := Nat.le_of_eq rfl
theorem lv_w (c : Dev nD) (b : Fin 2) : lv ((c : Thread nD τ), .dma (wSem b)) () ≤ 0 := by
  fin_cases b <;> exact Nat.le_of_eq rfl

def X0 (c : Dev nD) : sProp 𝕄 := iprop(owns (c : Thread nD τ) xH fullShare (xC m c) ∗ (∃ X, owns (c : Thread nD τ) xM fullShare X) ∗ sv0 c xSem)
def X1 (c : Dev nD) : sProp 𝕄 := Fl c xSem xM.view.dmaCredit iprop(owns (c : Thread nD τ) xM fullShare (xC m c) ∗ owns (c : Thread nD τ) xH fullShare (xC m c))
def X2 (c : Dev nD) : sProp 𝕄 := iprop(owns (c : Thread nD τ) xM fullShare (xC m c) ∗ owns (c : Thread nD τ) xH fullShare (xC m c) ∗ sv0 c xSem)

theorem step_x {c : Dev nD} {hsrc} {hdst} {hsem} {α : Type} {R : Prog (TpuEff nD τ sig (Elt F) Λ₀ .tc) α} {Q : α → sProp 𝕄} :
    X0 m c ⊢ iprop((X1 m c -∗ WPc c R Q) -∗ WPc c (Prog.lift (.enqueueDma xH (.here xM) (.dma xSem) hsrc hdst hsem) >>= fun _ => R) Q) := by
  rw [lift_bind]
  unfold X0 X1
  have hu X : (owns (c : Thread nD τ) xM fullShare X : sProp 𝕄) = iprop(∃ f, ⌜xM.view.read (Elt F) f = X⌝ ∗ (xM.view.loc (c : Thread nD τ) ↦[xM.view.set]{fullShare} f)) := rfl
  iintro ⟨Hs, ⟨%X, Hd⟩, Hv⟩
  ihave Hd := (Entails.of_eq (hu X)) $$ Hd
  icases Hd with ⟨%f, _, Hd⟩
  iapply (wp_local xH xM (X := xC m c) (fd := f) (D := owns (c : Thread nD τ) xM fullShare (xC m c)) (View.dmaCredit_pos _ (by decide))
    (owns_at xM fullShare _ (View.read_write_univ (v := xM.view) f (xC m c))) (k := fun _ => R))
  isplitl [Hs]; · iexact Hs
  isplitl [Hd]; · iexact Hd
  iexact Hv

theorem step_xwait {c : Dev nD} {σ : Fin 16 → ℕ} {hsrc} {hdst} {α : Type} {R : Prog (TpuEff nD τ sig (Elt F) Λ₀ .tc) α} {Q : α → sProp 𝕄} :
    iprop(Full m K c σ ∗ X1 m c) ⊢ iprop((iprop(Full m K c σ ∗ X2 m c) -∗ WPc c R Q)
      -∗ WPc c (Prog.lift (.waitDma2 xSem xH xM hsrc hdst) >>= fun _ => R) Q) := by
  unfold X1 X2
  iintro H Hk
  iapply (wp_local_wait m K (lv_x c) (sw := xH) (dw := xM) rfl) $$ H
  iintro ⟨H, ⟨H1, H2⟩, H3⟩
  iapply Hk
  isplitl [H]; · iexact H
  isplitl [H1]; · iexact H1
  isplitl [H2]; · iexact H2
  iexact H3

/-! ## `w` -/

abbrev halfS (b : Fin 2) : PosShare TreeShare := if b.val = 0 then (fullShare : PosShare TreeShare).left else (fullShare : PosShare TreeShare).right
def wColV (c : Dev nD) (u : Fin 8) : Vec F S4096x256 .f32 := fun j => wC m c ((colR u).emb j)
abbrev wColP (c : Dev nD) (b : Fin 2) (u : Fin 8) : sProp 𝕄 := owns (c : Thread nD τ) (wCol u) (halfS b) (wColV m c u)
abbrev wSq (b : Fin 2) : Memref sig .tc .vmem S4096x256 .f32 := (wSlot b).squeeze S4096x256 squeezes_S1x4096x256_S4096x256
abbrev NW : ℕ := (wSq 0).view.dmaCredit

/-- Landing slot `b` of `w`: free, with column block `u` on its way, with it landed. -/
def W0 (c : Dev nD) (b : Fin 2) : sProp 𝕄 :=
  iprop((bigSep Finset.univ fun u => wColP m c b u) ∗ (∃ X, owns (c : Thread nD τ) (wSlot b) fullShare X) ∗ sv0 c (wSem b))
def W1 (c : Dev nD) (b : Fin 2) (u : Fin 8) : sProp 𝕄 :=
  iprop((bigSep (Finset.univ.erase u) fun u => wColP m c b u) ∗ Fl c (wSem b) NW iprop(owns (c : Thread nD τ) (wSlot b) fullShare (wB m c u) ∗ wColP m c b u))
def W2 (c : Dev nD) (b : Fin 2) (u : Fin 8) : sProp 𝕄 :=
  iprop((bigSep Finset.univ fun u => wColP m c b u) ∗ owns (c : Thread nD τ) (wSlot b) fullShare (wB m c u) ∗ sv0 c (wSem b))

theorem W2_free (c : Dev nD) (b : Fin 2) (u : Fin 8) : W2 m c b u ⊢ W0 m c b := by
  unfold W0 W2
  iintro ⟨H1, H2, H3⟩
  isplitl [H1]; · iexact H1
  isplitl [H2]; · iexists _; iexact H2
  iexact H3

open Idealize.ShloMosaic.ValueIdx in
theorem wB_sq (c : Dev nD) (u : Fin 8) (h : S4096x256.numel = S1x4096x256.numel) (x : S4096x256.Idx) : wB m c u (Shape.reshapeEquiv h x) = wColV m c u x := by
  obtain ⟨a, b, rfl⟩ : ∃ (a : Fin 4096) (b : Fin 256), x = ix2 a b := ⟨x 0, x 1, eq_ix2 x⟩
  unfold wB wColV
  rw [show Shape.reshapeEquiv h (ix2 a b) = ix3 (⟨0, Nat.one_pos⟩ : Fin 1) a b from reshapeEquiv_ix2_1ab h a b]
  refine congrArg (fun j => wC m c ((colR u).emb j)) (funext fun d => ?_)
  match d with | ⟨0, _⟩ => rfl | ⟨1, _⟩ => rfl

theorem wcol_split (c : Dev nD) (b : Fin 2) (u : Fin 8) :
    (bigSep Finset.univ fun u => wColP m c b u) = iprop(wColP m c b u ∗ bigSep (Finset.univ.erase u) fun u => wColP m c b u) := BI.bigSep_univ_split u

theorem step_w {c : Dev nD} (b : Fin 2) (u : Fin 8) {ob : Fin 3 → Nat} (hob : ob = ![b.val, 0, 0]) {os : Fin 1 → Nat} (hos : os = ![b.val])
    {oc : Fin 2 → Nat} (hoc : oc = ![0, 256 * u.val]) {ib is ic} {hsrc} {hdst} {hsem}
    {α : Type} {R : Prog (TpuEff nD τ sig (Elt F) Λ₀ .tc) α} {Q : α → sProp 𝕄} :
    W0 m c b ⊢ iprop((W1 m c b u -∗ WPc c R Q) -∗ WPc c (Prog.lift (.enqueueDma (wH.slice (Rect.unit (s := S4096x2048) oc S4096x256.size ic) (fun _ => rfl))
      (.here ((wM.slice (Rect.unit (s := S2x4096x256) ob S1x4096x256.size ib) (fun _ => rfl)).squeeze S4096x256 squeezes_S1x4096x256_S4096x256))
      (.dma ((cc0_scratch7.slice (Rect.unit (s := S2) os S1.size is)).squeeze S_ squeezes_S1_S_).sem) hsrc hdst hsem) >>= fun _ => R) Q) := by
  subst hob hos hoc
  rw [lift_bind]
  unfold W0 W1
  have hu X : (owns (c : Thread nD τ) (wSlot b) fullShare X : sProp 𝕄) = iprop(∃ f, ⌜(wSlot b).view.read (Elt F) f = X⌝ ∗ ((wSlot b).view.loc (c : Thread nD τ) ↦[(wSlot b).view.set]{fullShare} f)) := rfl
  have e1 : (wSq b).view.set = (wSlot b).view.set := View.set_reshape _ _
  have hs := wcol_split m c b u
  iintro ⟨Hs, ⟨%X, Hd⟩, Hv⟩
  ihave Hs := (Entails.of_eq hs) $$ Hs
  icases Hs with ⟨Hs, Hrest⟩
  ihave Hd := (Entails.of_eq (hu X)) $$ Hd
  icases Hd with ⟨%f, _, Hd⟩
  iintro Hk
  iapply (wp_local (wCol u) (wSq b) (q := halfS b) (X := wColV m c u) (fd := f) (D := owns (c : Thread nD τ) (wSlot b) fullShare (wB m c u)) (View.dmaCredit_pos _ (by decide))
    (by
      rw [e1]
      refine owns_at (wSlot b) fullShare _ (funext fun i => ?_)
      obtain ⟨x, rfl⟩ := (Shape.reshapeEquiv (show S4096x256.numel = S1x4096x256.numel from squeezes_S1x4096x256_S4096x256.numel_eq)).surjective i
      rw [wB_sq]
      exact View.read_write_reshape _ _ _ _ _) (k := fun _ => R)) $$ [Hs Hd Hv]
  · isplitl [Hs]; · iexact Hs
    isplitl [Hd]; · iapply (Entails.of_eq (by rw [e1])) $$ Hd
    iexact Hv
  iintro H
  iapply Hk
  isplitl [Hrest]; · iexact Hrest
  iexact H

theorem step_wwait {c : Dev nD} {σ : Fin 16 → ℕ} (b : Fin 2) (u : Fin 8) {os : Fin 1 → Nat} (hos : os = ![b.val]) {is}
    {S S' : Shape} {e e' : EltTy} {sp sp' : Space} {sw : Memref sig .tc sp' S' e'} {dw : Memref sig .tc sp S e} {hsrc : sw.view.WordExact} {hdst : dw.view.WordExact}
    (hamt : dw.view.dmaCredit = NW) {α : Type} {R : Prog (TpuEff nD τ sig (Elt F) Λ₀ .tc) α} {Q : α → sProp 𝕄} :
    iprop(Full m K c σ ∗ W1 m c b u) ⊢ iprop((iprop(Full m K c σ ∗ W2 m c b u) -∗ WPc c R Q)
      -∗ WPc c (Prog.lift (.waitDma2 ((cc0_scratch7.slice (Rect.unit (s := S2) os S1.size is)).squeeze S_ squeezes_S1_S_).sem sw dw hsrc hdst) >>= fun _ => R) Q) := by
  subst hos
  unfold W1 W2
  have hs := wcol_split m c b u
  iintro ⟨H, Hrest, Hf⟩ Hk
  iapply (wp_local_wait m K (lv_w c b) (sw := sw) (dw := dw) hamt) $$ [H Hf]
  · isplitl [H]; · iexact H
    iexact Hf
  iintro ⟨H, ⟨H1, H2⟩, H3⟩
  iapply Hk
  isplitl [H]; · iexact H
  isplitl [H2 Hrest]
  · iapply (Entails.of_eq hs.symm)
    isplitl [H2]; · iexact H2
    iexact Hrest
  isplitl [H1]; · iexact H1
  iexact H3

/-! ## Loads -/

theorem step_xload {c : Dev nD} {inb} {hl} {α : Type} {k : Vec F S256x4096 .f32 → Prog (TpuEff nD τ sig (Elt F) Λ₀ .tc) α} {Q : α → sProp 𝕄} :
    X2 m c ⊢ iprop((X2 m c -∗ WPc c (k (xC m c)) Q) -∗ WPc c (Prog.lift (.load (cs := .vmem) xM (Rect.unit (s := S256x4096) ![0, 0] S256x4096.size inb).toLoadRect hl) >>= k) Q) := by
  rw [lift_bind]
  unfold X2
  have hw : (owns (c : Thread nD τ) xM fullShare (xC m c) : sProp 𝕄) = ((c : Thread nD τ).loc cc0_scratch0) ↦{fullShare} (xC m c) := owns_whole _ _ _ _
  have hr : (xM.view.readAt (Elt F) (Rect.unit (s := S256x4096) ![0, 0] S256x4096.size inb).toLoadRect (xC m c) : Vec F S256x4096 .f32) = xC m c :=
    Memref.readAt_unit_zero (Elt F) cc0_scratch0 (funext fun a => by match a with | ⟨0, _⟩ => rfl | ⟨1, _⟩ => rfl) inb _
  rw [hw]
  iintro ⟨H1, H2⟩ Hk
  iapply (wp_load 𝒱₀ (c : Thread nD τ) none Set.univ (m := xM) (r := (Rect.unit (s := S256x4096) ![0, 0] S256x4096.size inb).toLoadRect) (cs := .vmem) (f := xC m c) (Finset.subset_univ _)) $$ H1
  iintro H1
  iapply (Entails.of_eq (show WPc c (k (xC m c)) Q = WPc c (k (xM.view.readAt (Elt F) (Rect.unit (s := S256x4096) ![0, 0] S256x4096.size inb).toLoadRect (xC m c))) Q by rw [hr]))
  iapply Hk
  isplitl [H1]; · iexact H1
  iexact H2

theorem step_wload {c : Dev nD} (b : Fin 2) (u : Fin 8) {off : Fin 3 → Nat} (ho : off = ![b.val, 0, 0]) {inb} {hl} {α : Type}
    {k : Vec F S1x4096x256 .f32 → Prog (TpuEff nD τ sig (Elt F) Λ₀ .tc) α} {Q : α → sProp 𝕄} :
    W2 m c b u ⊢ iprop((W2 m c b u -∗ WPc c (k (wB m c u)) Q) -∗ WPc c (Prog.lift (.load (cs := .vmem) wM (Rect.unit (s := S2x4096x256) off S1x4096x256.size inb).toLoadRect hl) >>= k) Q) := by
  subst ho
  rw [lift_bind]
  unfold W2
  iintro ⟨H1, H2, H3⟩ Hk
  iapply (wp_own_load (M := wM) (r := wR b) (hr := fun _ => rfl)) $$ H2
  iintro H2
  iapply Hk
  isplitl [H1]; · iexact H1
  isplitl [H2]; · iexact H2
  iexact H3

end Cert.KernelIdeal.Hand
end
-- ==== Proof.KernelIdeal.Run.lean ====
/-
How the body's statements are run: stages of all peers as thresholds, the body's arguments, the ends of a part.
-/
module

public import proofs.«01_k».proof.Proof.KernelIdeal.Local

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-- Peers below `k` at stage `b`, the others at stage `a`. -/
def stg (a b k : ℕ) (s : Fin 16) : ℕ := if s.val < k then b else a
theorem stg_lo {a b k : ℕ} (s : Fin 16) (h : s.val = k) : stg a b k s = a := if_neg (by omega)
theorem stg_hi {a b k : ℕ} (s : Fin 16) (h : s.val = k) : stg a b (k + 1) s = b := if_pos (by omega)
theorem stg_ne {a b k : ℕ} (s : Fin 16) (h : s.val = k) (j : Fin 16) (hj : j ≠ s) : stg a b (k + 1) j = stg a b k j := by
  have : j.val ≠ k := fun e => hj (Fin.ext (e.trans h.symm))
  unfold stg
  by_cases h1 : j.val < k
  · rw [if_pos h1, if_pos (by omega)]
  · rw [if_neg h1, if_neg (by omega)]
theorem stg_all {a b : ℕ} (s : Fin 16) : stg a b 16 s = b := if_pos s.isLt
theorem stg_none {a b : ℕ} (s : Fin 16) : stg a b 0 s = a := if_neg (Nat.not_lt_zero _)
theorem stg_next {a b b' : ℕ} : stg a b 16 = stg b b' 0 := funext fun s => by rw [stg_all, stg_none]
theorem stg_ge {a b n k : ℕ} (ha : n ≤ a) (hb : n ≤ b) (s : Fin 16) : n ≤ stg a b k s := by unfold stg; split <;> assumption

/-- A part of the body at the body's arguments. -/
@[reducible] def App {β : Type 1} (f : ∀ (arg0 : Memref sig .tc .hbm S256x4096 .f32) (harg0 : arg0.IsWhole) (arg1 : Memref sig .tc .hbm S4096x2048 .f32) (harg1 : arg1.IsWhole)
    (arg2 : Memref sig .tc .hbm S4096x128 .f32) (harg2 : arg2.IsWhole) (arg3 : Memref sig .tc .vmem S256x4096 .f32) (harg3 : arg3.IsWhole)
    (arg4 : Memref sig .tc .vmem S2x4096x256 .f32) (harg4 : arg4.IsWhole) (arg5 : Memref sig .tc .vmem S16x256x128 .bf16) (harg5 : arg5.IsWhole)
    (arg6 : Memref sig .tc .vmem S16x256x128 .bf16) (harg6 : arg6.IsWhole) (arg7 : Memref sig .tc .vmem S4096x128 .f32) (harg7 : arg7.IsWhole)
    (arg8 : Memref sig .tc .vmem S16x8x128 .f32) (harg8 : arg8.IsWhole) (arg9 : DmaSems sig S_) (arg10 : DmaSems sig S2) (arg11 : DmaSems sig S_)
    (arg12 : DmaSems sig S16) (arg13 : DmaSems sig S16) (arg14 : DmaSems sig S16) (arg15 : DmaSems sig S16), β) : β :=
  f xH (Memref.isWhole_whole _) wH (Memref.isWhole_whole _) oH (Memref.isWhole_whole _) xM (Memref.isWhole_whole _) wM (Memref.isWhole_whole _)
    sndM (Memref.isWhole_whole _) rcvM (Memref.isWhole_whole _) stgM (Memref.isWhole_whole _) amxM (Memref.isWhole_whole _)
    cc0_scratch6 cc0_scratch7 cc0_scratch8 cc0_scratch9 cc0_scratch10 cc0_scratch11 cc0_scratch12

/-- The mesh position as the body computes it, and the barrier semaphore. -/
abbrev posW (c : Dev nD) : BitVec 32 := Scalar.remsi (Scalar.divsi (Dev.word c) 1#32) 16#32
abbrev barA : Sems sig S_ := SemArray.scalar (sig.barrier 0 rfl)

/-- A program run on device `c` to a postcondition. -/
def WPd (c : Dev nD) {α : Type} (p : Prog (TpuEff nD τ sig (Elt F) Λ₀ .tc) α) (Q : α → sProp 𝕄) : sProp 𝕄 := WPc c p Q

theorem ret {c : Dev nD} {α : Type} {v : α} {A : sProp 𝕄} : A ⊢ WPd c (pure v : Prog (TpuEff nD τ sig (Elt F) Λ₀ .tc) α) (fun r => iprop(⌜r = v⌝ ∗ A)) := by
  show A ⊢ wp _ _ _ (.ret v) _
  rw [wp_ret]
  iintro H
  imodintro
  isplitr
  · ipureintro; rfl
  iexact H

theorem ret' {c : Dev nD} {α : Type} {v : α} {φ : α → Prop} {A : sProp 𝕄} (h : φ v) :
    A ⊢ WPd c (pure v : Prog (TpuEff nD τ sig (Elt F) Λ₀ .tc) α) (fun r => iprop(⌜φ r⌝ ∗ A)) := by
  show A ⊢ wp _ _ _ (.ret v) _
  rw [wp_ret]
  iintro H
  imodintro
  isplitr
  · ipureintro; exact h
  iexact H

/-- One part run, what is known of its returned values used in the rest. -/
theorem chain {c : Dev nD} {α β : Type} {p : Prog (TpuEff nD τ sig (Elt F) Λ₀ .tc) α} {k : α → Prog (TpuEff nD τ sig (Elt F) Λ₀ .tc) β} {φ : α → Prop}
    {A A' : sProp 𝕄} {Q : β → sProp 𝕄} (h : A ⊢ WPd c p (fun r => iprop(⌜φ r⌝ ∗ A'))) (hk : ∀ r, φ r → (A' ⊢ WPd c (k r) Q)) : A ⊢ WPd c (p >>= k) Q := by
  show A ⊢ wp _ _ _ (p >>= k) _
  rw [wp_bind]
  have h : A ⊢ WPc c p (fun r => iprop(⌜φ r⌝ ∗ A')) := h
  have hk : ∀ r, φ r → (A' ⊢ WPc c (k r) Q) := hk
  iintro H
  ihave H := h $$ H
  iapply (wp_wand _ _ _) $$ H
  iintro %r ⟨%hr, H⟩
  iapply hk r hr $$ H

theorem step_dev {c : Dev nD} {α : Type} {k : Dev nD → Prog (TpuEff nD τ sig (Elt F) Λ₀ .tc) α} {Q : α → sProp 𝕄} {A : sProp 𝕄} (h : A ⊢ WPd c (k c) Q) :
    A ⊢ WPd c (Prog.lift .deviceId >>= k) Q := by
  rw [lift_bind]
  show A ⊢ wp _ _ _ (.op .deviceId k) _
  rw [wp_deviceId]
  exact h

theorem sig_at {c : Dev nD} {k : ℕ} (s : Fin 16) (h : s.val = k) {cond : Prop} {inst : Decidable cond} {dv : cond → Dev nD}
    (hc : cond ↔ s ≠ c) (hdv : ∀ h, dv h = s)
    {α : Type} {R : Prog (TpuEff nD τ sig (Elt F) Λ₀ .tc) α} {Q : α → sProp 𝕄} {P : sProp 𝕄} (hk : iprop(Full m K c (stg 0 1 (k + 1)) ∗ P) ⊢ WPd c R Q) :
    iprop(Full m K c (stg 0 1 k) ∗ P) ⊢ WPd c (dite cond (fun h => (semSignalWord (dv h) barS 1#32 >>= fun _ => R)) (fun _ => R)) Q :=
  stepA (step_sig m K s hc hdv (stg_lo s h) (stg_hi s h) (stg_ne s h)) hk

end Cert.KernelIdeal.Hand
end
-- ==== Proof.KernelIdeal.At.lean ====
/-
The steps of the exchange of blocks, at the stages the body takes them.
-/
module

public import proofs.«01_k».proof.Proof.KernelIdeal.Run

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## The order device `c` serves its peers in -/

def rank (c : Dev nD) (s : Fin 16) : ℕ := 2 * ((s.val / 2 + 8 - c.val / 2) % 8) + s.val % 2
theorem rank_peer (c : Dev nD) (t : Fin 8) (j : Fin 2) : rank c (peerOf c t j) = 2 * t.val + j.val := by revert c t j; decide +kernel
theorem rank_inj (c : Dev nD) : ∀ s s' : Fin 16, rank c s = rank c s' → s = s' := by revert c; decide +kernel
theorem rank_lt (c : Dev nD) (s : Fin 16) : rank c s < 16 := by revert c s; decide +kernel

/-- Stages while device `c` serves its `k`-th peer: those before it are done, those after it wait. -/
def chk (c : Dev nD) (k i : ℕ) (s : Fin 16) : ℕ := if rank c s < k then 5 else if rank c s = k then 2 + i else 2
theorem chk_at {c : Dev nD} {k i : ℕ} {s : Fin 16} (h : rank c s = k) : chk c k i s = 2 + i := by
  unfold chk; rw [if_neg (by omega), if_pos h]
theorem chk_ne {c : Dev nD} {k : ℕ} {s : Fin 16} (h : rank c s = k) (i i' : ℕ) (j : Fin 16) (hj : j ≠ s) : chk c k i j = chk c k i' j := by
  have : rank c j ≠ k := fun e => hj (rank_inj c j s (e.trans h.symm))
  unfold chk; rw [if_neg this, if_neg this]
theorem chk_adv (c : Dev nD) (k : ℕ) : chk c k 3 = chk c (k + 1) 0 := funext fun s => by
  unfold chk
  by_cases h1 : rank c s < k
  · rw [if_pos h1, if_pos (by omega)]
  · by_cases h2 : rank c s = k
    · rw [if_neg h1, if_pos h2, if_pos (by omega)]
    · rw [if_neg h1, if_neg h2, if_neg (by omega)]; split <;> rfl
theorem chk_first (c : Dev nD) (s : Fin 16) : chk c 0 0 s = 2 := by unfold chk; rw [if_neg (Nat.not_lt_zero _)]; split <;> rfl
theorem chk_last (c : Dev nD) : chk c 16 0 = stg 5 6 0 := funext fun s => by unfold chk; rw [if_pos (rank_lt c s), stg_none]

/-! ## What the peers of chunk `t` are sent -/

theorem sendV_of0 {c : Dev nD} {t : Fin 8} {w : Vec F S1x256x128 .bf16} (h : w = k0_pay14 (xC m c) (wB m c (chunkIx c t))) : w = sendV m c (peerOf c t 0) := by
  subst h; unfold sendV
  have e : (⟨(peerOf c t 0).val / 2, by have := (peerOf c t 0).isLt; omega⟩ : Fin 8) = chunkIx c t := Fin.ext (by show (2 * (chunkIx c t).val + 0) / 2 = _; omega)
  rw [if_pos (by show (2 * (chunkIx c t).val + 0) % 2 = 0; omega), e]
theorem sendV_of1 {c : Dev nD} {t : Fin 8} {w : Vec F S1x256x128 .bf16} (h : w = k0_pay17 (xC m c) (wB m c (chunkIx c t))) : w = sendV m c (peerOf c t 1) := by
  subst h; unfold sendV
  have e : (⟨(peerOf c t 1).val / 2, by have := (peerOf c t 1).isLt; omega⟩ : Fin 8) = chunkIx c t := Fin.ext (by show (2 * (chunkIx c t).val + 1) / 2 = _; omega)
  rw [if_neg (by show ¬ (2 * (chunkIx c t).val + 1) % 2 = 0; omega), e]

/-! ## Loads whose value is not used, and the store of a block -/

theorem step_sndl {c : Dev nD} {σ : Fin 16 → ℕ} (s : Fin 16) (h0 : σ s = 2)
    {off : Fin 3 → Nat} (ho : off = off3 s) {inb} {hl}
    {α : Type} {R : Prog (TpuEff nD τ sig (Elt F) Λ₀ .tc) α} {Q : α → sProp 𝕄} :
    Full m K c σ ⊢ iprop((Full m K c σ -∗ WPc c R Q)
      -∗ WPc c (Prog.lift (.load (cs := .vmem) sndM (Rect.unit (s := S16x256x128) off S1x256x128.size inb).toLoadRect hl) >>= fun _ => R) Q) := by
  subst ho
  rw [lift_bind]
  have E := Full_open m K (c := c) (σ' := σ) s h0 h0 (fun _ _ => rfl)
  have E2 : Slot m c s 2 ⊢ iprop(sndE c s ∗ (sndE c s -∗ Slot m c s 2)) := by
    by_cases h : s = c
    · subst h
      rw [Slot_own]; simp only [Own]
      iintro ⟨H1, H2⟩
      isplitl [H1]; · iexact H1
      iintro H1
      isplitl [H1]; · iexact H1
      iexact H2
    · rw [Slot_peer m h]; simp only [Peer]
      iintro ⟨H0, H1, H2⟩
      isplitl [H1]; · iexact H1
      iintro H1
      isplitl [H0]; · iexact H0
      isplitl [H1]; · iexact H1
      iexact H2
  iintro H Hk
  ihave H := E $$ H
  icases H with ⟨_, Ho, Hs, Hc⟩
  ihave Hs := E2 $$ Hs
  icases Hs with ⟨Hs, Hcs⟩
  ihave Hs := (Entails.of_eq (show sndE (F := F) c s = iprop(∃ X, sndP c s X) from rfl)) $$ Hs
  icases Hs with ⟨%X, Hs⟩
  iapply (wp_own_load (M := sndM) (r := blkR s) (hr := fun _ => rfl) (k := fun _ => R)) $$ Hs
  iintro Hs
  iapply Hk
  iapply Hc
  isplitl [Ho]; · iexact Ho
  iapply Hcs
  iapply (Entails.of_eq (show sndE (F := F) c s = iprop(∃ X, sndP c s X) from rfl).symm)
  iexists X; iexact Hs

theorem step_snds {c : Dev nD} {σ σ' : Fin 16 → ℕ} (s : Fin 16) (h0 : σ s = 2) (h1 : σ' s = 3) (hσ : ∀ j, j ≠ s → σ' j = σ j)
    {off : Fin 3 → Nat} (ho : off = off3 s) {inb} {w : Vec F S1x256x128 .bf16} {hx} {hm} (hw : w = sendV m c s)
    {α : Type} {R : Prog (TpuEff nD τ sig (Elt F) Λ₀ .tc) α} {Q : α → sProp 𝕄} :
    Full m K c σ ⊢ iprop((Full m K c σ' -∗ WPc c R Q)
      -∗ WPc c (Prog.lift (.store (cs := .vmem) sndM (Rect.unit (s := S16x256x128) off S1x256x128.size inb) w Finset.univ hx hm) >>= fun _ => R) Q) := by
  subst ho hw
  rw [lift_bind]
  have hD := Debt_same (c := c) s h0 h1 hσ (debt_snd c s)
  have E := Full_open m K (c := c) s h0 h1 hσ
  have E2 := Slot_snd m c s
  iintro H Hk
  ihave H := E $$ H
  icases H with ⟨_, Ho, Hs, Hc⟩
  ihave Hs := E2 $$ Hs
  icases Hs with ⟨Hs, Hcs⟩
  ihave Hs := (Entails.of_eq (show sndE (F := F) c s = iprop(∃ X, sndP c s X) from rfl)) $$ Hs
  icases Hs with ⟨%X, Hs⟩
  iapply (wp_own_store (M := sndM) (r := blkR s) (hr := fun _ => rfl) (k := fun _ => R)) $$ Hs
  iintro Hs
  iapply Hk
  iapply Hc
  isplitl [Ho]; · iapply (Entails.of_eq (by rw [hD])) $$ Ho
  iapply Hcs
  iexact Hs

/-! ## The steps at the body's stages -/

section At
variable {c : Dev nD}

theorem sndl_at {P : sProp 𝕄} (t : Fin 8) (j : Fin 2) {k : ℕ} (h : 2 * t.val + j.val = k) {off : Fin 3 → Nat} (ho : off = off3 (peerOf c t j)) {inb} {hl}
    {α : Type} {R : Prog (TpuEff nD τ sig (Elt F) Λ₀ .tc) α} {Q : α → sProp 𝕄} (hk : iprop(Full m K c (chk c k 0) ∗ P) ⊢ WPd c R Q) :
    iprop(Full m K c (chk c k 0) ∗ P) ⊢ WPd c (Prog.lift (.load (cs := .vmem) sndM (Rect.unit (s := S16x256x128) off S1x256x128.size inb).toLoadRect hl) >>= fun _ => R) Q :=
  stepA (step_sndl m K (peerOf c t j) (chk_at ((rank_peer c t j).trans h)) ho) hk

theorem snds_at {P : sProp 𝕄} (t : Fin 8) (j : Fin 2) {k : ℕ} (h : 2 * t.val + j.val = k) {off : Fin 3 → Nat} (ho : off = off3 (peerOf c t j)) {inb}
    {w : Vec F S1x256x128 .bf16} {hx} {hm} (hw : w = sendV m c (peerOf c t j))
    {α : Type} {R : Prog (TpuEff nD τ sig (Elt F) Λ₀ .tc) α} {Q : α → sProp 𝕄} (hk : iprop(Full m K c (chk c k 1) ∗ P) ⊢ WPd c R Q) :
    iprop(Full m K c (chk c k 0) ∗ P) ⊢ WPd c (Prog.lift (.store (cs := .vmem) sndM (Rect.unit (s := S16x256x128) off S1x256x128.size inb) w Finset.univ hx hm) >>= fun _ => R) Q :=
  stepA (step_snds m K (peerOf c t j) (chk_at ((rank_peer c t j).trans h)) (chk_at ((rank_peer c t j).trans h)) (chk_ne ((rank_peer c t j).trans h) 1 0) ho hw) hk

theorem keep_at {P : sProp 𝕄} (t : Fin 8) (j : Fin 2) {k : ℕ} (h : 2 * t.val + j.val = k) {cond : Prop} {inst : Decidable cond} (hc : cond ↔ peerOf c t j = c)
    {off : Fin 3 → Nat} (ho : off = off3 c) {inb inb' : cond → ∀ a, off a + S1x256x128.size a ≤ S16x256x128.size a}
    {hl : ∀ h : cond, rcvM.view.LoadsAt (Rect.unit (s := S16x256x128) off S1x256x128.size (inb h)).toLoadRect} {w : Vec F S1x256x128 .bf16}
    {hx : ∀ h : cond, (rcvM.access (Rect.unit (s := S16x256x128) off S1x256x128.size (inb' h))).Stores Finset.univ} {hm : ∀ h : cond, (Finset.univ : Finset (Rect.unit (s := S16x256x128) off S1x256x128.size (inb' h)).shape.Idx) = Finset.univ ∨ ∀ a, (Rect.unit (s := S16x256x128) off S1x256x128.size (inb' h)).stride a = 1}
    (hw : w = sendV m c (peerOf c t j))
    {α : Type} {R : Prog (TpuEff nD τ sig (Elt F) Λ₀ .tc) α} {Q : α → sProp 𝕄} (hk : iprop(Full m K c (chk c k 2) ∗ P) ⊢ WPd c R Q) :
    iprop(Full m K c (chk c k 1) ∗ P) ⊢ WPd c (dite cond (fun h =>
          (Prog.lift (.load (cs := .vmem) rcvM (Rect.unit (s := S16x256x128) off S1x256x128.size (inb h)).toLoadRect (hl h)) >>= fun _ =>
            Prog.lift (.store (cs := .vmem) rcvM (Rect.unit (s := S16x256x128) off S1x256x128.size (inb' h)) w Finset.univ (hx h) (hm h)) >>= fun _ => R))
          (fun _ => R)) Q :=
  stepA (step_keep m K (peerOf c t j) hc (chk_at ((rank_peer c t j).trans h)) (chk_at ((rank_peer c t j).trans h)) (chk_ne ((rank_peer c t j).trans h) 2 1) ho
    (fun hh => hw.trans (by rw [hc.mp hh]))) hk

theorem send_at {P : sProp 𝕄} (t : Fin 8) (j : Fin 2) {k : ℕ} (h : 2 * t.val + j.val = k) {cond : Prop} {inst : Decidable cond} {dv : cond → Dev nD}
    (hc : cond ↔ peerOf c t j ≠ c) (hdv : ∀ h, dv h = peerOf c t j)
    {o1 o2 : Fin 1 → Nat} {o3 o4 : Fin 3 → Nat} (e1 : o1 = ![(peerOf c t j).val]) (e2 : o2 = ![c.val]) (e3 : o3 = off3 c) (e4 : o4 = off3 (peerOf c t j))
    {i1 : cond → ∀ a, o1 a + S1.size a ≤ S16.size a} {i2 : cond → ∀ a, o2 a + S1.size a ≤ S16.size a}
    {i3 : cond → ∀ a, o3 a + S1x256x128.size a ≤ S16x256x128.size a} {i4 : cond → ∀ a, o4 a + S1x256x128.size a ≤ S16x256x128.size a}
    {hsc : ∀ h : cond, ((rcvM.slice (Rect.unit (s := S16x256x128) o3 S1x256x128.size (i3 h)) (fun _ => rfl)).squeeze S256x128 squeezes_S1x256x128_S256x128).view.ref.isScScratch = false}
    {hsrc : ∀ h : cond, ((sndM.slice (Rect.unit (s := S16x256x128) o4 S1x256x128.size (i4 h)) (fun _ => rfl)).squeeze S256x128 squeezes_S1x256x128_S256x128).view.WordExact} {hdst : ∀ h : cond, ((rcvM.slice (Rect.unit (s := S16x256x128) o3 S1x256x128.size (i3 h)) (fun _ => rfl)).squeeze S256x128 squeezes_S1x256x128_S256x128).view.WordExact}
    {hsem : ∀ h : cond, DmaTarget.Typed .vmem (.dma ((cc0_scratch12.slice (Rect.unit (s := S16) o2 S1.size (i2 h))).squeeze S_ squeezes_S1_S_).sem)
      (.remote (Dev.tc (dv h) : Thread nD τ) ((rcvM.slice (Rect.unit (s := S16x256x128) o3 S1x256x128.size (i3 h)) (fun _ => rfl)).squeeze S256x128 squeezes_S1x256x128_S256x128) (.dma ((cc0_scratch11.slice (Rect.unit (s := S16) o1 S1.size (i1 h))).squeeze S_ squeezes_S1_S_).sem) (hsc h))}
    {α : Type} {R : Prog (TpuEff nD τ sig (Elt F) Λ₀ .tc) α} {Q : α → sProp 𝕄} (hk : iprop(Full m K c (chk c (k + 1) 0) ∗ P) ⊢ WPd c R Q) :
    iprop(Full m K c (chk c k 2) ∗ P) ⊢ WPd c (dite cond (fun h =>
          (Prog.lift (.enqueueDma ((sndM.slice (Rect.unit (s := S16x256x128) o4 S1x256x128.size (i4 h)) (fun _ => rfl)).squeeze S256x128 squeezes_S1x256x128_S256x128)
            (.remote (Dev.tc (dv h)) ((rcvM.slice (Rect.unit (s := S16x256x128) o3 S1x256x128.size (i3 h)) (fun _ => rfl)).squeeze S256x128 squeezes_S1x256x128_S256x128)
              (.dma ((cc0_scratch11.slice (Rect.unit (s := S16) o1 S1.size (i1 h))).squeeze S_ squeezes_S1_S_).sem) (hsc h))
            (.dma ((cc0_scratch12.slice (Rect.unit (s := S16) o2 S1.size (i2 h))).squeeze S_ squeezes_S1_S_).sem) (hsrc h) (hdst h) (hsem h)) >>= fun _ => R))
          (fun _ => R)) Q :=
  stepA (step_send m K (peerOf c t j) hc hdv (chk_at ((rank_peer c t j).trans h)) (chk_at (i := 3) ((rank_peer c t j).trans h)) (chk_ne ((rank_peer c t j).trans h) 3 2) e1 e2 e3 e4)
    (by rw [chk_adv]; exact hk)

end At

end Cert.KernelIdeal.Hand
end
-- ==== Proof.KernelIdeal.At2.lean ====
/-
The steps of the local transfers and the barrier wait, under the body's frame: the exchange's state, then `x`'s, then
the two landing slots', then the rest.
-/
module

public import proofs.«01_k».proof.Proof.KernelIdeal.At

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## Parts of a frame brought to the front and put back -/

theorem out2 {A B P : sProp 𝕄} : iprop(A ∗ B ∗ P) ⊢ iprop((A ∗ B) ∗ P) := by
  iintro ⟨H1, H2, H3⟩
  isplitr [H3]
  · isplitl [H1]; · iexact H1
    iexact H2
  iexact H3
theorem in2 {A B P : sProp 𝕄} : iprop((A ∗ B) ∗ P) ⊢ iprop(A ∗ B ∗ P) := by
  iintro ⟨⟨H1, H2⟩, H3⟩
  isplitl [H1]; · iexact H1
  isplitl [H2]; · iexact H2
  iexact H3
theorem swap2 {A B P : sProp 𝕄} : iprop(A ∗ B ∗ P) ⊢ iprop(B ∗ A ∗ P) := by
  iintro ⟨H1, H2, H3⟩
  isplitl [H2]; · iexact H2
  isplitl [H1]; · iexact H1
  iexact H3
theorem swap3 {A B C P : sProp 𝕄} : iprop(A ∗ B ∗ C ∗ P) ⊢ iprop(A ∗ C ∗ B ∗ P) := by
  iintro ⟨H1, H2, H3, H4⟩
  isplitl [H1]; · iexact H1
  isplitl [H3]; · iexact H3
  isplitl [H2]; · iexact H2
  iexact H4
theorem swap4 {A B C D P : sProp 𝕄} : iprop(A ∗ B ∗ C ∗ D ∗ P) ⊢ iprop(A ∗ D ∗ B ∗ C ∗ P) := by
  iintro ⟨H1, H2, H3, H4, H5⟩
  isplitl [H1]; · iexact H1
  isplitl [H4]; · iexact H4
  isplitl [H2]; · iexact H2
  isplitl [H3]; · iexact H3
  iexact H5
theorem back4 {A B C D P : sProp 𝕄} : iprop(A ∗ D ∗ B ∗ C ∗ P) ⊢ iprop(A ∗ B ∗ C ∗ D ∗ P) := by
  iintro ⟨H1, H4, H2, H3, H5⟩
  isplitl [H1]; · iexact H1
  isplitl [H2]; · iexact H2
  isplitl [H3]; · iexact H3
  isplitl [H4]; · iexact H4
  iexact H5
theorem swap5 {A B C D E P : sProp 𝕄} : iprop(A ∗ B ∗ C ∗ D ∗ E ∗ P) ⊢ iprop(A ∗ E ∗ B ∗ C ∗ D ∗ P) := by
  iintro ⟨H1, H2, H3, H4, H5, H6⟩
  isplitl [H1]; · iexact H1
  isplitl [H5]; · iexact H5
  isplitl [H2]; · iexact H2
  isplitl [H3]; · iexact H3
  isplitl [H4]; · iexact H4
  iexact H6
theorem back5 {A B C D E P : sProp 𝕄} : iprop(A ∗ E ∗ B ∗ C ∗ D ∗ P) ⊢ iprop(A ∗ B ∗ C ∗ D ∗ E ∗ P) := by
  iintro ⟨H1, H5, H2, H3, H4, H6⟩
  isplitl [H1]; · iexact H1
  isplitl [H2]; · iexact H2
  isplitl [H3]; · iexact H3
  isplitl [H4]; · iexact H4
  isplitl [H5]; · iexact H5
  iexact H6

theorem third {A B C C' P : sProp 𝕄} (h : C ⊢ C') : iprop(A ∗ B ∗ C ∗ P) ⊢ iprop(A ∗ B ∗ C' ∗ P) := by
  iintro ⟨H1, H2, H3, H4⟩
  isplitl [H1]; · iexact H1
  isplitl [H2]; · iexact H2
  isplitl [H3]; · iapply h $$ H3
  iexact H4
theorem fourth {A B C D D' P : sProp 𝕄} (h : D ⊢ D') : iprop(A ∗ B ∗ C ∗ D ∗ P) ⊢ iprop(A ∗ B ∗ C ∗ D' ∗ P) := by
  iintro ⟨H1, H2, H3, H4, H5⟩
  isplitl [H1]; · iexact H1
  isplitl [H2]; · iexact H2
  isplitl [H3]; · iexact H3
  isplitl [H4]; · iapply h $$ H4
  iexact H5

/-- A rule on the second piece of a frame. -/
theorem step2 {A A' G P W W' : sProp 𝕄} (h : A ⊢ iprop((A' -∗ W) -∗ W')) (hk : iprop(G ∗ A' ∗ P) ⊢ W) : iprop(G ∗ A ∗ P) ⊢ W' :=
  swap2.trans (stepA h (swap2.trans hk))
/-- A rule on the first two pieces of a frame. -/
theorem step12 {G G' A A' P W W' : sProp 𝕄} (h : iprop(G ∗ A) ⊢ iprop((iprop(G' ∗ A') -∗ W) -∗ W')) (hk : iprop(G' ∗ A' ∗ P) ⊢ W) : iprop(G ∗ A ∗ P) ⊢ W' :=
  out2.trans (stepA h (in2.trans hk))

section At
variable {c : Dev nD} {σ : Fin 16 → ℕ}

theorem x_at {P : sProp 𝕄} {hsrc} {hdst} {hsem} {α : Type} {R : Prog (TpuEff nD τ sig (Elt F) Λ₀ .tc) α} {Q : α → sProp 𝕄}
    (hk : iprop(Full m K c σ ∗ X1 m c ∗ P) ⊢ WPd c R Q) :
    iprop(Full m K c σ ∗ X0 m c ∗ P) ⊢ WPd c (Prog.lift (.enqueueDma xH (.here xM) (.dma xSem) hsrc hdst hsem) >>= fun _ => R) Q :=
  step2 (step_x m) hk

theorem xwait_at {P : sProp 𝕄} {hsrc} {hdst} {α : Type} {R : Prog (TpuEff nD τ sig (Elt F) Λ₀ .tc) α} {Q : α → sProp 𝕄}
    (hk : iprop(Full m K c σ ∗ X2 m c ∗ P) ⊢ WPd c R Q) :
    iprop(Full m K c σ ∗ X1 m c ∗ P) ⊢ WPd c (Prog.lift (.waitDma2 xSem xH xM hsrc hdst) >>= fun _ => R) Q :=
  step12 (step_xwait m K) hk

theorem xload_at {P : sProp 𝕄} {inb} {hl} {α : Type} {k : Vec F S256x4096 .f32 → Prog (TpuEff nD τ sig (Elt F) Λ₀ .tc) α} {Q : α → sProp 𝕄}
    (hk : iprop(Full m K c σ ∗ X2 m c ∗ P) ⊢ WPd c (k (xC m c)) Q) :
    iprop(Full m K c σ ∗ X2 m c ∗ P) ⊢ WPd c (Prog.lift (.load (cs := .vmem) xM (Rect.unit (s := S256x4096) ![0, 0] S256x4096.size inb).toLoadRect hl) >>= k) Q :=
  step2 (step_xload m) hk

theorem w_at0 {X P : sProp 𝕄} (u : Fin 8) {oc : Fin 2 → Nat} (hoc : oc = ![0, 256 * u.val]) {ib is ic} {hsrc} {hdst} {hsem}
    {α : Type} {R : Prog (TpuEff nD τ sig (Elt F) Λ₀ .tc) α} {Q : α → sProp 𝕄} (hk : iprop(Full m K c σ ∗ X ∗ W1 m c 0 u ∗ P) ⊢ WPd c R Q) :
    iprop(Full m K c σ ∗ X ∗ W0 m c 0 ∗ P) ⊢ WPd c (Prog.lift (.enqueueDma (wH.slice (Rect.unit (s := S4096x2048) oc S4096x256.size ic) (fun _ => rfl))
      (.here ((wM.slice (Rect.unit (s := S2x4096x256) ![0, 0, 0] S1x4096x256.size ib) (fun _ => rfl)).squeeze S4096x256 squeezes_S1x4096x256_S4096x256))
      (.dma ((cc0_scratch7.slice (Rect.unit (s := S2) ![0] S1.size is)).squeeze S_ squeezes_S1_S_).sem) hsrc hdst hsem) >>= fun _ => R) Q :=
  swap3.trans (step2 (step_w m 0 u rfl rfl hoc) (swap3.trans hk))
theorem w_at1 {X A P : sProp 𝕄} (u : Fin 8) {oc : Fin 2 → Nat} (hoc : oc = ![0, 256 * u.val]) {ib is ic} {hsrc} {hdst} {hsem}
    {α : Type} {R : Prog (TpuEff nD τ sig (Elt F) Λ₀ .tc) α} {Q : α → sProp 𝕄} (hk : iprop(Full m K c σ ∗ X ∗ A ∗ W1 m c 1 u ∗ P) ⊢ WPd c R Q) :
    iprop(Full m K c σ ∗ X ∗ A ∗ W0 m c 1 ∗ P) ⊢ WPd c (Prog.lift (.enqueueDma (wH.slice (Rect.unit (s := S4096x2048) oc S4096x256.size ic) (fun _ => rfl))
      (.here ((wM.slice (Rect.unit (s := S2x4096x256) ![1, 0, 0] S1x4096x256.size ib) (fun _ => rfl)).squeeze S4096x256 squeezes_S1x4096x256_S4096x256))
      (.dma ((cc0_scratch7.slice (Rect.unit (s := S2) ![1] S1.size is)).squeeze S_ squeezes_S1_S_).sem) hsrc hdst hsem) >>= fun _ => R) Q :=
  swap4.trans (step2 (step_w m 1 u rfl rfl hoc) (back4.trans hk))

theorem wwait_at0 {X P : sProp 𝕄} (u : Fin 8) {is} {S S' : Shape} {e e' : EltTy} {sp sp' : Space} {sw : Memref sig .tc sp' S' e'} {dw : Memref sig .tc sp S e}
    {hsrc : sw.view.WordExact} {hdst : dw.view.WordExact} (hamt : dw.view.dmaCredit = NW)
    {α : Type} {R : Prog (TpuEff nD τ sig (Elt F) Λ₀ .tc) α} {Q : α → sProp 𝕄} (hk : iprop(Full m K c σ ∗ X ∗ W2 m c 0 u ∗ P) ⊢ WPd c R Q) :
    iprop(Full m K c σ ∗ X ∗ W1 m c 0 u ∗ P)
      ⊢ WPd c (Prog.lift (.waitDma2 ((cc0_scratch7.slice (Rect.unit (s := S2) ![0] S1.size is)).squeeze S_ squeezes_S1_S_).sem sw dw hsrc hdst) >>= fun _ => R) Q :=
  swap3.trans (step12 (step_wwait m K 0 u rfl hamt) (swap3.trans hk))
theorem wwait_at1 {X A P : sProp 𝕄} (u : Fin 8) {is} {S S' : Shape} {e e' : EltTy} {sp sp' : Space} {sw : Memref sig .tc sp' S' e'} {dw : Memref sig .tc sp S e}
    {hsrc : sw.view.WordExact} {hdst : dw.view.WordExact} (hamt : dw.view.dmaCredit = NW)
    {α : Type} {R : Prog (TpuEff nD τ sig (Elt F) Λ₀ .tc) α} {Q : α → sProp 𝕄} (hk : iprop(Full m K c σ ∗ X ∗ A ∗ W2 m c 1 u ∗ P) ⊢ WPd c R Q) :
    iprop(Full m K c σ ∗ X ∗ A ∗ W1 m c 1 u ∗ P)
      ⊢ WPd c (Prog.lift (.waitDma2 ((cc0_scratch7.slice (Rect.unit (s := S2) ![1] S1.size is)).squeeze S_ squeezes_S1_S_).sem sw dw hsrc hdst) >>= fun _ => R) Q :=
  swap4.trans (step12 (step_wwait m K 1 u rfl hamt) (back4.trans hk))

/-- A load of a landed slot, after which the slot is free. -/
theorem wload_at0 {X P : sProp 𝕄} (u : Fin 8) {inb} {hl} {α : Type} {k : Vec F S1x4096x256 .f32 → Prog (TpuEff nD τ sig (Elt F) Λ₀ .tc) α} {Q : α → sProp 𝕄}
    (hk : iprop(Full m K c σ ∗ X ∗ W0 m c 0 ∗ P) ⊢ WPd c (k (wB m c u)) Q) :
    iprop(Full m K c σ ∗ X ∗ W2 m c 0 u ∗ P) ⊢ WPd c (Prog.lift (.load (cs := .vmem) wM (Rect.unit (s := S2x4096x256) ![0, 0, 0] S1x4096x256.size inb).toLoadRect hl) >>= k) Q :=
  swap3.trans (step2 (step_wload m 0 u rfl) (swap3.trans ((third (W2_free m c 0 u)).trans hk)))
theorem wload_at1 {X A P : sProp 𝕄} (u : Fin 8) {inb} {hl} {α : Type} {k : Vec F S1x4096x256 .f32 → Prog (TpuEff nD τ sig (Elt F) Λ₀ .tc) α} {Q : α → sProp 𝕄}
    (hk : iprop(Full m K c σ ∗ X ∗ A ∗ W0 m c 1 ∗ P) ⊢ WPd c (k (wB m c u)) Q) :
    iprop(Full m K c σ ∗ X ∗ A ∗ W2 m c 1 u ∗ P) ⊢ WPd c (Prog.lift (.load (cs := .vmem) wM (Rect.unit (s := S2x4096x256) ![1, 0, 0] S1x4096x256.size inb).toLoadRect hl) >>= k) Q :=
  swap4.trans (step2 (step_wload m 1 u rfl) (back4.trans ((fourth (W2_free m c 1 u)).trans hk)))

theorem bar_at {X A B P : sProp 𝕄} {α : Type} {R : Prog (TpuEff nD τ sig (Elt F) Λ₀ .tc) α} {Q : α → sProp 𝕄}
    (hk : iprop(Full m K c (chk c 0 0) ∗ X ∗ A ∗ B ∗ at1 (barCell c) ∗ P) ⊢ WPd c R Q) :
    iprop(Full m K c (stg 0 1 16) ∗ X ∗ A ∗ B ∗ iprop(crd (barCell c) 15 ∗ at0 (barCell c)) ∗ P) ⊢ WPd c (semWaitWord barS 15#32 >>= fun _ => R) Q := by
  unfold WPd at hk ⊢
  have h := step_bar m K (c := c) (σ := stg 0 1 16) (σ' := chk c 0 0) (fun s => stg_all s) (chk_first c) (R := R) (Q := Q)
  exact swap5.trans (step12 h (back5.trans hk))

end At

end Cert.KernelIdeal.Hand
end
-- ==== Proof.KernelIdeal.Geom.lean ====
/-
How the blocks of each buffer tile it.
-/
module

public import proofs.«01_k».proof.Proof.KernelIdeal.Base

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem blk_disj (s s' : Fin 16) (h : s ≠ s') : Disjoint (blkR s).set (blkR s').set :=
  Rect.unit_disjoint 0 (by
    show s.val + 1 ≤ s'.val ∨ s'.val + 1 ≤ s.val
    have : s.val ≠ s'.val := fun e => h (Fin.ext e); omega)
theorem amx_disj (s s' : Fin 16) (h : s ≠ s') : Disjoint (amxR s).set (amxR s').set :=
  Rect.unit_disjoint 0 (by
    show s.val + 1 ≤ s'.val ∨ s'.val + 1 ≤ s.val
    have : s.val ≠ s'.val := fun e => h (Fin.ext e); omega)
theorem w_disj (s s' : Fin 2) (h : s ≠ s') : Disjoint (wR s).set (wR s').set :=
  Rect.unit_disjoint 0 (by
    show s.val + 1 ≤ s'.val ∨ s'.val + 1 ≤ s.val
    have : s.val ≠ s'.val := fun e => h (Fin.ext e); omega)
theorem row_disj (s s' : Fin 16) (h : s ≠ s') : Disjoint (rowR s).set (rowR s').set :=
  Rect.unit_disjoint 0 (by
    show 256 * s.val + 256 ≤ 256 * s'.val ∨ 256 * s'.val + 256 ≤ 256 * s.val
    have : s.val ≠ s'.val := fun e => h (Fin.ext e); omega)
theorem col_disj (s s' : Fin 8) (h : s ≠ s') : Disjoint (colR s).set (colR s').set :=
  Rect.unit_disjoint 1 (by
    show 256 * s.val + 256 ≤ 256 * s'.val ∨ 256 * s'.val + 256 ≤ 256 * s.val
    have : s.val ≠ s'.val := fun e => h (Fin.ext e); omega)

theorem blk_cov : (Finset.univ : Finset (Fin 16)).biUnion (fun s => (blkR s).set) = Finset.univ := Finset.eq_univ_of_forall fun i => by
  refine Finset.mem_biUnion.mpr ⟨i 0, Finset.mem_univ _, Rect.mem_set_unit.mpr fun a => ?_⟩
  have := (i a).isLt
  match a with
  | ⟨0, _⟩ => exact ⟨Nat.le_refl _, Nat.lt_succ_self _⟩
  | ⟨1, _⟩ => exact ⟨Nat.zero_le _, lt_of_lt_of_eq this (Nat.zero_add _).symm⟩
  | ⟨2, _⟩ => exact ⟨Nat.zero_le _, lt_of_lt_of_eq this (Nat.zero_add _).symm⟩
theorem amx_cov : (Finset.univ : Finset (Fin 16)).biUnion (fun s => (amxR s).set) = Finset.univ := Finset.eq_univ_of_forall fun i => by
  refine Finset.mem_biUnion.mpr ⟨i 0, Finset.mem_univ _, Rect.mem_set_unit.mpr fun a => ?_⟩
  have := (i a).isLt
  match a with
  | ⟨0, _⟩ => exact ⟨Nat.le_refl _, Nat.lt_succ_self _⟩
  | ⟨1, _⟩ => exact ⟨Nat.zero_le _, lt_of_lt_of_eq this (Nat.zero_add _).symm⟩
  | ⟨2, _⟩ => exact ⟨Nat.zero_le _, lt_of_lt_of_eq this (Nat.zero_add _).symm⟩
theorem w_cov : (Finset.univ : Finset (Fin 2)).biUnion (fun s => (wR s).set) = Finset.univ := Finset.eq_univ_of_forall fun i => by
  refine Finset.mem_biUnion.mpr ⟨i 0, Finset.mem_univ _, Rect.mem_set_unit.mpr fun a => ?_⟩
  have := (i a).isLt
  match a with
  | ⟨0, _⟩ => exact ⟨Nat.le_refl _, Nat.lt_succ_self _⟩
  | ⟨1, _⟩ => exact ⟨Nat.zero_le _, lt_of_lt_of_eq this (Nat.zero_add _).symm⟩
  | ⟨2, _⟩ => exact ⟨Nat.zero_le _, lt_of_lt_of_eq this (Nat.zero_add _).symm⟩
theorem row_cov : (Finset.univ : Finset (Fin 16)).biUnion (fun s => (rowR s).set) = Finset.univ := Finset.eq_univ_of_forall fun i => by
  have h0 : (i 0).val < 4096 := (i 0).isLt
  refine Finset.mem_biUnion.mpr ⟨⟨(i 0).val / 256, by omega⟩, Finset.mem_univ _, Rect.mem_set_unit.mpr fun a => ?_⟩
  have := (i a).isLt
  match a with
  | ⟨0, _⟩ => exact ⟨show 256 * ((i 0).val / 256) ≤ (i 0).val by omega, show (i 0).val < 256 * ((i 0).val / 256) + 256 by omega⟩
  | ⟨1, _⟩ => exact ⟨Nat.zero_le _, lt_of_lt_of_eq this (Nat.zero_add _).symm⟩
theorem col_cov : (Finset.univ : Finset (Fin 8)).biUnion (fun s => (colR s).set) = Finset.univ := Finset.eq_univ_of_forall fun i => by
  have h0 : (i 1).val < 2048 := (i 1).isLt
  refine Finset.mem_biUnion.mpr ⟨⟨(i 1).val / 256, by omega⟩, Finset.mem_univ _, Rect.mem_set_unit.mpr fun a => ?_⟩
  have := (i a).isLt
  match a with
  | ⟨0, _⟩ => exact ⟨Nat.zero_le _, lt_of_lt_of_eq this (Nat.zero_add _).symm⟩
  | ⟨1, _⟩ => exact ⟨show 256 * ((i 1).val / 256) ≤ (i 1).val by omega, show (i 1).val < 256 * ((i 1).val / 256) + 256 by omega⟩

variable (m : (ℓ : Loc nD τ sig) → Buf (Elt F) ℓ)

/-- Each row of the sixteen, read out of all of them. -/
theorem amx_row (s : Fin 16) : (fun j => amaxAll m ((amxR s).emb j)) = amaxV m s := funext fun j => by
  have h0 : (amxR s).emb j 0 = s := Fin.ext (by
    show s.val + 1 * (j 0).val = s.val
    have h : (j 0).val < 1 := (j 0).isLt
    omega)
  have h1 : (amxR s).emb j 1 = j 1 := Fin.ext (by show 0 + 1 * (j 1).val = (j 1).val; omega)
  have h2 : (amxR s).emb j 2 = j 2 := Fin.ext (by show 0 + 1 * (j 2).val = (j 2).val; omega)
  unfold amaxAll
  rw [h0]
  refine congrArg (amaxV m s) (funext fun a => ?_)
  match a with
  | ⟨0, _⟩ => exact Subsingleton.elim (α := Fin 1) _ _
  | ⟨1, _⟩ => exact h1
  | ⟨2, _⟩ => exact h2

/-- Each block of rows of a device's result, read out of it. -/
theorem out_row (c : Dev nD) (s : Fin 16) : (fun j => outV m c ((rowR s).emb j)) = outB m c s := funext fun j => by
  have hj : (j 0).val < 256 := (j 0).isLt
  have h0 : ((rowR s).emb j 0).val = 256 * s.val + (j 0).val := by show 256 * s.val + 1 * (j 0).val = _; omega
  have h1 : (rowR s).emb j 1 = j 1 := Fin.ext (by show 0 + 1 * (j 1).val = (j 1).val; omega)
  unfold outV
  rw [show (⟨((rowR s).emb j 0).val / 256, by have h : ((rowR s).emb j 0).val < 4096 := ((rowR s).emb j 0).isLt; omega⟩ : Fin 16) = s from
    Fin.ext (by show ((rowR s).emb j 0).val / 256 = s.val; omega)]
  refine congrArg (outB m c s) (funext fun a => ?_)
  match a with
  | ⟨0, _⟩ => exact Fin.ext (by show ((rowR s).emb j 0).val % 256 = (j 0).val; omega)
  | ⟨1, _⟩ => exact h1

end Cert.KernelIdeal.Hand
end
-- ==== Proof.KernelIdeal.At3.lean ====
/-
The steps of the rows of largest entries under the body's frame, the row a device sends dealt to its peers, and the
sixteen rows put together.
-/
module

public import proofs.«01_k».proof.Proof.KernelIdeal.At2
public import proofs.«01_k».proof.Proof.KernelIdeal.Geom

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section At
variable {c : Dev nD}

theorem amx_at {P : sProp 𝕄} {k : ℕ} (s : Fin 16) (h : s.val = k) {cond : Prop} {inst : Decidable cond} (hc : cond ↔ s = c)
    {off : Fin 3 → Nat} (ho : off = off3 s) {inb inb' : cond → ∀ a, off a + S1x8x128.size a ≤ S16x8x128.size a}
    {hl : ∀ h : cond, amxM.view.LoadsAt (Rect.unit (s := S16x8x128) off S1x8x128.size (inb h)).toLoadRect} {w : Vec F S1x8x128 .f32}
    {hx : ∀ h : cond, (amxM.access (Rect.unit (s := S16x8x128) off S1x8x128.size (inb' h))).Stores Finset.univ} {hm : ∀ h : cond, (Finset.univ : Finset (Rect.unit (s := S16x8x128) off S1x8x128.size (inb' h)).shape.Idx) = Finset.univ ∨ ∀ a, (Rect.unit (s := S16x8x128) off S1x8x128.size (inb' h)).stride a = 1}
    (hw : w = amaxV m c)
    {α : Type} {R : Prog (TpuEff nD τ sig (Elt F) Λ₀ .tc) α} {Q : α → sProp 𝕄} (hk : iprop(Full m K c (stg 5 6 (k + 1)) ∗ P) ⊢ WPd c R Q) :
    iprop(Full m K c (stg 5 6 k) ∗ P) ⊢ WPd c (dite cond (fun h =>
          (Prog.lift (.load (cs := .vmem) amxM (Rect.unit (s := S16x8x128) off S1x8x128.size (inb h)).toLoadRect (hl h)) >>= fun _ =>
            Prog.lift (.store (cs := .vmem) amxM (Rect.unit (s := S16x8x128) off S1x8x128.size (inb' h)) w Finset.univ (hx h) (hm h)) >>= fun _ => R))
          (fun _ => R)) Q :=
  stepA (step_amx m K s hc (stg_lo s h) (stg_hi s h) (stg_ne s h) ho hw) hk

theorem asend_at {P : sProp 𝕄} {k : ℕ} (s : Fin 16) (h : s.val = k) {cond : Prop} {inst : Decidable cond} {dv : cond → Dev nD}
    (hc : cond ↔ s ≠ c) (hdv : ∀ h, dv h = s)
    {o1 o2 : Fin 1 → Nat} {o3 o4 : Fin 3 → Nat} (e1 : o1 = ![s.val]) (e2 : o2 = ![c.val]) (e3 : o3 = off3 c) (e4 : o4 = off3 c)
    {i1 : cond → ∀ a, o1 a + S1.size a ≤ S16.size a} {i2 : cond → ∀ a, o2 a + S1.size a ≤ S16.size a}
    {i3 : cond → ∀ a, o3 a + S1x8x128.size a ≤ S16x8x128.size a} {i4 : cond → ∀ a, o4 a + S1x8x128.size a ≤ S16x8x128.size a}
    {hsc : ∀ h : cond, ((amxM.slice (Rect.unit (s := S16x8x128) o3 S1x8x128.size (i3 h)) (fun _ => rfl)).squeeze S8x128 squeezes_S1x8x128_S8x128).view.ref.isScScratch = false}
    {hsrc : ∀ h : cond, ((amxM.slice (Rect.unit (s := S16x8x128) o4 S1x8x128.size (i4 h)) (fun _ => rfl)).squeeze S8x128 squeezes_S1x8x128_S8x128).view.WordExact} {hdst : ∀ h : cond, ((amxM.slice (Rect.unit (s := S16x8x128) o3 S1x8x128.size (i3 h)) (fun _ => rfl)).squeeze S8x128 squeezes_S1x8x128_S8x128).view.WordExact}
    {hsem : ∀ h : cond, DmaTarget.Typed .vmem (.dma ((cc0_scratch10.slice (Rect.unit (s := S16) o2 S1.size (i2 h))).squeeze S_ squeezes_S1_S_).sem)
      (.remote (Dev.tc (dv h) : Thread nD τ) ((amxM.slice (Rect.unit (s := S16x8x128) o3 S1x8x128.size (i3 h)) (fun _ => rfl)).squeeze S8x128 squeezes_S1x8x128_S8x128) (.dma ((cc0_scratch9.slice (Rect.unit (s := S16) o1 S1.size (i1 h))).squeeze S_ squeezes_S1_S_).sem) (hsc h))}
    {α : Type} {R : Prog (TpuEff nD τ sig (Elt F) Λ₀ .tc) α} {Q : α → sProp 𝕄} (hk : iprop(Full m K c (stg 7 8 (k + 1)) ∗ P) ⊢ WPd c R Q) :
    iprop(Full m K c (stg 7 8 k) ∗ P) ⊢ WPd c (dite cond (fun h =>
          (Prog.lift (.enqueueDma ((amxM.slice (Rect.unit (s := S16x8x128) o4 S1x8x128.size (i4 h)) (fun _ => rfl)).squeeze S8x128 squeezes_S1x8x128_S8x128)
            (.remote (Dev.tc (dv h)) ((amxM.slice (Rect.unit (s := S16x8x128) o3 S1x8x128.size (i3 h)) (fun _ => rfl)).squeeze S8x128 squeezes_S1x8x128_S8x128)
              (.dma ((cc0_scratch9.slice (Rect.unit (s := S16) o1 S1.size (i1 h))).squeeze S_ squeezes_S1_S_).sem) (hsc h))
            (.dma ((cc0_scratch10.slice (Rect.unit (s := S16) o2 S1.size (i2 h))).squeeze S_ squeezes_S1_S_).sem) (hsrc h) (hdst h) (hsem h)) >>= fun _ => R))
          (fun _ => R)) Q :=
  stepA (step_asend m K s hc hdv (stg_lo s h) (stg_hi s h) (stg_ne s h) e1 e2 e3 e4) hk

theorem await_at {P : sProp 𝕄} {k : ℕ} (s : Fin 16) (h : s.val = k) {cond : Prop} {inst : Decidable cond} (hc : cond ↔ s ≠ c)
    {S S' : Shape} {e e' : EltTy} {S₁ S₁' : Shape} {e₁ e₁' : EltTy}
    {q1 q2 : cond → DmaSem sig} (hq1 : ∀ h, q1 h = chSem 1 s) (hq2 : ∀ h, q2 h = chSem 0 s)
    {sw : cond → Memref sig .tc .vmem S' e'} {dw : cond → Memref sig .tc .vmem S e} {hsrc : ∀ h : cond, (sw h).view.WordExact} {hdst : ∀ h : cond, (dw h).view.WordExact} (hamt : ∀ h, (dw h).view.dmaCredit = chAmt 1)
    {sw' : cond → Memref sig .tc .vmem S₁' e₁'} {dw' : cond → Memref sig .tc .vmem S₁ e₁} {hsrc' : ∀ h : cond, (sw' h).view.WordExact} {hdst' : ∀ h : cond, (dw' h).view.WordExact} (hamt' : ∀ h, (dw' h).view.dmaCredit = chAmt 0)
    {α : Type} {R : Prog (TpuEff nD τ sig (Elt F) Λ₀ .tc) α} {Q : α → sProp 𝕄} (hk : iprop(Full m K c (stg 8 9 (k + 1)) ∗ P) ⊢ WPd c R Q) :
    iprop(Full m K c (stg 8 9 k) ∗ P) ⊢ WPd c (dite cond (fun h =>
          (Prog.lift (.waitDma2 (q1 h) (sw h) (dw h) (hsrc h) (hdst h)) >>= fun _ => Prog.lift (.waitDma2 (q2 h) (sw' h) (dw' h) (hsrc' h) (hdst' h)) >>= fun _ => R))
          (fun _ => R)) Q :=
  stepA (step_await m K s hc (stg_lo s h) (stg_hi s h) (stg_ne s h) (stg_ge (by omega) (by omega)) hq1 hq2 hamt hamt') hk

theorem dwait_at {P : sProp 𝕄} {k : ℕ} (s : Fin 16) (h : s.val = k) {cond : Prop} {inst : Decidable cond} (hc : cond ↔ s ≠ c)
    {S S' : Shape} {e e' : EltTy} {S₁ S₁' : Shape} {e₁ e₁' : EltTy}
    {q1 q2 : cond → DmaSem sig} (hq1 : ∀ h, q1 h = chSem 3 s) (hq2 : ∀ h, q2 h = chSem 2 s)
    {sw : cond → Memref sig .tc .vmem S' e'} {dw : cond → Memref sig .tc .vmem S e} {hsrc : ∀ h : cond, (sw h).view.WordExact} {hdst : ∀ h : cond, (dw h).view.WordExact} (hamt : ∀ h, (dw h).view.dmaCredit = chAmt 3)
    {sw' : cond → Memref sig .tc .vmem S₁' e₁'} {dw' : cond → Memref sig .tc .vmem S₁ e₁} {hsrc' : ∀ h : cond, (sw' h).view.WordExact} {hdst' : ∀ h : cond, (dw' h).view.WordExact} (hamt' : ∀ h, (dw' h).view.dmaCredit = chAmt 2)
    {α : Type} {R : Prog (TpuEff nD τ sig (Elt F) Λ₀ .tc) α} {Q : α → sProp 𝕄} (hk : iprop(Full m K c (stg 10 11 (k + 1)) ∗ P) ⊢ WPd c R Q) :
    iprop(Full m K c (stg 10 11 k) ∗ P) ⊢ WPd c (dite cond (fun h =>
          (Prog.lift (.waitDma2 (q1 h) (sw h) (dw h) (hsrc h) (hdst h)) >>= fun _ => Prog.lift (.waitDma2 (q2 h) (sw' h) (dw' h) (hsrc' h) (hdst' h)) >>= fun _ => R))
          (fun _ => R)) Q :=
  stepA (step_dwait m K s hc (stg_lo s h) (stg_hi s h) (stg_ne s h) (stg_ge (by omega) (by omega)) hq1 hq2 hamt hamt') hk
end At

/-! ## The row dealt, the rows gathered -/

/-- A slot at a share is its leaves' at once. -/
theorem owns_leaves {c : Thread nD τ} {sp : Space} {S : Shape} {e : EltTy} (M : Memref sig c.2.kind sp S e) (X : S.Idx → Elt F e) :
    ∀ (n : ℕ) (q : PosShare TreeShare), (owns c M q X : sProp 𝕄) = bigSep Finset.univ fun i : Fin (2 ^ n) => owns c M (ShareLeaves.leaf n q i) X
  | 0, q => (bigSep_univ_of_subsingleton (0 : Fin 1) (Φ := fun i : Fin (2 ^ 0) => (owns c M (ShareLeaves.leaf 0 q i) X : sProp 𝕄))).symm
  | n + 1, q => by
    rw [BI.Entails.antisymm (owns_halves c M q X).1 (owns_halves c M q X).2, owns_leaves M X n q.left, owns_leaves M X n q.right,
      bigSep_univ_equiv (ShareLeaves.sumEquiv n) (fun i : Fin (2 ^ (n + 1)) => (owns c M (ShareLeaves.leaf (n + 1) q i) X : sProp 𝕄)), bigSep_univ_sum]
    congr 1 <;> refine bigSep_congr fun i _ => ?_
    · rw [ShareLeaves.leaf_inl]
    · rw [ShareLeaves.leaf_inr]

theorem amx_leaves (c : Dev nD) (X : Vec F S1x8x128 .f32) :
    (amxP c c fullShare X : sProp 𝕄) = iprop(amxP c c (leafS c) X ∗ bigSep (Finset.univ.erase c) fun s => amxP c c (leafS s) X) := by
  rw [show (amxP c c fullShare X : sProp 𝕄) = bigSep Finset.univ fun s : Fin 16 => amxP c c (leafS s) X from owns_leaves (c := (c : Thread nD τ)) (amxSlot c) X 4 fullShare]
  exact BI.bigSep_univ_split c

/-- The state of a device at one stage for all peers: its own slot, and the others'. -/
theorem St_split {c : Dev nD} {σ : Fin 16 → ℕ} {n : ℕ} (h : ∀ s, σ s = n) :
    St m c σ = iprop(Own m c n ∗ bigSep (Finset.univ.erase c) fun s => Peer m c s n) := by
  unfold St
  rw [BI.bigSep_univ_split c, h c, Slot_own]
  congr 1
  exact bigSep_congr fun s hs => by rw [h s, Slot_peer m (Finset.ne_of_mem_erase hs)]

theorem deal (c : Dev nD) : Full m K c (stg 5 6 16) ⊢ Full m K c (stg 7 8 0) := by
  have hd : Debt c (stg 5 6 16) = Debt c (stg 7 8 0) := Finset.sum_congr rfl fun s _ => by
    rw [stg_all, stg_none]; exact debt_congr c s (by omega) (by omega) (by omega)
  unfold Full
  rw [hd, St_split m (fun s => stg_all s), St_split m (fun s => stg_none s)]
  have e : (bigSep (Finset.univ.erase c) fun s => Peer m c s 7) = iprop((bigSep (Finset.univ.erase c) fun s => amxP c c (leafS s) (amaxV m c))
      ∗ bigSep (Finset.univ.erase c) fun s => Peer m c s 6) := by
    rw [← bigSep_sep']; rfl
  rw [e]
  simp only [Own]
  rw [amx_leaves c]
  iintro ⟨H1, H2, H3, ⟨H4, H5, H6, H7⟩, H8⟩
  isplitl [H1]; · iexact H1
  isplitl [H2]; · iexact H2
  isplitl [H3]; · iexact H3
  isplitl [H4 H5 H6]
  · isplitl [H4]; · iexact H4
    isplitl [H5]; · iexact H5
    iexact H6
  isplitl [H7]; · iexact H7
  iexact H8

theorem amx_gather (c : Dev nD) : (bigSep Finset.univ fun s : Fin 16 => amxP c s fullShare (amaxV m s)) ⊢ (owns (c : Thread nD τ) amxM fullShare (amaxAll m) : sProp 𝕄) := by
  have h := owns_of_rects (Val := Elt F) (Ix := Unit) (Name := ℕ) (U := UU) (Lvl := ℕ) (c : Thread nD τ) amxM fullShare amxR (fun _ _ => rfl) amx_disj amx_cov (amaxAll m)
  refine (Entails.of_eq (bigSep_congr fun s _ => ?_)).trans h
  rw [amx_row]

theorem gather (c : Dev nD) : Full m K c (stg 8 9 16) ⊢ iprop(Full m K c (stg 10 11 0) ∗ owns (c : Thread nD τ) amxM fullShare (amaxAll m)) := by
  have hd : Debt c (stg 8 9 16) = Debt c (stg 10 11 0) := by rw [Debt_zero (stg_ge (by omega) (by omega)), Debt_zero (stg_ge (by omega) (by omega))]
  have hg := amx_gather m c
  rw [show (bigSep Finset.univ fun s : Fin 16 => amxP c s fullShare (amaxV m s)) = iprop(amxP c c fullShare (amaxV m c) ∗ bigSep (Finset.univ.erase c) fun s => amxP c s fullShare (amaxV m s))
    from BI.bigSep_univ_split c, amx_leaves c] at hg
  unfold Full
  rw [hd, St_split m (fun s => stg_all s), St_split m (fun s => stg_none s)]
  have e : (bigSep (Finset.univ.erase c) fun s => Peer m c s 9) = iprop(((bigSep (Finset.univ.erase c) fun s => amxP c s fullShare (amaxV m s))
      ∗ bigSep (Finset.univ.erase c) fun s => amxP c c (leafS s) (amaxV m c)) ∗ bigSep (Finset.univ.erase c) fun s => Peer m c s 10) := by
    rw [← bigSep_sep', ← bigSep_sep']; rfl
  rw [e]
  simp only [Own]
  iintro ⟨H1, H2, H3, ⟨H4, H5, H6⟩, ⟨H7, H8⟩, H9⟩
  isplitr [H6 H7 H8]
  · isplitl [H1]; · iexact H1
    isplitl [H2]; · iexact H2
    isplitl [H3]; · iexact H3
    isplitl [H4 H5]
    · isplitl [H4]; · iexact H4
      iexact H5
    iexact H9
  iapply hg
  isplitl [H6 H8]
  · isplitl [H6]; · iexact H6
    iexact H8
  iexact H7

end Cert.KernelIdeal.Hand
end
-- ==== Proof.KernelIdeal.P1.lean ====
/-
The body's start: every peer signalled, the first transfers issued, the barrier passed, the first chunk sent.
-/
module

public import proofs.«01_k».proof.Proof.KernelIdeal.At3

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section Parts
variable (c : Dev nD)

theorem part1_spec (P : sProp 𝕄) : iprop(Full m K c (stg 0 1 0) ∗ P) ⊢ WPd c (App (k0_part1 (F := F)))
    (fun r => iprop(⌜∃ v19, r = ⟨c, posW c, v19, barA⟩⌝ ∗ Full m K c (stg 0 1 4) ∗ P)) := by
  rw [k0_part1_eq_skeleton]; unfold App k0_part1_skel
  refine step_dev ?_
  refine sig_at m K 0 rfl (by revert c; decide +kernel) (fun _ => rfl) ?_
  refine sig_at m K 1 rfl (by revert c; decide +kernel) (fun _ => rfl) ?_
  refine sig_at m K 2 rfl (by revert c; decide +kernel) (fun _ => rfl) ?_
  refine sig_at m K 3 rfl (by revert c; decide +kernel) (fun _ => rfl) ?_
  exact ret' ⟨_, rfl⟩

theorem part2_spec (P : sProp 𝕄) : iprop(Full m K c (stg 0 1 4) ∗ P) ⊢ WPd c (App (k0_part2 (F := F)) c (posW c) barA)
    (fun r => iprop(⌜r = ⟨⟩⌝ ∗ Full m K c (stg 0 1 14) ∗ P)) := by
  rw [k0_part2_eq_skeleton]; unfold App k0_part2_skel
  refine sig_at m K 4 rfl (by revert c; decide +kernel) (fun _ => rfl) ?_
  refine sig_at m K 5 rfl (by revert c; decide +kernel) (fun _ => rfl) ?_
  refine sig_at m K 6 rfl (by revert c; decide +kernel) (fun _ => rfl) ?_
  refine sig_at m K 7 rfl (by revert c; decide +kernel) (fun _ => rfl) ?_
  refine sig_at m K 8 rfl (by revert c; decide +kernel) (fun _ => rfl) ?_
  refine sig_at m K 9 rfl (by revert c; decide +kernel) (fun _ => rfl) ?_
  refine sig_at m K 10 rfl (by revert c; decide +kernel) (fun _ => rfl) ?_
  refine sig_at m K 11 rfl (by revert c; decide +kernel) (fun _ => rfl) ?_
  refine sig_at m K 12 rfl (by revert c; decide +kernel) (fun _ => rfl) ?_
  refine sig_at m K 13 rfl (by revert c; decide +kernel) (fun _ => rfl) ?_
  exact ret

/-- Where chunk `t`'s columns of `w` start, as the body computes it. -/
theorem off_col (c : Dev nD) : ∀ t : Fin 8, k0_off1 c (BitVec.ofNat 32 t.val) = ![0, 256 * (chunkIx c t).val] := by revert c; decide +kernel

theorem part3_spec (P : sProp 𝕄) (v19 : BitVec 32) :
    iprop(Full m K c (stg 0 1 14) ∗ X0 m c ∗ W0 m c 0 ∗ W0 m c 1 ∗ iprop(crd (barCell c) 15 ∗ at0 (barCell c)) ∗ P)
      ⊢ WPd c (App (k0_part3 (F := F)) c (posW c) v19 barA)
        (fun r => iprop(⌜True⌝ ∗ Full m K c (chk c 0 0) ∗ X2 m c ∗ W1 m c 0 (chunkIx c 0) ∗ W0 m c 1 ∗ at1 (barCell c) ∗ P)) := by
  rw [k0_part3_eq_skeleton]; unfold App k0_part3_skel
  refine sig_at m K 14 rfl (by revert c; decide +kernel) (fun _ => rfl) ?_
  refine sig_at m K 15 rfl (by revert c; decide +kernel) (fun _ => rfl) ?_
  refine x_at m K ?_
  refine w_at0 m K (chunkIx c 0) (off_col c 0) ?_
  refine xwait_at m K ?_
  refine bar_at m K ?_
  exact ret' trivial

theorem part4_spec (P : sProp 𝕄) (v19 v89 : BitVec 32) (v94 : BitVec 1) (v95 : BitVec 32) :
    iprop(Full m K c (chk c 0 0) ∗ X2 m c ∗ W1 m c 0 (chunkIx c 0) ∗ W0 m c 1 ∗ P)
      ⊢ WPd c (App (k0_part4 (F := F)) c v19 v89 v94 v95)
        (fun r => iprop(⌜∃ v96, r = ⟨v96, k0_pay2 (xC m c) (wB m c (chunkIx c 0)), k0_pay3 (xC m c) (wB m c (chunkIx c 0))⟩⌝
          ∗ Full m K c (chk c 0 0) ∗ X2 m c ∗ W0 m c 0 ∗ W1 m c 1 (chunkIx c 1) ∗ P)) := by
  rw [k0_part4_eq_skeleton]; unfold App k0_part4_skel
  refine w_at1 m K (chunkIx c 1) (off_col c 1) ?_
  refine wwait_at0 m K (chunkIx c 0) rfl ?_
  refine xload_at m K ?_
  refine wload_at0 m K (chunkIx c 0) ?_
  exact ret' ⟨_, rfl⟩

theorem part5_spec (P : sProp 𝕄) (v2 v19 v96 : BitVec 32) :
    iprop(Full m K c (chk c 0 0) ∗ P)
      ⊢ WPd c (App (k0_part5 (F := F)) c v2 v19 v96 (k0_pay2 (xC m c) (wB m c (chunkIx c 0))) (k0_pay3 (xC m c) (wB m c (chunkIx c 0))))
        (fun r => iprop(⌜∃ a b d, r = ⟨pmax m c 0, a, b, d⟩⌝ ∗ Full m K c (chk c 2 0) ∗ P)) := by
  rw [k0_part5_eq_skeleton]; unfold App k0_part5_skel
  refine sndl_at m K 0 0 rfl (by revert c; decide +kernel) ?_
  refine snds_at m K 0 0 rfl (by revert c; decide +kernel) (sendV_of0 m rfl) ?_
  refine keep_at m K 0 0 rfl (by revert c; decide +kernel) (by revert c; decide +kernel) (sendV_of0 m rfl) ?_
  refine send_at m K 0 0 rfl (by revert c; decide +kernel) (fun _ => Fin.ext (by revert c; decide +kernel))
    (by revert c; decide +kernel) (by revert c; decide +kernel) (by revert c; decide +kernel) (by revert c; decide +kernel) ?_
  refine sndl_at m K 0 1 rfl (by revert c; decide +kernel) ?_
  refine snds_at m K 0 1 rfl (by revert c; decide +kernel) (sendV_of1 m rfl) ?_
  refine keep_at m K 0 1 rfl (by revert c; decide +kernel) (by revert c; decide +kernel) (sendV_of1 m rfl) ?_
  refine send_at m K 0 1 rfl (by revert c; decide +kernel) (fun _ => Fin.ext (by revert c; decide +kernel))
    (by revert c; decide +kernel) (by revert c; decide +kernel) (by revert c; decide +kernel) (by revert c; decide +kernel) ?_
  exact ret' ⟨_, _, _, rfl⟩

end Parts

end Cert.KernelIdeal.Hand
end
-- ==== Proof.KernelIdeal.P2.lean ====
/-
The second to the fourth chunk multiplied and sent.
-/
module

public import proofs.«01_k».proof.Proof.KernelIdeal.P1

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section Parts
variable (c : Dev nD)

theorem part6_spec (P : sProp 𝕄) (v19 v161 v162 v0 : BitVec 32) :
    iprop(Full m K c (chk c 2 0) ∗ X2 m c ∗ W0 m c 0 ∗ W1 m c 1 (chunkIx c 1) ∗ P)
      ⊢ WPd c (App (k0_part6 (F := F)) c v19 v161 v162 v0)
        (fun r => iprop(⌜∃ a, r = ⟨a, xC m c, wB m c (chunkIx c 1)⟩⌝ ∗ Full m K c (chk c 2 0) ∗ X2 m c ∗ W1 m c 0 (chunkIx c 2) ∗ W0 m c 1 ∗ P)) := by
  rw [k0_part6_eq_skeleton]; unfold App k0_part6_skel
  refine w_at0 m K (chunkIx c 2) (off_col c 2) ?_
  refine wwait_at1 m K (chunkIx c 1) (hamt := ?_) (hk := ?_)
  · rfl
  refine xload_at m K ?_
  refine wload_at1 m K (chunkIx c 1) ?_
  exact ret' ⟨_, rfl⟩

theorem part7_spec (P : sProp 𝕄) (v2 v19 v169 : BitVec 32) :
    iprop(Full m K c (chk c 2 0) ∗ P)
      ⊢ WPd c (App (k0_part7 (F := F)) c v2 v19 (pmax m c 0) v169 (xC m c) (wB m c (chunkIx c 1)))
        (fun r => iprop(⌜∃ a, r = ⟨pmax m c 1, a⟩⌝ ∗ Full m K c (chk c 4 0) ∗ P)) := by
  rw [k0_part7_eq_skeleton]; unfold App k0_part7_skel
  refine sndl_at m K 1 0 rfl (by revert c; decide +kernel) ?_
  refine snds_at m K 1 0 rfl (by revert c; decide +kernel) (sendV_of0 m rfl) ?_
  refine keep_at m K 1 0 rfl (by revert c; decide +kernel) (by revert c; decide +kernel) (sendV_of0 m rfl) ?_
  refine send_at m K 1 0 rfl (by revert c; decide +kernel) (fun _ => Fin.ext (by revert c; decide +kernel))
    (by revert c; decide +kernel) (by revert c; decide +kernel) (by revert c; decide +kernel) (by revert c; decide +kernel) ?_
  refine sndl_at m K 1 1 rfl (by revert c; decide +kernel) ?_
  refine snds_at m K 1 1 rfl (by revert c; decide +kernel) (sendV_of1 m rfl) ?_
  refine keep_at m K 1 1 rfl (by revert c; decide +kernel) (by revert c; decide +kernel) (sendV_of1 m rfl) ?_
  refine send_at m K 1 1 rfl (by revert c; decide +kernel) (fun _ => Fin.ext (by revert c; decide +kernel))
    (by revert c; decide +kernel) (by revert c; decide +kernel) (by revert c; decide +kernel) (by revert c; decide +kernel) ?_
  exact ret' ⟨_, rfl⟩

theorem part8_spec (P : sProp 𝕄) (v19 v232 : BitVec 32) :
    iprop(Full m K c (chk c 4 0) ∗ X2 m c ∗ W1 m c 0 (chunkIx c 2) ∗ W0 m c 1 ∗ P)
      ⊢ WPd c (App (k0_part8 (F := F)) c v19 v232)
        (fun r => iprop(⌜True⌝ ∗ Full m K c (chk c 4 0) ∗ X2 m c ∗ W2 m c 0 (chunkIx c 2) ∗ W1 m c 1 (chunkIx c 3) ∗ P)) := by
  rw [k0_part8_eq_skeleton]; unfold App k0_part8_skel
  refine w_at1 m K (chunkIx c 3) (off_col c 3) ?_
  refine wwait_at0 m K (chunkIx c 2) (hamt := ?_) (hk := ?_)
  · rfl
  exact ret' trivial

theorem part9_spec (P : sProp 𝕄) (v2 v242 : BitVec 32) :
    iprop(Full m K c (chk c 4 0) ∗ X2 m c ∗ W2 m c 0 (chunkIx c 2) ∗ P)
      ⊢ WPd c (App (k0_part9 (F := F)) c v2 (pmax m c 1) v242)
        (fun r => iprop(⌜∃ a, r = ⟨pmax m c 2, a⟩⌝ ∗ Full m K c (chk c 5 2) ∗ X2 m c ∗ W0 m c 0 ∗ P)) := by
  rw [k0_part9_eq_skeleton]; unfold App k0_part9_skel
  refine xload_at m K ?_
  refine wload_at0 m K (chunkIx c 2) ?_
  refine sndl_at m K 2 0 rfl (by revert c; decide +kernel) ?_
  refine snds_at m K 2 0 rfl (by revert c; decide +kernel) (sendV_of0 m rfl) ?_
  refine keep_at m K 2 0 rfl (by revert c; decide +kernel) (by revert c; decide +kernel) (sendV_of0 m rfl) ?_
  refine send_at m K 2 0 rfl (by revert c; decide +kernel) (fun _ => Fin.ext (by revert c; decide +kernel))
    (by revert c; decide +kernel) (by revert c; decide +kernel) (by revert c; decide +kernel) (by revert c; decide +kernel) ?_
  refine sndl_at m K 2 1 rfl (by revert c; decide +kernel) ?_
  refine snds_at m K 2 1 rfl (by revert c; decide +kernel) (sendV_of1 m rfl) ?_
  refine keep_at m K 2 1 rfl (by revert c; decide +kernel) (by revert c; decide +kernel) (sendV_of1 m rfl) ?_
  exact ret' ⟨_, rfl⟩

theorem part10_spec (P : sProp 𝕄) (v2 v19 v292 : BitVec 32) :
    iprop(Full m K c (chk c 5 2) ∗ X2 m c ∗ W0 m c 0 ∗ P)
      ⊢ WPd c (App (k0_part10 (F := F)) c v2 v19 v292)
        (fun r => iprop(⌜True⌝ ∗ Full m K c (chk c 6 0) ∗ X2 m c ∗ W1 m c 0 (chunkIx c 4) ∗ P)) := by
  rw [k0_part10_eq_skeleton]; unfold App k0_part10_skel
  refine send_at m K 2 1 rfl (by revert c; decide +kernel) (fun _ => Fin.ext (by revert c; decide +kernel))
    (by revert c; decide +kernel) (by revert c; decide +kernel) (by revert c; decide +kernel) (by revert c; decide +kernel) ?_
  refine w_at0 m K (chunkIx c 4) (off_col c 4) ?_
  exact ret' trivial

theorem part11_spec (P : sProp 𝕄) (v2 v315 : BitVec 32) {A : sProp 𝕄} :
    iprop(Full m K c (chk c 6 0) ∗ X2 m c ∗ A ∗ W1 m c 1 (chunkIx c 3) ∗ P)
      ⊢ WPd c (App (k0_part11 (F := F)) c v2 (pmax m c 2) v315)
        (fun r => iprop(⌜∃ a, r = ⟨pmax m c 3, a, k0_pay32 (xC m c) (wB m c (chunkIx c 3))⟩⌝ ∗ Full m K c (chk c 7 0) ∗ X2 m c ∗ A ∗ W0 m c 1 ∗ P)) := by
  rw [k0_part11_eq_skeleton]; unfold App k0_part11_skel
  refine wwait_at1 m K (chunkIx c 3) (hamt := ?_) (hk := ?_)
  · rfl
  refine xload_at m K ?_
  refine wload_at1 m K (chunkIx c 3) ?_
  refine sndl_at m K 3 0 rfl (by revert c; decide +kernel) ?_
  refine snds_at m K 3 0 rfl (by revert c; decide +kernel) (sendV_of0 m rfl) ?_
  refine keep_at m K 3 0 rfl (by revert c; decide +kernel) (by revert c; decide +kernel) (sendV_of0 m rfl) ?_
  refine send_at m K 3 0 rfl (by revert c; decide +kernel) (fun _ => Fin.ext (by revert c; decide +kernel))
    (by revert c; decide +kernel) (by revert c; decide +kernel) (by revert c; decide +kernel) (by revert c; decide +kernel) ?_
  refine sndl_at m K 3 1 rfl (by revert c; decide +kernel) ?_
  exact ret' ⟨_, rfl⟩

theorem part12_spec (P : sProp 𝕄) (v2 v19 v365 : BitVec 32) :
    iprop(Full m K c (chk c 7 0) ∗ P)
      ⊢ WPd c (App (k0_part12 (F := F)) c v2 v19 v365 (k0_pay32 (xC m c) (wB m c (chunkIx c 3))))
        (fun r => iprop(⌜True⌝ ∗ Full m K c (chk c 8 0) ∗ P)) := by
  rw [k0_part12_eq_skeleton]; unfold App k0_part12_skel
  refine snds_at m K 3 1 rfl (by revert c; decide +kernel) (sendV_of1 m rfl) ?_
  refine keep_at m K 3 1 rfl (by revert c; decide +kernel) (by revert c; decide +kernel) (sendV_of1 m rfl) ?_
  refine send_at m K 3 1 rfl (by revert c; decide +kernel) (fun _ => Fin.ext (by revert c; decide +kernel))
    (by revert c; decide +kernel) (by revert c; decide +kernel) (by revert c; decide +kernel) (by revert c; decide +kernel) ?_
  exact ret' trivial

end Parts

end Cert.KernelIdeal.Hand
end
-- ==== Proof.KernelIdeal.P3.lean ====
/-
The fifth to the eighth chunk multiplied and sent.
-/
module

public import proofs.«01_k».proof.Proof.KernelIdeal.P1

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section Parts
variable (c : Dev nD)

theorem part13_spec (P : sProp 𝕄) (v2 v388 : BitVec 32) :
    iprop(Full m K c (chk c 8 0) ∗ X2 m c ∗ W1 m c 0 (chunkIx c 4) ∗ W0 m c 1 ∗ P)
      ⊢ WPd c (App (k0_part13 (F := F)) c v2 (pmax m c 3) v388)
        (fun r => iprop(⌜∃ a, r = ⟨k0_pay35 (xC m c) (wB m c (chunkIx c 4)), pmax m c 4, a⟩⌝ ∗ Full m K c (chk c 9 0) ∗ X2 m c ∗ W0 m c 0 ∗ W1 m c 1 (chunkIx c 5) ∗ P)) := by
  rw [k0_part13_eq_skeleton]; unfold App k0_part13_skel
  refine w_at1 m K (chunkIx c 5) (off_col c 5) ?_
  refine wwait_at0 m K (chunkIx c 4) (hamt := ?_) (hk := ?_)
  · rfl
  refine xload_at m K ?_
  refine wload_at0 m K (chunkIx c 4) ?_
  refine sndl_at m K 4 0 rfl (by revert c; decide +kernel) ?_
  refine snds_at m K 4 0 rfl (by revert c; decide +kernel) (sendV_of0 m rfl) ?_
  refine keep_at m K 4 0 rfl (by revert c; decide +kernel) (by revert c; decide +kernel) (sendV_of0 m rfl) ?_
  refine send_at m K 4 0 rfl (by revert c; decide +kernel) (fun _ => Fin.ext (by revert c; decide +kernel))
    (by revert c; decide +kernel) (by revert c; decide +kernel) (by revert c; decide +kernel) (by revert c; decide +kernel) ?_
  exact ret' ⟨_, rfl⟩

theorem part14_spec (P : sProp 𝕄) (v2 v19 v438 : BitVec 32) :
    iprop(Full m K c (chk c 9 0) ∗ P)
      ⊢ WPd c (App (k0_part14 (F := F)) c v2 v19 (k0_pay35 (xC m c) (wB m c (chunkIx c 4))) v438)
        (fun r => iprop(⌜True⌝ ∗ Full m K c (chk c 10 0) ∗ P)) := by
  rw [k0_part14_eq_skeleton]; unfold App k0_part14_skel
  refine sndl_at m K 4 1 rfl (by revert c; decide +kernel) ?_
  refine snds_at m K 4 1 rfl (by revert c; decide +kernel) (sendV_of1 m rfl) ?_
  refine keep_at m K 4 1 rfl (by revert c; decide +kernel) (by revert c; decide +kernel) (sendV_of1 m rfl) ?_
  refine send_at m K 4 1 rfl (by revert c; decide +kernel) (fun _ => Fin.ext (by revert c; decide +kernel))
    (by revert c; decide +kernel) (by revert c; decide +kernel) (by revert c; decide +kernel) (by revert c; decide +kernel) ?_
  exact ret' trivial

theorem part15_spec (P : sProp 𝕄) (v2 v461 : BitVec 32) :
    iprop(Full m K c (chk c 10 0) ∗ X2 m c ∗ W0 m c 0 ∗ W1 m c 1 (chunkIx c 5) ∗ P)
      ⊢ WPd c (App (k0_part15 (F := F)) c v2 (pmax m c 4) v461)
        (fun r => iprop(⌜∃ a b, r = ⟨k0_pay43 (xC m c) (wB m c (chunkIx c 5)), pmax m c 5, a, b⟩⌝ ∗ Full m K c (chk c 10 2) ∗ X2 m c ∗ W1 m c 0 (chunkIx c 6) ∗ W0 m c 1 ∗ P)) := by
  rw [k0_part15_eq_skeleton]; unfold App k0_part15_skel
  refine w_at0 m K (chunkIx c 6) (off_col c 6) ?_
  refine wwait_at1 m K (chunkIx c 5) (hamt := ?_) (hk := ?_)
  · rfl
  refine xload_at m K ?_
  refine wload_at1 m K (chunkIx c 5) ?_
  refine sndl_at m K 5 0 rfl (by revert c; decide +kernel) ?_
  refine snds_at m K 5 0 rfl (by revert c; decide +kernel) (sendV_of0 m rfl) ?_
  refine keep_at m K 5 0 rfl (by revert c; decide +kernel) (by revert c; decide +kernel) (sendV_of0 m rfl) ?_
  exact ret' ⟨_, _, rfl⟩

theorem part16_spec (P : sProp 𝕄) (v2 v19 v461 v497 v508 : BitVec 32) :
    iprop(Full m K c (chk c 10 2) ∗ P)
      ⊢ WPd c (App (k0_part16 (F := F)) c v2 v19 v461 (k0_pay43 (xC m c) (wB m c (chunkIx c 5))) v497 v508)
        (fun r => iprop(⌜True⌝ ∗ Full m K c (chk c 12 0) ∗ P)) := by
  rw [k0_part16_eq_skeleton]; unfold App k0_part16_skel
  refine send_at m K 5 0 rfl (by revert c; decide +kernel) (fun _ => Fin.ext (by revert c; decide +kernel))
    (by revert c; decide +kernel) (by revert c; decide +kernel) (by revert c; decide +kernel) (by revert c; decide +kernel) ?_
  refine sndl_at m K 5 1 rfl (by revert c; decide +kernel) ?_
  refine snds_at m K 5 1 rfl (by revert c; decide +kernel) (sendV_of1 m rfl) ?_
  refine keep_at m K 5 1 rfl (by revert c; decide +kernel) (by revert c; decide +kernel) (sendV_of1 m rfl) ?_
  refine send_at m K 5 1 rfl (by revert c; decide +kernel) (fun _ => Fin.ext (by revert c; decide +kernel))
    (by revert c; decide +kernel) (by revert c; decide +kernel) (by revert c; decide +kernel) (by revert c; decide +kernel) ?_
  exact ret' trivial

theorem part17_spec (P : sProp 𝕄) (v534 v537 v538 : BitVec 32) (v543 : BitVec 1) :
    iprop(Full m K c (chk c 12 0) ∗ X2 m c ∗ W1 m c 0 (chunkIx c 6) ∗ W0 m c 1 ∗ P)
      ⊢ WPd c (App (k0_part17 (F := F)) c (pmax m c 5) v534 v537 v538 v543)
        (fun r => iprop(⌜∃ a, r = ⟨k0_pay51 (xC m c) (wB m c (chunkIx c 6)), pmax m c 6, a, k0_pay53 (xC m c) (wB m c (chunkIx c 6))⟩⌝
          ∗ Full m K c (chk c 12 1) ∗ X2 m c ∗ W0 m c 0 ∗ W1 m c 1 (chunkIx c 7) ∗ P)) := by
  rw [k0_part17_eq_skeleton]; unfold App k0_part17_skel
  refine w_at1 m K (chunkIx c 7) (off_col c 7) ?_
  refine wwait_at0 m K (chunkIx c 6) (hamt := ?_) (hk := ?_)
  · rfl
  refine xload_at m K ?_
  refine wload_at0 m K (chunkIx c 6) ?_
  refine sndl_at m K 6 0 rfl (by revert c; decide +kernel) ?_
  refine snds_at m K 6 0 rfl (by revert c; decide +kernel) (sendV_of0 m rfl) ?_
  exact ret' ⟨_, rfl⟩

theorem part18_spec (P : sProp 𝕄) (v2 v19 v534 v570 : BitVec 32) :
    iprop(Full m K c (chk c 12 1) ∗ P)
      ⊢ WPd c (App (k0_part18 (F := F)) c v2 v19 v534 (k0_pay51 (xC m c) (wB m c (chunkIx c 6))) v570 (k0_pay53 (xC m c) (wB m c (chunkIx c 6))))
        (fun r => iprop(⌜True⌝ ∗ Full m K c (chk c 14 0) ∗ P)) := by
  rw [k0_part18_eq_skeleton]; unfold App k0_part18_skel
  refine keep_at m K 6 0 rfl (by revert c; decide +kernel) (by revert c; decide +kernel) (sendV_of0 m rfl) ?_
  refine send_at m K 6 0 rfl (by revert c; decide +kernel) (fun _ => Fin.ext (by revert c; decide +kernel))
    (by revert c; decide +kernel) (by revert c; decide +kernel) (by revert c; decide +kernel) (by revert c; decide +kernel) ?_
  refine sndl_at m K 6 1 rfl (by revert c; decide +kernel) ?_
  refine snds_at m K 6 1 rfl (by revert c; decide +kernel) (sendV_of1 m rfl) ?_
  refine keep_at m K 6 1 rfl (by revert c; decide +kernel) (by revert c; decide +kernel) (sendV_of1 m rfl) ?_
  refine send_at m K 6 1 rfl (by revert c; decide +kernel) (fun _ => Fin.ext (by revert c; decide +kernel))
    (by revert c; decide +kernel) (by revert c; decide +kernel) (by revert c; decide +kernel) (by revert c; decide +kernel) ?_
  exact ret' trivial

theorem part19_spec (P : sProp 𝕄) (v2 v607 : BitVec 32) {A : sProp 𝕄} :
    iprop(Full m K c (chk c 14 0) ∗ X2 m c ∗ A ∗ W1 m c 1 (chunkIx c 7) ∗ P)
      ⊢ WPd c (App (k0_part19 (F := F)) c v2 (pmax m c 6) v607)
        (fun r => iprop(⌜∃ a b, r = ⟨pmax m c 7, a, k0_pay64 (xC m c) (wB m c (chunkIx c 7)), b⟩⌝ ∗ Full m K c (chk c 15 1) ∗ X2 m c ∗ A ∗ W0 m c 1 ∗ P)) := by
  rw [k0_part19_eq_skeleton]; unfold App k0_part19_skel
  refine wwait_at1 m K (chunkIx c 7) (hamt := ?_) (hk := ?_)
  · rfl
  refine xload_at m K ?_
  refine wload_at1 m K (chunkIx c 7) ?_
  refine sndl_at m K 7 0 rfl (by revert c; decide +kernel) ?_
  refine snds_at m K 7 0 rfl (by revert c; decide +kernel) (sendV_of0 m rfl) ?_
  refine keep_at m K 7 0 rfl (by revert c; decide +kernel) (by revert c; decide +kernel) (sendV_of0 m rfl) ?_
  refine send_at m K 7 0 rfl (by revert c; decide +kernel) (fun _ => Fin.ext (by revert c; decide +kernel))
    (by revert c; decide +kernel) (by revert c; decide +kernel) (by revert c; decide +kernel) (by revert c; decide +kernel) ?_
  refine sndl_at m K 7 1 rfl (by revert c; decide +kernel) ?_
  refine snds_at m K 7 1 rfl (by revert c; decide +kernel) (sendV_of1 m rfl) ?_
  exact ret' ⟨_, _, rfl⟩

end Parts

end Cert.KernelIdeal.Hand
end
-- ==== Proof.KernelIdeal.P4.lean ====
/-
The rows of largest entries written, sent and waited for.
-/
module

public import proofs.«01_k».proof.Proof.KernelIdeal.P1

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section Parts
variable (c : Dev nD)

theorem chk_end {P W : sProp 𝕄} (h : iprop(Full m K c (stg 5 6 0) ∗ P) ⊢ W) : iprop(Full m K c (chk c 16 0) ∗ P) ⊢ W := by
  rw [chk_last]; exact h
theorem stg_step {P W : sProp 𝕄} {a b b' : ℕ} (h : iprop(Full m K c (stg b b' 0) ∗ P) ⊢ W) : iprop(Full m K c (stg a b 16) ∗ P) ⊢ W := by
  rw [stg_next (b' := b')]; exact h

theorem part20_spec (P : sProp 𝕄) (v640 : BitVec 32) (v647 : BitVec 1) :
    iprop(Full m K c (chk c 15 1) ∗ P)
      ⊢ WPd c (App (k0_part20 (F := F)) c (posW c) (pmax m c 7) v640 (k0_pay64 (xC m c) (wB m c (chunkIx c 7))) v647)
        (fun r => iprop(⌜r = Scalar.extui (Scalar.cmpi .eq (posW c) 8#32)⌝ ∗ Full m K c (stg 5 6 8) ∗ P)) := by
  rw [k0_part20_eq_skeleton]; unfold App k0_part20_skel
  refine keep_at m K 7 1 rfl (by revert c; decide +kernel) (by revert c; decide +kernel) (sendV_of1 m rfl) ?_
  refine send_at m K 7 1 rfl (by revert c; decide +kernel) (fun _ => Fin.ext (by revert c; decide +kernel))
    (by revert c; decide +kernel) (by revert c; decide +kernel) (by revert c; decide +kernel) (by revert c; decide +kernel) ?_
  refine chk_end m K c ?_
  refine amx_at m K 0 rfl (by revert c; decide +kernel) rfl rfl ?_
  refine amx_at m K 1 rfl (by revert c; decide +kernel) rfl rfl ?_
  refine amx_at m K 2 rfl (by revert c; decide +kernel) rfl rfl ?_
  refine amx_at m K 3 rfl (by revert c; decide +kernel) rfl rfl ?_
  refine amx_at m K 4 rfl (by revert c; decide +kernel) rfl rfl ?_
  refine amx_at m K 5 rfl (by revert c; decide +kernel) rfl rfl ?_
  refine amx_at m K 6 rfl (by revert c; decide +kernel) rfl rfl ?_
  refine amx_at m K 7 rfl (by revert c; decide +kernel) rfl rfl ?_
  exact ret

theorem part21_spec (P : sProp 𝕄) :
    iprop(Full m K c (stg 5 6 8) ∗ P)
      ⊢ WPd c (App (k0_part21 (F := F)) c (posW c) (pmax m c 7) (Scalar.extui (Scalar.cmpi .eq (posW c) 8#32)))
        (fun r => iprop(⌜True⌝ ∗ Full m K c (stg 7 8 2) ∗ P)) := by
  rw [k0_part21_eq_skeleton]; unfold App k0_part21_skel
  refine amx_at m K 8 rfl (by revert c; decide +kernel) rfl rfl ?_
  refine amx_at m K 9 rfl (by revert c; decide +kernel) rfl rfl ?_
  refine amx_at m K 10 rfl (by revert c; decide +kernel) rfl rfl ?_
  refine amx_at m K 11 rfl (by revert c; decide +kernel) rfl rfl ?_
  refine amx_at m K 12 rfl (by revert c; decide +kernel) rfl rfl ?_
  refine amx_at m K 13 rfl (by revert c; decide +kernel) rfl rfl ?_
  refine amx_at m K 14 rfl (by revert c; decide +kernel) rfl rfl ?_
  refine amx_at m K 15 rfl (by revert c; decide +kernel) rfl rfl ?_
  refine stepE (deal m K c) ?_
  refine asend_at m K 0 rfl (by revert c; decide +kernel) (fun _ => rfl) rfl (by revert c; decide +kernel) (by revert c; decide +kernel) (by revert c; decide +kernel) ?_
  refine asend_at m K 1 rfl (by revert c; decide +kernel) (fun _ => rfl) rfl (by revert c; decide +kernel) (by revert c; decide +kernel) (by revert c; decide +kernel) ?_
  exact ret' trivial

theorem part22_spec (P : sProp 𝕄) (v2 v708 : BitVec 32) :
    iprop(Full m K c (stg 7 8 2) ∗ P)
      ⊢ WPd c (App (k0_part22 (F := F)) c v2 v708) (fun r => iprop(⌜True⌝ ∗ Full m K c (stg 7 8 12) ∗ P)) := by
  rw [k0_part22_eq_skeleton]; unfold App k0_part22_skel
  refine asend_at m K 2 rfl (by revert c; decide +kernel) (fun _ => rfl) rfl (by revert c; decide +kernel) (by revert c; decide +kernel) (by revert c; decide +kernel) ?_
  refine asend_at m K 3 rfl (by revert c; decide +kernel) (fun _ => rfl) rfl (by revert c; decide +kernel) (by revert c; decide +kernel) (by revert c; decide +kernel) ?_
  refine asend_at m K 4 rfl (by revert c; decide +kernel) (fun _ => rfl) rfl (by revert c; decide +kernel) (by revert c; decide +kernel) (by revert c; decide +kernel) ?_
  refine asend_at m K 5 rfl (by revert c; decide +kernel) (fun _ => rfl) rfl (by revert c; decide +kernel) (by revert c; decide +kernel) (by revert c; decide +kernel) ?_
  refine asend_at m K 6 rfl (by revert c; decide +kernel) (fun _ => rfl) rfl (by revert c; decide +kernel) (by revert c; decide +kernel) (by revert c; decide +kernel) ?_
  refine asend_at m K 7 rfl (by revert c; decide +kernel) (fun _ => rfl) rfl (by revert c; decide +kernel) (by revert c; decide +kernel) (by revert c; decide +kernel) ?_
  refine asend_at m K 8 rfl (by revert c; decide +kernel) (fun _ => rfl) rfl (by revert c; decide +kernel) (by revert c; decide +kernel) (by revert c; decide +kernel) ?_
  refine asend_at m K 9 rfl (by revert c; decide +kernel) (fun _ => rfl) rfl (by revert c; decide +kernel) (by revert c; decide +kernel) (by revert c; decide +kernel) ?_
  refine asend_at m K 10 rfl (by revert c; decide +kernel) (fun _ => rfl) rfl (by revert c; decide +kernel) (by revert c; decide +kernel) (by revert c; decide +kernel) ?_
  refine asend_at m K 11 rfl (by revert c; decide +kernel) (fun _ => rfl) rfl (by revert c; decide +kernel) (by revert c; decide +kernel) (by revert c; decide +kernel) ?_
  exact ret' trivial

theorem part23_spec (P : sProp 𝕄) (v738 : BitVec 32) :
    iprop(Full m K c (stg 7 8 12) ∗ P)
      ⊢ WPd c (App (k0_part23 (F := F)) c (posW c) v738)
        (fun r => iprop(⌜r = Scalar.extui (Scalar.cmpi .ne (posW c) 6#32)⌝ ∗ Full m K c (stg 8 9 6) ∗ P)) := by
  rw [k0_part23_eq_skeleton]; unfold App k0_part23_skel
  refine asend_at m K 12 rfl (by revert c; decide +kernel) (fun _ => rfl) rfl (by revert c; decide +kernel) (by revert c; decide +kernel) (by revert c; decide +kernel) ?_
  refine asend_at m K 13 rfl (by revert c; decide +kernel) (fun _ => rfl) rfl (by revert c; decide +kernel) (by revert c; decide +kernel) (by revert c; decide +kernel) ?_
  refine asend_at m K 14 rfl (by revert c; decide +kernel) (fun _ => rfl) rfl (by revert c; decide +kernel) (by revert c; decide +kernel) (by revert c; decide +kernel) ?_
  refine asend_at m K 15 rfl (by revert c; decide +kernel) (fun _ => rfl) rfl (by revert c; decide +kernel) (by revert c; decide +kernel) (by revert c; decide +kernel) ?_
  refine stg_step m K c (b' := 9) ?_
  refine await_at m K 0 rfl (by revert c; decide +kernel) (hq1 := ?_) (hq2 := ?_) (hamt := ?_) (hamt' := ?_) (hk := ?_)
  iterate 4 exact fun _ => rfl
  refine await_at m K 1 rfl (by revert c; decide +kernel) (hq1 := ?_) (hq2 := ?_) (hamt := ?_) (hamt' := ?_) (hk := ?_)
  iterate 4 exact fun _ => rfl
  refine await_at m K 2 rfl (by revert c; decide +kernel) (hq1 := ?_) (hq2 := ?_) (hamt := ?_) (hamt' := ?_) (hk := ?_)
  iterate 4 exact fun _ => rfl
  refine await_at m K 3 rfl (by revert c; decide +kernel) (hq1 := ?_) (hq2 := ?_) (hamt := ?_) (hamt' := ?_) (hk := ?_)
  iterate 4 exact fun _ => rfl
  refine await_at m K 4 rfl (by revert c; decide +kernel) (hq1 := ?_) (hq2 := ?_) (hamt := ?_) (hamt' := ?_) (hk := ?_)
  iterate 4 exact fun _ => rfl
  refine await_at m K 5 rfl (by revert c; decide +kernel) (hq1 := ?_) (hq2 := ?_) (hamt := ?_) (hamt' := ?_) (hk := ?_)
  iterate 4 exact fun _ => rfl
  exact ret

theorem part24_spec (P : sProp 𝕄) :
    iprop(Full m K c (stg 8 9 6) ∗ P)
      ⊢ WPd c (App (k0_part24 (F := F)) (posW c) (Scalar.extui (Scalar.cmpi .ne (posW c) 6#32)))
        (fun r => iprop(⌜r = ⟨⟩⌝ ∗ Full m K c (stg 8 9 16) ∗ P)) := by
  rw [k0_part24_eq_skeleton]; unfold App k0_part24_skel
  refine await_at m K 6 rfl (by revert c; decide +kernel) (hq1 := ?_) (hq2 := ?_) (hamt := ?_) (hamt' := ?_) (hk := ?_)
  iterate 4 exact fun _ => rfl
  refine await_at m K 7 rfl (by revert c; decide +kernel) (hq1 := ?_) (hq2 := ?_) (hamt := ?_) (hamt' := ?_) (hk := ?_)
  iterate 4 exact fun _ => rfl
  refine await_at m K 8 rfl (by revert c; decide +kernel) (hq1 := ?_) (hq2 := ?_) (hamt := ?_) (hamt' := ?_) (hk := ?_)
  iterate 4 exact fun _ => rfl
  refine await_at m K 9 rfl (by revert c; decide +kernel) (hq1 := ?_) (hq2 := ?_) (hamt := ?_) (hamt' := ?_) (hk := ?_)
  iterate 4 exact fun _ => rfl
  refine await_at m K 10 rfl (by revert c; decide +kernel) (hq1 := ?_) (hq2 := ?_) (hamt := ?_) (hamt' := ?_) (hk := ?_)
  iterate 4 exact fun _ => rfl
  refine await_at m K 11 rfl (by revert c; decide +kernel) (hq1 := ?_) (hq2 := ?_) (hamt := ?_) (hamt' := ?_) (hk := ?_)
  iterate 4 exact fun _ => rfl
  refine await_at m K 12 rfl (by revert c; decide +kernel) (hq1 := ?_) (hq2 := ?_) (hamt := ?_) (hamt' := ?_) (hk := ?_)
  iterate 4 exact fun _ => rfl
  refine await_at m K 13 rfl (by revert c; decide +kernel) (hq1 := ?_) (hq2 := ?_) (hamt := ?_) (hamt' := ?_) (hk := ?_)
  iterate 4 exact fun _ => rfl
  refine await_at m K 14 rfl (by revert c; decide +kernel) (hq1 := ?_) (hq2 := ?_) (hamt := ?_) (hamt' := ?_) (hk := ?_)
  iterate 4 exact fun _ => rfl
  refine await_at m K 15 rfl (by revert c; decide +kernel) (hq1 := ?_) (hq2 := ?_) (hamt := ?_) (hamt' := ?_) (hk := ?_)
  iterate 4 exact fun _ => rfl
  exact ret

end Parts

end Cert.KernelIdeal.Hand
end
-- ==== Proof.KernelIdeal.At4.lean ====
/-
The last part of the body: the rows of largest entries read whole, received blocks read, the rows of the
result written, the result copied out.
-/
module

public import proofs.«01_k».proof.Proof.KernelIdeal.At3

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## Loads -/

theorem step_aload {c : Dev nD} {inb} {hl} {α : Type} {k : Vec F S16x8x128 .f32 → Prog (TpuEff nD τ sig (Elt F) Λ₀ .tc) α} {Q : α → sProp 𝕄} :
    (owns (c : Thread nD τ) amxM fullShare (amaxAll m) : sProp 𝕄)
      ⊢ iprop((owns (c : Thread nD τ) amxM fullShare (amaxAll m) -∗ WPc c (k (amaxAll m)) Q)
        -∗ WPc c (Prog.lift (.load (cs := .vmem) amxM (Rect.unit (s := S16x8x128) ![0, 0, 0] S16x8x128.size inb).toLoadRect hl) >>= k) Q) := by
  rw [lift_bind]
  have hw : (owns (c : Thread nD τ) amxM fullShare (amaxAll m) : sProp 𝕄) = ((c : Thread nD τ).loc cc0_scratch5) ↦{fullShare} (amaxAll m) := owns_whole _ _ _ _
  have hr : (amxM.view.readAt (Elt F) (Rect.unit (s := S16x8x128) ![0, 0, 0] S16x8x128.size inb).toLoadRect (amaxAll m) : Vec F S16x8x128 .f32) = amaxAll m :=
    Memref.readAt_unit_zero (Elt F) cc0_scratch5 (funext fun a => by match a with | ⟨0, _⟩ => rfl | ⟨1, _⟩ => rfl | ⟨2, _⟩ => rfl) inb _
  rw [hw]
  iintro H1 Hk
  iapply (wp_load 𝒱₀ (c : Thread nD τ) none Set.univ (m := amxM) (r := (Rect.unit (s := S16x8x128) ![0, 0, 0] S16x8x128.size inb).toLoadRect) (cs := .vmem) (f := amaxAll m) (Finset.subset_univ _)) $$ H1
  iintro H1
  iapply (Entails.of_eq (show WPc c (k (amaxAll m)) Q = WPc c (k (amxM.view.readAt (Elt F) (Rect.unit (s := S16x8x128) ![0, 0, 0] S16x8x128.size inb).toLoadRect (amaxAll m))) Q by rw [hr]))
  iapply Hk
  iexact H1

/-- A received block, held whether it is the device's own or a peer's. -/
theorem Slot_rcv (c : Dev nD) (s : Fin 16) : Slot m c s 11 ⊢ iprop(rcvP c s (sendV m s c) ∗ (rcvP c s (sendV m s c) -∗ Slot m c s 11)) := by
  by_cases h : s = c
  · subst h
    rw [Slot_own]; simp only [Own]
    iintro ⟨H1, H2⟩
    isplitl [H2]; · iexact H2
    iintro H2
    isplitl [H1]; · iexact H1
    iexact H2
  · rw [Slot_peer m h]; simp only [Peer]
    iintro ⟨⟨H1, H2⟩, H3⟩
    isplitl [H1]; · iexact H1
    iintro H1
    isplitl [H1 H2]
    · isplitl [H1]; · iexact H1
      iexact H2
    iexact H3

theorem step_rload {c : Dev nD} {σ : Fin 16 → ℕ} (s : Fin 16) (h0 : σ s = 11) {off : Fin 3 → Nat} (ho : off = off3 s) {inb} {hl} {α : Type}
    {k : Vec F S1x256x128 .bf16 → Prog (TpuEff nD τ sig (Elt F) Λ₀ .tc) α} {Q : α → sProp 𝕄} :
    Full m K c σ ⊢ iprop((Full m K c σ -∗ WPc c (k (sendV m s c)) Q)
      -∗ WPc c (Prog.lift (.load (cs := .vmem) rcvM (Rect.unit (s := S16x256x128) off S1x256x128.size inb).toLoadRect hl) >>= k) Q) := by
  subst ho
  rw [lift_bind]
  have E := Full_open m K (c := c) s h0 h0 (fun _ _ => rfl)
  have E' := Slot_rcv m c s
  iintro H Hk
  ihave H := E $$ H
  icases H with ⟨_, Ho, Hs, Hc⟩
  ihave Hs := E' $$ Hs
  icases Hs with ⟨Hs, Hb⟩
  iapply (wp_own_load (M := rcvM) (r := blkR s) (hr := fun _ => rfl)) $$ Hs
  iintro Hs
  iapply Hk
  iapply Hc
  isplitl [Ho]; · iexact Ho
  iapply Hb
  iexact Hs

/-! ## The rows of the result -/

/-- Row block `s` of the staging buffer, written once `k` passes it. -/
def SG1 (c : Dev nD) (k : ℕ) (s : Fin 16) : sProp 𝕄 :=
  if s.val < k then owns (c : Thread nD τ) (stgRow s) fullShare (outB m c s) else iprop(∃ X, owns (c : Thread nD τ) (stgRow s) fullShare X)
def SG (c : Dev nD) (k : ℕ) : sProp 𝕄 := bigSep Finset.univ fun s => SG1 m c k s

theorem SG_lo (c : Dev nD) {k : ℕ} (s : Fin 16) (h : s.val = k) : SG1 m c k s = iprop(∃ X, owns (c : Thread nD τ) (stgRow s) fullShare X) := if_neg (by omega)
theorem SG_hi (c : Dev nD) {k : ℕ} (s : Fin 16) (h : s.val = k) : SG1 m c (k + 1) s = owns (c : Thread nD τ) (stgRow s) fullShare (outB m c s) := if_pos (by omega)
theorem SG_ne (c : Dev nD) {k : ℕ} (s : Fin 16) (h : s.val = k) (j : Fin 16) (hj : j ≠ s) : SG1 m c k j = SG1 m c (k + 1) j := by
  have : j.val ≠ k := fun e => hj (Fin.ext (e.trans h.symm))
  unfold SG1
  by_cases h1 : j.val < k
  · rw [if_pos h1, if_pos (by omega)]
  · rw [if_neg h1, if_neg (by omega)]

theorem step_sgl {c : Dev nD} {k : ℕ} (s : Fin 16) (h : s.val = k) {off : Fin 2 → Nat} (ho : off = ![256 * s.val, 0]) {inb} {hl} {α : Type}
    {R : Prog (TpuEff nD τ sig (Elt F) Λ₀ .tc) α} {Q : α → sProp 𝕄} :
    SG m c k ⊢ iprop((SG m c k -∗ WPc c R Q)
      -∗ WPc c (Prog.lift (.load (cs := .vmem) stgM (Rect.unit (s := S4096x128) off S256x128.size inb).toLoadRect hl) >>= fun _ => R) Q) := by
  subst ho
  rw [lift_bind]
  have E : SG m c k ⊢ iprop(SG1 m c k s ∗ (SG1 m c k s -∗ SG m c k)) := bigSep_univ_update s fun _ _ => rfl
  rw [SG_lo m c s h] at E
  iintro H Hk
  ihave H := E $$ H
  icases H with ⟨⟨%X, Hs⟩, Hc⟩
  iapply (wp_own_load (M := stgM) (r := rowR s) (hr := fun _ => rfl) (k := fun _ => R)) $$ Hs
  iintro Hs
  iapply Hk
  iapply Hc
  iexists X
  iexact Hs

theorem step_sgs {c : Dev nD} {k : ℕ} (s : Fin 16) (h : s.val = k) {off : Fin 2 → Nat} (ho : off = ![256 * s.val, 0]) {inb}
    {w : Vec F S256x128 .f32} (hw : w = outB m c s) {hx} {hm} {α : Type} {R : Prog (TpuEff nD τ sig (Elt F) Λ₀ .tc) α} {Q : α → sProp 𝕄} :
    SG m c k ⊢ iprop((SG m c (k + 1) -∗ WPc c R Q)
      -∗ WPc c (Prog.lift (.store (cs := .vmem) stgM (Rect.unit (s := S4096x128) off S256x128.size inb) w Finset.univ hx hm) >>= fun _ => R) Q) := by
  subst ho hw
  rw [lift_bind]
  have E : SG m c k ⊢ iprop(SG1 m c k s ∗ (SG1 m c (k + 1) s -∗ SG m c (k + 1))) := bigSep_univ_update s fun j hj => (SG_ne m c s h j hj).symm
  rw [SG_lo m c s h, SG_hi m c s h] at E
  iintro H Hk
  ihave H := E $$ H
  icases H with ⟨⟨%X, Hs⟩, Hc⟩
  iapply (wp_own_store (M := stgM) (r := rowR s) (hr := fun _ => rfl) (k := fun _ => R)) $$ Hs
  iintro Hs
  iapply Hk
  iapply Hc
  iexact Hs

theorem SG_all (c : Dev nD) : SG m c 16 ⊢ (owns (c : Thread nD τ) stgM fullShare (outV m c) : sProp 𝕄) := by
  have h := owns_of_rects (Val := Elt F) (Ix := Unit) (Name := ℕ) (U := UU) (Lvl := ℕ) (c : Thread nD τ) stgM fullShare rowR (fun _ _ => rfl) row_disj row_cov (outV m c)
  refine (Entails.of_eq (bigSep_congr fun s _ => ?_)).trans h
  rw [out_row]; exact if_pos s.isLt

/-! ## The result copied out -/

def O0 (c : Dev nD) : sProp 𝕄 := iprop((∃ X, owns (c : Thread nD τ) oH fullShare X) ∗ sv0 c oSem)
def O1 (c : Dev nD) : sProp 𝕄 := Fl c oSem oH.view.dmaCredit iprop(owns (c : Thread nD τ) oH fullShare (outV m c) ∗ owns (c : Thread nD τ) stgM fullShare (outV m c))
def O2 (c : Dev nD) : sProp 𝕄 := iprop(owns (c : Thread nD τ) oH fullShare (outV m c) ∗ owns (c : Thread nD τ) stgM fullShare (outV m c) ∗ sv0 c oSem)

theorem step_o {c : Dev nD} {hsrc} {hdst} {hsem} {α : Type} {R : Prog (TpuEff nD τ sig (Elt F) Λ₀ .tc) α} {Q : α → sProp 𝕄} :
    iprop(SG m c 16 ∗ O0 c) ⊢ iprop((O1 m c -∗ WPc c R Q) -∗ WPc c (Prog.lift (.enqueueDma stgM (.here oH) (.dma oSem) hsrc hdst hsem) >>= fun _ => R) Q) := by
  rw [lift_bind]
  unfold O0 O1
  have hu X : (owns (c : Thread nD τ) oH fullShare X : sProp 𝕄) = iprop(∃ f, ⌜oH.view.read (Elt F) f = X⌝ ∗ (oH.view.loc (c : Thread nD τ) ↦[oH.view.set]{fullShare} f)) := rfl
  iintro ⟨Hs, ⟨%X, Hd⟩, Hv⟩
  ihave Hs := (SG_all m c) $$ Hs
  ihave Hd := (Entails.of_eq (hu X)) $$ Hd
  icases Hd with ⟨%f, _, Hd⟩
  have hD : (oH.view.loc (c : Thread nD τ) ↦[oH.view.set]{fullShare} (oH.view.write (Elt F) f (outV m c) Finset.univ) : sProp 𝕄) ⊢ owns (c : Thread nD τ) oH fullShare (outV m c) := by
    iintro H
    iapply (Entails.of_eq (show (owns (c : Thread nD τ) oH fullShare (outV m c) : sProp 𝕄) = iprop(∃ f, ⌜oH.view.read (Elt F) f = outV m c⌝ ∗ (oH.view.loc (c : Thread nD τ) ↦[oH.view.set]{fullShare} f)) from rfl).symm)
    iexists _
    isplitr
    · ipureintro; exact View.read_write_univ (v := oH.view) f (outV m c)
    iexact H
  iapply (wp_local stgM oH (X := outV m c) (fd := f) (D := owns (c : Thread nD τ) oH fullShare (outV m c)) (View.dmaCredit_pos _ (by decide)) hD (k := fun _ => R))
  isplitl [Hs]; · iexact Hs
  isplitl [Hd]; · iexact Hd
  iexact Hv

theorem step_owait {c : Dev nD} {σ : Fin 16 → ℕ} {hsrc} {hdst} {α : Type} {R : Prog (TpuEff nD τ sig (Elt F) Λ₀ .tc) α} {Q : α → sProp 𝕄} :
    iprop(Full m K c σ ∗ O1 m c) ⊢ iprop((iprop(Full m K c σ ∗ O2 m c) -∗ WPc c R Q)
      -∗ WPc c (Prog.lift (.waitDma2 oSem stgM oH hsrc hdst) >>= fun _ => R) Q) := by
  unfold O1 O2
  iintro H Hk
  iapply (wp_local_wait m K (lv_o c) (sw := stgM) (dw := oH) rfl) $$ H
  iintro ⟨H, ⟨H1, H2⟩, H3⟩
  iapply Hk
  isplitl [H]; · iexact H
  isplitl [H1]; · iexact H1
  isplitl [H2]; · iexact H2
  iexact H3

section At
variable {c : Dev nD}

theorem aload_at {G P : sProp 𝕄} {inb} {hl} {α : Type} {k : Vec F S16x8x128 .f32 → Prog (TpuEff nD τ sig (Elt F) Λ₀ .tc) α} {Q : α → sProp 𝕄}
    (hk : iprop(G ∗ owns (c : Thread nD τ) amxM fullShare (amaxAll m) ∗ P) ⊢ WPd c (k (amaxAll m)) Q) :
    iprop(G ∗ owns (c : Thread nD τ) amxM fullShare (amaxAll m) ∗ P)
      ⊢ WPd c (Prog.lift (.load (cs := .vmem) amxM (Rect.unit (s := S16x8x128) ![0, 0, 0] S16x8x128.size inb).toLoadRect hl) >>= k) Q :=
  step2 (step_aload m) hk

theorem rload_at {P : sProp 𝕄} (s : Fin 16) {off : Fin 3 → Nat} (ho : off = off3 s) {inb} {hl} {α : Type}
    {k : Vec F S1x256x128 .bf16 → Prog (TpuEff nD τ sig (Elt F) Λ₀ .tc) α} {Q : α → sProp 𝕄}
    (hk : iprop(Full m K c (stg 10 11 16) ∗ P) ⊢ WPd c (k (sendV m s c)) Q) :
    iprop(Full m K c (stg 10 11 16) ∗ P)
      ⊢ WPd c (Prog.lift (.load (cs := .vmem) rcvM (Rect.unit (s := S16x256x128) off S1x256x128.size inb).toLoadRect hl) >>= k) Q :=
  stepA (step_rload m K s (stg_all s) ho) hk

theorem sgl_at {G P : sProp 𝕄} {k : ℕ} (s : Fin 16) (h : s.val = k) {off : Fin 2 → Nat} (ho : off = ![256 * s.val, 0]) {inb} {hl} {α : Type}
    {R : Prog (TpuEff nD τ sig (Elt F) Λ₀ .tc) α} {Q : α → sProp 𝕄} (hk : iprop(G ∗ SG m c k ∗ P) ⊢ WPd c R Q) :
    iprop(G ∗ SG m c k ∗ P) ⊢ WPd c (Prog.lift (.load (cs := .vmem) stgM (Rect.unit (s := S4096x128) off S256x128.size inb).toLoadRect hl) >>= fun _ => R) Q :=
  step2 (step_sgl m s h ho) hk

theorem sgs_at {G P : sProp 𝕄} {k : ℕ} (s : Fin 16) (h : s.val = k) {off : Fin 2 → Nat} (ho : off = ![256 * s.val, 0]) {inb}
    {w : Vec F S256x128 .f32} (hw : w = outB m c s) {hx} {hm} {α : Type} {R : Prog (TpuEff nD τ sig (Elt F) Λ₀ .tc) α} {Q : α → sProp 𝕄}
    (hk : iprop(G ∗ SG m c (k + 1) ∗ P) ⊢ WPd c R Q) :
    iprop(G ∗ SG m c k ∗ P) ⊢ WPd c (Prog.lift (.store (cs := .vmem) stgM (Rect.unit (s := S4096x128) off S256x128.size inb) w Finset.univ hx hm) >>= fun _ => R) Q :=
  step2 (step_sgs m s h ho hw) hk

theorem o_at {G P : sProp 𝕄} {hsrc} {hdst} {hsem} {α : Type} {R : Prog (TpuEff nD τ sig (Elt F) Λ₀ .tc) α} {Q : α → sProp 𝕄}
    (hk : iprop(G ∗ O1 m c ∗ P) ⊢ WPd c R Q) :
    iprop(G ∗ iprop(SG m c 16 ∗ O0 c) ∗ P) ⊢ WPd c (Prog.lift (.enqueueDma stgM (.here oH) (.dma oSem) hsrc hdst hsem) >>= fun _ => R) Q :=
  step2 (step_o m) hk

theorem owait_at {P : sProp 𝕄} {σ : Fin 16 → ℕ} {hsrc} {hdst} {α : Type} {R : Prog (TpuEff nD τ sig (Elt F) Λ₀ .tc) α} {Q : α → sProp 𝕄}
    (hk : iprop(Full m K c σ ∗ O2 m c ∗ P) ⊢ WPd c R Q) :
    iprop(Full m K c σ ∗ O1 m c ∗ P) ⊢ WPd c (Prog.lift (.waitDma2 oSem stgM oH hsrc hdst) >>= fun _ => R) Q :=
  step12 (step_owait m K) hk

end At

end Cert.KernelIdeal.Hand
end
-- ==== Proof.KernelIdeal.P5.lean ====
/-
Parts 25 to 31 of the body: the scale, the blocks waited for, the first fourteen row blocks of the result.
-/
module

public import proofs.«01_k».proof.Proof.KernelIdeal.At4

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

section Parts
variable (c : Dev nD)

theorem part25_spec (P : sProp 𝕄) :
    iprop(Full m K c (stg 8 9 16) ∗ P)
      ⊢ WPd c (App (k0_part25 (F := F)) (posW c))
        (fun r => iprop(⌜r = ⟨scaleV m, Scalar.extui (Scalar.cmpi .ne (posW c) 8#32), 0#32⟩⌝ ∗ Full m K c (stg 10 11 8) ∗ owns (c : Thread nD τ) amxM fullShare (amaxAll m) ∗ P)) := by
  rw [k0_part25_eq_skeleton]; unfold App k0_part25_skel
  refine stepE (gather m K c) (in2.trans ?_)
  refine aload_at m ?_
  refine dwait_at m K 0 rfl (by revert c; decide +kernel) (hq1 := ?_) (hq2 := ?_) (hamt := ?_) (hamt' := ?_) (hk := ?_)
  iterate 4 exact fun _ => rfl
  refine dwait_at m K 1 rfl (by revert c; decide +kernel) (hq1 := ?_) (hq2 := ?_) (hamt := ?_) (hamt' := ?_) (hk := ?_)
  iterate 4 exact fun _ => rfl
  refine dwait_at m K 2 rfl (by revert c; decide +kernel) (hq1 := ?_) (hq2 := ?_) (hamt := ?_) (hamt' := ?_) (hk := ?_)
  iterate 4 exact fun _ => rfl
  refine dwait_at m K 3 rfl (by revert c; decide +kernel) (hq1 := ?_) (hq2 := ?_) (hamt := ?_) (hamt' := ?_) (hk := ?_)
  iterate 4 exact fun _ => rfl
  refine dwait_at m K 4 rfl (by revert c; decide +kernel) (hq1 := ?_) (hq2 := ?_) (hamt := ?_) (hamt' := ?_) (hk := ?_)
  iterate 4 exact fun _ => rfl
  refine dwait_at m K 5 rfl (by revert c; decide +kernel) (hq1 := ?_) (hq2 := ?_) (hamt := ?_) (hamt' := ?_) (hk := ?_)
  iterate 4 exact fun _ => rfl
  refine dwait_at m K 6 rfl (by revert c; decide +kernel) (hq1 := ?_) (hq2 := ?_) (hamt := ?_) (hamt' := ?_) (hk := ?_)
  iterate 4 exact fun _ => rfl
  refine dwait_at m K 7 rfl (by revert c; decide +kernel) (hq1 := ?_) (hq2 := ?_) (hamt := ?_) (hamt' := ?_) (hk := ?_)
  iterate 4 exact fun _ => rfl
  exact ret

theorem part26_spec (P : sProp 𝕄) (v802 : F .f32) :
    iprop(Full m K c (stg 10 11 8) ∗ P)
      ⊢ WPd c (App (k0_part26 (F := F)) (posW c) v802 (Scalar.extui (Scalar.cmpi .ne (posW c) 8#32)) 0#32)
        (fun r => iprop(⌜r = ⟨k0_pay84 v802 (sendV m 0 c), k0_pay85 v802⟩⌝ ∗ Full m K c (stg 10 11 16) ∗ P)) := by
  rw [k0_part26_eq_skeleton]; unfold App k0_part26_skel
  refine dwait_at m K 8 rfl (by revert c; decide +kernel) (hq1 := ?_) (hq2 := ?_) (hamt := ?_) (hamt' := ?_) (hk := ?_)
  iterate 4 exact fun _ => rfl
  refine dwait_at m K 9 rfl (by revert c; decide +kernel) (hq1 := ?_) (hq2 := ?_) (hamt := ?_) (hamt' := ?_) (hk := ?_)
  iterate 4 exact fun _ => rfl
  refine dwait_at m K 10 rfl (by revert c; decide +kernel) (hq1 := ?_) (hq2 := ?_) (hamt := ?_) (hamt' := ?_) (hk := ?_)
  iterate 4 exact fun _ => rfl
  refine dwait_at m K 11 rfl (by revert c; decide +kernel) (hq1 := ?_) (hq2 := ?_) (hamt := ?_) (hamt' := ?_) (hk := ?_)
  iterate 4 exact fun _ => rfl
  refine dwait_at m K 12 rfl (by revert c; decide +kernel) (hq1 := ?_) (hq2 := ?_) (hamt := ?_) (hamt' := ?_) (hk := ?_)
  iterate 4 exact fun _ => rfl
  refine dwait_at m K 13 rfl (by revert c; decide +kernel) (hq1 := ?_) (hq2 := ?_) (hamt := ?_) (hamt' := ?_) (hk := ?_)
  iterate 4 exact fun _ => rfl
  refine dwait_at m K 14 rfl (by revert c; decide +kernel) (hq1 := ?_) (hq2 := ?_) (hamt := ?_) (hamt' := ?_) (hk := ?_)
  iterate 4 exact fun _ => rfl
  refine dwait_at m K 15 rfl (by revert c; decide +kernel) (hq1 := ?_) (hq2 := ?_) (hamt := ?_) (hamt' := ?_) (hk := ?_)
  iterate 4 exact fun _ => rfl
  refine rload_at m K 0 rfl ?_
  exact ret

theorem part27_spec (P : sProp 𝕄) :
    iprop(Full m K c (stg 10 11 16) ∗ SG m c 0 ∗ P)
      ⊢ WPd c (App (k0_part27 (F := F)) (scaleV m) (k0_pay84 (scaleV m) (sendV m 0 c)) (k0_pay85 (scaleV m)))
        (fun r => iprop(⌜r = ⟨k0_pay89 (sendV m 3 c), k0_pay90 (scaleV m)⟩⌝ ∗ Full m K c (stg 10 11 16) ∗ SG m c 3 ∗ P)) := by
  rw [k0_part27_eq_skeleton]; unfold App k0_part27_skel
  refine sgl_at m 0 rfl rfl ?_
  refine sgs_at m 0 rfl rfl rfl ?_
  refine rload_at m K 1 rfl ?_
  refine sgl_at m 1 rfl rfl ?_
  refine sgs_at m 1 rfl rfl rfl ?_
  refine rload_at m K 2 rfl ?_
  refine sgl_at m 2 rfl rfl ?_
  refine sgs_at m 2 rfl rfl rfl ?_
  refine rload_at m K 3 rfl ?_
  exact ret

theorem part28_spec (P : sProp 𝕄) :
    iprop(Full m K c (stg 10 11 16) ∗ SG m c 3 ∗ P)
      ⊢ WPd c (App (k0_part28 (F := F)) (scaleV m) (k0_pay89 (sendV m 3 c)) (k0_pay90 (scaleV m)))
        (fun r => iprop(⌜r = k0_pay93 (scaleV m) (sendV m 5 c)⌝ ∗ Full m K c (stg 10 11 16) ∗ SG m c 5 ∗ P)) := by
  rw [k0_part28_eq_skeleton]; unfold App k0_part28_skel
  refine sgl_at m 3 rfl rfl ?_
  refine sgs_at m 3 rfl rfl rfl ?_
  refine rload_at m K 4 rfl ?_
  refine sgl_at m 4 rfl rfl ?_
  refine sgs_at m 4 rfl rfl rfl ?_
  refine rload_at m K 5 rfl ?_
  refine sgl_at m 5 rfl rfl ?_
  exact ret

theorem part29_spec (P : sProp 𝕄) :
    iprop(Full m K c (stg 10 11 16) ∗ SG m c 5 ∗ P)
      ⊢ WPd c (App (k0_part29 (F := F)) (scaleV m) (k0_pay93 (scaleV m) (sendV m 5 c)))
        (fun r => iprop(⌜r = ⟨k0_pay97 (scaleV m) (sendV m 8 c), Scalar.ofBits .f32 0x42FE0000#32, k0_pay98⟩⌝ ∗ Full m K c (stg 10 11 16) ∗ SG m c 8 ∗ P)) := by
  rw [k0_part29_eq_skeleton]; unfold App k0_part29_skel
  refine sgs_at m 5 rfl rfl rfl ?_
  refine rload_at m K 6 rfl ?_
  refine sgl_at m 6 rfl rfl ?_
  refine sgs_at m 6 rfl rfl rfl ?_
  refine rload_at m K 7 rfl ?_
  refine sgl_at m 7 rfl rfl ?_
  refine sgs_at m 7 rfl rfl rfl ?_
  refine rload_at m K 8 rfl ?_
  exact ret

theorem part30_spec (P : sProp 𝕄) :
    iprop(Full m K c (stg 10 11 16) ∗ SG m c 8 ∗ P)
      ⊢ WPd c (App (k0_part30 (F := F)) (scaleV m) (k0_pay97 (scaleV m) (sendV m 8 c)) (Scalar.ofBits .f32 0x42FE0000#32) (k0_pay98 (F := F)))
        (fun r => iprop(⌜r = ⟨⟩⌝ ∗ Full m K c (stg 10 11 16) ∗ SG m c 11 ∗ P)) := by
  rw [k0_part30_eq_skeleton]; unfold App k0_part30_skel
  refine sgl_at m 8 rfl rfl ?_
  refine sgs_at m 8 rfl rfl rfl ?_
  refine rload_at m K 9 rfl ?_
  refine sgl_at m 9 rfl rfl ?_
  refine sgs_at m 9 rfl rfl rfl ?_
  refine rload_at m K 10 rfl ?_
  refine sgl_at m 10 rfl rfl ?_
  refine sgs_at m 10 rfl rfl rfl ?_
  exact ret

theorem part31_spec (P : sProp 𝕄) :
    iprop(Full m K c (stg 10 11 16) ∗ SG m c 11 ∗ P)
      ⊢ WPd c (App (k0_part31 (F := F)) (scaleV m))
        (fun r => iprop(⌜r = k0_pay104 (scaleV m) (sendV m 13 c)⌝ ∗ Full m K c (stg 10 11 16) ∗ SG m c 13 ∗ P)) := by
  rw [k0_part31_eq_skeleton]; unfold App k0_part31_skel
  refine rload_at m K 11 rfl ?_
  refine sgl_at m 11 rfl rfl ?_
  refine sgs_at m 11 rfl rfl rfl ?_
  refine rload_at m K 12 rfl ?_
  refine sgl_at m 12 rfl rfl ?_
  refine sgs_at m 12 rfl rfl rfl ?_
  refine rload_at m K 13 rfl ?_
  exact ret

end Parts

end Cert.KernelIdeal.Hand
end
-- ==== Proof.KernelIdeal.Body.lean ====
/-
The whole body on one device: its parts one after the other.
-/
module

public import proofs.«01_k».proof.Proof.KernelIdeal.P1
public import proofs.«01_k».proof.Proof.KernelIdeal.P2
public import proofs.«01_k».proof.Proof.KernelIdeal.P3
public import proofs.«01_k».proof.Proof.KernelIdeal.P4
public import proofs.«01_k».proof.Proof.KernelIdeal.P5

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

theorem bring {G A X V W B S O P : sProp 𝕄} : iprop(G ∗ A ∗ X ∗ V ∗ W ∗ B ∗ S ∗ O ∗ P) ⊢ iprop(G ∗ S ∗ O ∗ A ∗ X ∗ V ∗ W ∗ B ∗ P) := by
  iintro ⟨H1, H2, H3, H4, H5, H6, H7, H8, H9⟩
  isplitl [H1]; · iexact H1
  isplitl [H7]; · iexact H7
  isplitl [H8]; · iexact H8
  isplitl [H2]; · iexact H2
  isplitl [H3]; · iexact H3
  isplitl [H4]; · iexact H4
  isplitl [H5]; · iexact H5
  isplitl [H6]; · iexact H6
  iexact H9
theorem pair2 {G A B P : sProp 𝕄} : iprop(G ∗ A ∗ B ∗ P) ⊢ iprop(G ∗ iprop(A ∗ B) ∗ P) := by
  iintro ⟨H1, H2, H3, H4⟩
  isplitl [H1]; · iexact H1
  isplitl [H2 H3]
  · isplitl [H2]; · iexact H2
    iexact H3
  iexact H4

section Body
variable (c : Dev nD)

/-- What the body finds besides the exchange's state. -/
def Pre (P : sProp 𝕄) : sProp 𝕄 := iprop(Full m K c (stg 0 1 0) ∗ X0 m c ∗ W0 m c 0 ∗ W0 m c 1 ∗ iprop(crd (barCell c) 15 ∗ at0 (barCell c)) ∗ SG m c 0 ∗ O0 c ∗ P)
/-- What it holds before the result is copied out, and after. -/
def Mid (k : ℕ) (P : sProp 𝕄) : sProp 𝕄 :=
  iprop(Full m K c (stg 10 11 16) ∗ SG m c k ∗ O0 c ∗ owns (c : Thread nD τ) amxM fullShare (amaxAll m) ∗ X2 m c ∗ W0 m c 0 ∗ W0 m c 1 ∗ at1 (barCell c) ∗ P)
def Post (P : sProp 𝕄) : sProp 𝕄 :=
  iprop(Full m K c (stg 10 11 16) ∗ O2 m c ∗ owns (c : Thread nD τ) amxM fullShare (amaxAll m) ∗ X2 m c ∗ W0 m c 0 ∗ W0 m c 1 ∗ at1 (barCell c) ∗ P)

set_option maxHeartbeats 4000000 in
theorem part32_spec (P : sProp 𝕄) : Pre m K c P ⊢ WPd c (App (k0_part32 (F := F))) (fun r => iprop(⌜r = scaleV m⌝ ∗ Mid m K c 15 P)) := by
  rw [k0_part32_eq_skeleton]; unfold App k0_part32_skel Pre Mid
  refine chain (part1_spec m K c _) ?_
  rintro _ ⟨v19, rfl⟩
  refine chain (part2_spec m K c _) ?_
  rintro _ rfl
  refine chain (part3_spec m K c _ v19) ?_
  rintro ⟨v89, v94, v95⟩ -
  refine chain (part4_spec m K c _ _ _ _ _) ?_
  rintro _ ⟨v96, rfl⟩
  refine chain (part5_spec m K c _ _ _ _) ?_
  rintro _ ⟨v161, v162, v0, rfl⟩
  refine chain (part6_spec m K c _ _ _ _ _) ?_
  rintro _ ⟨v169, rfl⟩
  refine chain (part7_spec m K c _ _ _ _) ?_
  rintro _ ⟨v232, rfl⟩
  refine chain (part8_spec m K c _ _ _) ?_
  rintro v242 -
  refine chain (part9_spec m K c _ _ _) ?_
  rintro _ ⟨v292, rfl⟩
  refine chain (part10_spec m K c _ _ _ _) ?_
  rintro v315 -
  refine chain (part11_spec m K c _ _ _) ?_
  rintro _ ⟨v365, rfl⟩
  refine chain (part12_spec m K c _ _ _ _) ?_
  rintro v388 -
  refine chain (part13_spec m K c _ _ _) ?_
  rintro _ ⟨v438, rfl⟩
  refine chain (part14_spec m K c _ _ _ _) ?_
  rintro v461 -
  refine chain (part15_spec m K c _ _ _) ?_
  rintro _ ⟨v497, v508, rfl⟩
  refine chain (part16_spec m K c _ _ _ _ _ _) ?_
  rintro ⟨v534, v537, v538, v543⟩ -
  refine chain (part17_spec m K c _ _ _ _ _) ?_
  rintro _ ⟨v570, rfl⟩
  refine chain (part18_spec m K c _ _ _ _ _) ?_
  rintro v607 -
  refine chain (part19_spec m K c _ _ _) ?_
  rintro _ ⟨v640, v647, rfl⟩
  refine chain (part20_spec m K c _ _ _) ?_
  rintro _ rfl
  refine chain (part21_spec m K c _) ?_
  rintro v708 -
  refine chain (part22_spec m K c _ _ _) ?_
  rintro v738 -
  refine chain (part23_spec m K c _ _) ?_
  rintro _ rfl
  refine chain (part24_spec m K c _) ?_
  rintro _ rfl
  refine chain (part25_spec m K c _) ?_
  rintro _ rfl
  refine chain (part26_spec m K c _ _) ?_
  rintro _ rfl
  refine bring.trans ?_
  refine chain (part27_spec m K c _) ?_
  rintro _ rfl
  refine chain (part28_spec m K c _) ?_
  rintro _ rfl
  refine chain (part29_spec m K c _) ?_
  rintro _ rfl
  refine chain (part30_spec m K c _) ?_
  rintro _ rfl
  refine chain (part31_spec m K c _) ?_
  rintro _ rfl
  refine sgl_at m 13 rfl rfl ?_
  refine sgs_at m 13 rfl rfl rfl ?_
  refine rload_at m K 14 rfl ?_
  refine sgl_at m 14 rfl rfl ?_
  refine sgs_at m 14 rfl rfl rfl ?_
  exact ret

theorem body_spec (P : sProp 𝕄) : Pre m K c P ⊢ WPd c (App (cc0_body (F := F))) (fun _ => Post m K c P) := by
  rw [cc0_body_eq_skeleton]; unfold App cc0_body_skel Post
  refine chain (part32_spec m K c P) ?_
  rintro _ rfl
  unfold Mid
  refine rload_at m K 15 rfl ?_
  refine sgl_at m 15 rfl rfl ?_
  refine sgs_at m 15 rfl rfl rfl ?_
  refine pair2.trans ?_
  refine o_at m ?_
  refine owait_at m K ?_
  show _ ⊢ wp _ _ _ (.ret _) _
  rw [wp_ret]
  iintro H
  imodintro
  iexact H

end Body

end Cert.KernelIdeal.Hand
end
-- ==== Proof.KernelIdeal.Close.lean ====
/-
After the body: every counter of the exchange is given back at zero, and the buffers cut in blocks are
whole again.
-/
module

public import proofs.«01_k».proof.Proof.KernelIdeal.Body
public import proofs.«01_k».proof.Proof.KernelIdeal.Geom

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-! ## Blocks put together, whatever each holds -/

/-- Blocks of a covering family of rectangles, each held at some contents, are the whole held at some contents. -/
theorem join_some {T : Type} [Fintype T] [DecidableEq T] {c : Dev nD} {sp : Space} {s : Shape} {e : EltTy}
    (M : Memref sig .tc sp s e) (r : T → Rect s) (hr : ∀ t a, (r t).stride a = 1)
    (hd : ∀ t t', t ≠ t' → Disjoint (r t).set (r t').set)
    (hcov : (Finset.univ : Finset T).biUnion (fun t => (r t).set) = Finset.univ) :
    (bigSep Finset.univ fun t => iprop(∃ X, owns (c : Thread nD τ) (M.slice (r t) (hr t)) fullShare X) : sProp 𝕄)
      ⊢ iprop(∃ X, owns (c : Thread nD τ) M fullShare X) := by
  classical
  refine (BI.bigSep_exists_pi Finset.univ (fun t X => owns (c : Thread nD τ) (M.slice (r t) (hr t)) fullShare X)).trans ?_
  iintro ⟨%Y, H⟩
  let G : s.Idx → Elt F e := fun i => if h : ∃ p : (t : T) × (r t).shape.Idx, (r p.1).emb p.2 = i then Y (Classical.choose h).1 (Classical.choose h).2 else Classical.choice inferInstance
  have hG : ∀ t, (fun j => G ((r t).emb j)) = Y t := fun t => funext fun j => by
    have h : ∃ p : (t : T) × (r t).shape.Idx, (r p.1).emb p.2 = (r t).emb j := ⟨⟨t, j⟩, rfl⟩
    show (if h : _ then _ else _) = _
    rw [dif_pos h]
    have hc := Classical.choose_spec h
    generalize Classical.choose h = p at hc
    obtain ⟨t', j'⟩ := p
    have ht : t' = t := by
      by_contra hne
      refine (Finset.disjoint_left.mp (hd t' t hne)) (a := (r t).emb j) ?_ ?_
      · rw [← hc, ← (r t').map_emb_univ]; exact Finset.mem_map_of_mem _ (Finset.mem_univ j')
      · rw [← (r t).map_emb_univ]; exact Finset.mem_map_of_mem _ (Finset.mem_univ j)
    subst ht
    rw [(r t').emb.injective hc]
  iexists G
  iapply (owns_of_rects (Val := Elt F) (Ix := Unit) (Name := ℕ) (U := UU) (Lvl := ℕ) (c : Thread nD τ) M fullShare r hr hd hcov G)
  iapply (Entails.of_eq (bigSep_congr fun t _ => by rw [hG t])) $$ H

/-! ## Counters -/

def four (c : Dev nD) (s : Fin 16) : sProp 𝕄 :=
  iprop(semVal (chCell 0 c s) 0 ∗ semVal (chCell 1 c s) 0 ∗ semVal (chCell 2 c s) 0 ∗ semVal (chCell 3 c s) 0)
def at4 (c : Dev nD) (s : Fin 16) : sProp 𝕄 :=
  iprop(at0 (chCell 0 c s) ∗ at0 (chCell 1 c s) ∗ at0 (chCell 2 c s) ∗ at0 (chCell 3 c s))

theorem close_ch (k : Fin 4) (c : Dev nD) (s : Fin 16) : iprop(records m K ∗ at1 (chCell k c s)) ⊢ iprop(|={Set.univ}=> semVal (chCell k c s) 0) :=
  (sep_mono_left (inv_ch m K k c s)).trans (Rounds.cell_close ER (Rd m) (Set.mem_univ _) (fun h => h) (duties_later m _))
theorem close_bar (c : Dev nD) : iprop(records m K ∗ at1 (barCell c)) ⊢ iprop(|={Set.univ}=> semVal (barCell c) 0) :=
  (sep_mono_left (inv_bar m K c)).trans (Rounds.cell_close ER (Rd m) (Set.mem_univ _) (fun h => h) (duties_later m _))
theorem close_diag (k : Fin 4) (c : Dev nD) : iprop(records m K ∗ at0 (chCell k c c)) ⊢ iprop(|={Set.univ}=> semVal (chCell k c c) 0) :=
  (sep_mono_left (inv_ch m K k c c)).trans (Rounds.cell_close ER (Rd m) (Set.mem_univ _) (fun h => h) (duties_diag m c k))

theorem close_peer (c : Dev nD) (s : Fin 16) : iprop(records m K ∗ Peer m c s 11) ⊢ iprop(|={Set.univ}=> ((sndE c s ∗ rcvE c s) ∗ four c s)) := by
  simp only [Peer]; unfold Ch2 four sndE rcvE
  iintro ⟨#Hr, ⟨HR, HS⟩, ⟨H2, H3⟩, H0, H1⟩
  imod (close_ch m K 0 c s) $$ [H0] with H0
  · isplitr; · iexact Hr
    iexact H0
  imod (close_ch m K 1 c s) $$ [H1] with H1
  · isplitr; · iexact Hr
    iexact H1
  imod (close_ch m K 2 c s) $$ [H2] with H2
  · isplitr; · iexact Hr
    iexact H2
  imod (close_ch m K 3 c s) $$ [H3] with H3
  · isplitr; · iexact Hr
    iexact H3
  imodintro
  isplitl [HR HS]
  · isplitl [HS]
    · iexists _; iexact HS
    · iexists _; iexact HR
  isplitl [H0]; · iexact H0
  isplitl [H1]; · iexact H1
  isplitl [H2]; · iexact H2
  iexact H3

theorem close_own (c : Dev nD) : iprop(records m K ∗ Own m c 11 ∗ at4 c c) ⊢ iprop(|={Set.univ}=> ((sndE c c ∗ rcvE c c) ∗ four c c)) := by
  simp only [Own]; unfold at4 four sndE rcvE
  iintro ⟨#Hr, ⟨HS, HR⟩, H0, H1, H2, H3⟩
  imod (close_diag m K 0 c) $$ [H0] with H0
  · isplitr; · iexact Hr
    iexact H0
  imod (close_diag m K 1 c) $$ [H1] with H1
  · isplitr; · iexact Hr
    iexact H1
  imod (close_diag m K 2 c) $$ [H2] with H2
  · isplitr; · iexact Hr
    iexact H2
  imod (close_diag m K 3 c) $$ [H3] with H3
  · isplitr; · iexact Hr
    iexact H3
  imodintro
  isplitl [HR HS]
  · isplitl [HS]
    · iexists _; iexact HS
    · iexists _; iexact HR
  isplitl [H0]; · iexact H0
  isplitl [H1]; · iexact H1
  isplitl [H2]; · iexact H2
  iexact H3

/-- A family each of whose members, beside something persistent, becomes another under an update. -/
theorem bigSep_upd {I : Type} [DecidableEq I] (S : Finset I) {R : sProp 𝕄} [BI.Persistent R] {Φ Ψ : I → sProp 𝕄}
    (h : ∀ i ∈ S, iprop(R ∗ Φ i) ⊢ iprop(|={Set.univ}=> Ψ i)) : iprop(R ∗ bigSep S Φ) ⊢ iprop(|={Set.univ}=> bigSep S Ψ) :=
  ((sep_mono_left (BI.bigSep_of_persistent S R)).trans (by rw [← bigSep_sep']; exact bigSep_mono h)).trans (bigSep_fupd _ _)

def ends (c : Dev nD) (s : Fin 16) : sProp 𝕄 := iprop((sndE c s ∗ rcvE c s) ∗ four c s)

theorem close_St (c : Dev nD) : iprop(records m K ∗ St m c (stg 10 11 16) ∗ at4 c c)
    ⊢ iprop(|={Set.univ}=> (((bigSep Finset.univ fun s => sndE c s) ∗ (bigSep Finset.univ fun s => rcvE c s)) ∗ bigSep Finset.univ fun s => four c s)) := by
  have e : iprop(((bigSep Finset.univ fun s => sndE (F := F) c s) ∗ (bigSep Finset.univ fun s => rcvE c s)) ∗ bigSep Finset.univ fun s => four c s)
      = iprop(ends (F := F) c c ∗ bigSep (Finset.univ.erase c) fun s => ends (F := F) c s) := by
    rw [← bigSep_sep', ← bigSep_sep']; exact BI.bigSep_univ_split (Φ := fun s => ends (F := F) c s) c
  rw [e, St_split m (σ := stg 10 11 16) (n := 11) (fun s => if_pos s.isLt)]
  iintro ⟨#Hr, ⟨HO, HP⟩, H4⟩
  imod (close_own m K c) $$ [HO H4] with HO
  · isplitr; · iexact Hr
    isplitl [HO] <;> iassumption
  imod (bigSep_upd (R := records m K) (Ψ := fun s => ends (F := F) c s) (Finset.univ.erase c) fun s _ => close_peer m K c s) $$ [HP] with HP
  · isplitr; · iexact Hr
    iexact HP
  imodintro
  isplitl [HO]
  · unfold ends; iexact HO
  iexact HP

end Cert.KernelIdeal.Hand
end
-- ==== Proof.KernelIdeal.Exit.lean ====
/-
What a device hands back when its body is done: its own counters at zero, its scratch buffers whole, and
the three arrays of the host at their final contents.
-/
module

public import proofs.«01_k».proof.Proof.KernelIdeal.Close

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

open Idealize.ShloMosaic.Pipeline (ownSems0 scopedRest)

/-- The transfer semaphores of one device: the four of its local copies, and four per peer. -/
abbrev OIx : Type := Fin 4 ⊕ (Fin 16 × Fin 4)
def locS : Fin 4 → DmaSem sig := ![xSem, wSem 0, wSem 1, oSem]
def osem : OIx → SemLoc sig
  | .inl i => .dma (locS i)
  | .inr (s, k) => .dma (chSem k s)

theorem bigSep_four (Φ : Fin 4 → sProp 𝕄) : bigSep Finset.univ Φ = iprop(Φ 0 ∗ Φ 1 ∗ Φ 2 ∗ Φ 3) :=
  BI.bigSep_univ_eq_bigSepL [0, 1, 2, 3] (by decide) (by decide) Φ

/-- The counters of the local copies at zero. -/
def loc4 (c : Dev nD) : sProp 𝕄 := iprop(sv0 c xSem ∗ sv0 c (wSem 0) ∗ sv0 c (wSem 1) ∗ sv0 c oSem)

theorem ownSems0_eq (c : Dev nD) : (ownSems0 osem c : sProp 𝕄) = iprop(loc4 c ∗ bigSep Finset.univ fun s => four c s) := by
  unfold ownSems0
  rw [BI.bigSep_univ_sum, bigSep_four, BI.bigSep_univ_prod]
  refine congrArg (fun R => iprop(loc4 c ∗ R)) (bigSep_congr fun s _ => ?_)
  rw [bigSep_four]; rfl

theorem unscopedSems0_eq (c : Dev nD) : (unscopedSems0 c : sProp 𝕄) = semVal (barCell c) 0 := by
  unfold unscopedSems0
  rw [bigSep_eq_bigSepL_of_eq [SemLoc.reg barS] (by decide) (by decide)]; rfl

/-! ## Whole buffers at some contents -/

theorem some_whole (c : Dev nD) (b : Ref sig .tc) :
    (iprop(∃ X, owns (c : Thread nD τ) (Memref.whole b) fullShare X) : sProp 𝕄)
      = iprop(∃ f : Buf (Elt F) ((c : Thread nD τ).loc b), ((c : Thread nD τ).loc b) ↦{fullShare} f) := by
  simp only [owns_whole]

theorem snd_join (c : Dev nD) : (bigSep Finset.univ fun s => sndE c s : sProp 𝕄) ⊢ iprop(∃ X, owns (c : Thread nD τ) sndM fullShare X) := by
  unfold sndE; exact join_some sndM blkR (fun _ _ => rfl) blk_disj blk_cov
theorem rcv_join (c : Dev nD) : (bigSep Finset.univ fun s => rcvE c s : sProp 𝕄) ⊢ iprop(∃ X, owns (c : Thread nD τ) rcvM fullShare X) := by
  unfold rcvE; exact join_some rcvM blkR (fun _ _ => rfl) blk_disj blk_cov
theorem w_join (c : Dev nD) : iprop((∃ X, owns (c : Thread nD τ) (wSlot 0) fullShare X) ∗ (∃ X, owns (c : Thread nD τ) (wSlot 1) fullShare X))
    ⊢ (iprop(∃ X, owns (c : Thread nD τ) wM fullShare X) : sProp 𝕄) :=
  (Entails.of_eq (bigSep_fin_two (fun b => iprop(∃ X, owns (c : Thread nD τ) (wSlot b) fullShare X))).symm).trans
    (join_some wM wR (fun _ _ => rfl) w_disj w_cov)

/-- The columns of `w`, half a share with each landing slot, are the whole of `w`. -/
theorem cols_join (c : Dev nD) : iprop((bigSep Finset.univ fun u => wColP m c 0 u) ∗ (bigSep Finset.univ fun u => wColP m c 1 u))
    ⊢ (owns (c : Thread nD τ) wH fullShare (wC m c) : sProp 𝕄) := by
  rw [← bigSep_sep']
  refine (bigSep_mono fun u _ => (owns_halves (c := (c : Thread nD τ)) (m := wCol u) (q := fullShare) (wColV m c u)).2).trans ?_
  exact owns_of_rects (Val := Elt F) (Ix := Unit) (Name := ℕ) (U := UU) (Lvl := ℕ) (c : Thread nD τ) wH fullShare colR (fun _ _ => rfl) col_disj col_cov (wC m c)
theorem cols_split (c : Dev nD) : (owns (c : Thread nD τ) wH fullShare (wC m c) : sProp 𝕄)
    ⊢ iprop((bigSep Finset.univ fun u => wColP m c 0 u) ∗ (bigSep Finset.univ fun u => wColP m c 1 u)) := by
  rw [← bigSep_sep']
  refine (owns_rects (Val := Elt F) (Ix := Unit) (Name := ℕ) (U := UU) (Lvl := ℕ) (c : Thread nD τ) wH fullShare colR (fun _ _ => rfl) col_disj col_cov (wC m c)).trans ?_
  exact bigSep_mono fun u _ => (owns_halves (c := (c : Thread nD τ)) (m := wCol u) (q := fullShare) (wColV m c u)).1

/-! ## The end -/

/-- What is known of device `c` after the run: its barrier cell at zero, its arguments as they were, its result. -/
def Y (c : Dev nD) : sProp 𝕄 :=
  iprop(semVal (barCell c) 0 ∗ (((c : Thread nD τ).loc main_arg0) ↦{fullShare} xC m c) ∗ (((c : Thread nD τ).loc main_arg1) ↦{fullShare} wC m c)
    ∗ (((c : Thread nD τ).loc main_v1) ↦{fullShare} outV m c))

def Final (c : Dev nD) : sProp 𝕄 :=
  iprop((∃ W, owes (c : Thread nD τ) 0 W) ∗ Y m c ∗ ownSems0 osem c ∗ scopedRest (cfg0.spec) c)

theorem exit_spec (c : Dev nD) : Post m K c (at4 c c) ⊢ iprop(|={Set.univ}=> Final m c) := by
  unfold Final Y
  rw [ownSems0_eq, scopedRest0_eq c, ← some_whole c cc0_scratch0, ← some_whole c cc0_scratch1, ← some_whole c cc0_scratch2,
    ← some_whole c cc0_scratch3, ← some_whole c cc0_scratch4, ← some_whole c cc0_scratch5,
    ← owns_whole (c : Thread nD τ) main_arg0, ← owns_whole (c : Thread nD τ) main_arg1, ← owns_whole (c : Thread nD τ) main_v1]
  unfold Post Full O2 X2 W0
  rw [Debt_zero (c := c) (σ := stg 10 11 16) fun s => by rw [show stg 10 11 16 s = 11 from if_pos s.isLt]; decide]
  unfold loc4
  iintro ⟨⟨#Hr, -, Ho, HSt⟩, ⟨Hout, Hstg, Hso⟩, Hamx, ⟨Hx, HxH, Hsx⟩, ⟨Hc0, Hw0, Hs0⟩, ⟨Hc1, Hw1, Hs1⟩, Hb, H4⟩
  imod (close_St m K c) $$ [HSt H4] with ⟨⟨Hsnd, Hrcv⟩, Hf⟩
  · isplitr; · iexact Hr
    isplitl [HSt] <;> iassumption
  imod (close_bar m K c) $$ [Hb] with Hb
  · isplitr; · iexact Hr
    iexact Hb
  imodintro
  isplitl [Ho]; · iexact Ho
  isplitl [Hb HxH Hc0 Hc1 Hout]
  · isplitl [Hb]; · iexact Hb
    isplitl [HxH]; · iexact HxH
    isplitl [Hc0 Hc1]
    · iapply (cols_join m c)
      isplitl [Hc0] <;> iassumption
    iexact Hout
  isplitl [Hsx Hs0 Hs1 Hso Hf]
  · isplitl [Hsx Hs0 Hs1 Hso]
    · isplitl [Hsx]; · iexact Hsx
      isplitl [Hs0]; · iexact Hs0
      isplitl [Hs1]; · iexact Hs1
      iexact Hso
    iexact Hf
  isplitl [Hx]; · iexists _; iexact Hx
  isplitl [Hw0 Hw1]
  · iapply (w_join c)
    isplitl [Hw0] <;> iassumption
  isplitl [Hsnd]; · iapply (snd_join c) $$ Hsnd
  isplitl [Hrcv]; · iapply (rcv_join c) $$ Hrcv
  isplitl [Hstg]; · iexists _; iexact Hstg
  iexists _; iexact Hamx

end Cert.KernelIdeal.Hand
end
-- ==== Proof.KernelIdeal.Enter.lean ====
/-
From what the launch deals a device to what its body starts with.
-/
module

public import proofs.«01_k».proof.Proof.KernelIdeal.Exit

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

open Idealize.ShloMosaic.Pipeline (ownSems0 scopedRest)

/-- The whole held at some contents is its blocks held at some contents. -/
theorem split_some {T : Type} [Fintype T] [DecidableEq T] {c : Dev nD} {sp : Space} {s : Shape} {e : EltTy}
    (M : Memref sig .tc sp s e) (r : T → Rect s) (hr : ∀ t a, (r t).stride a = 1)
    (hd : ∀ t t', t ≠ t' → Disjoint (r t).set (r t').set)
    (hcov : (Finset.univ : Finset T).biUnion (fun t => (r t).set) = Finset.univ) :
    (iprop(∃ X, owns (c : Thread nD τ) M fullShare X) : sProp 𝕄)
      ⊢ bigSep Finset.univ fun t => iprop(∃ X, owns (c : Thread nD τ) (M.slice (r t) (hr t)) fullShare X) := by
  have h1 : ∀ (X : s.Idx → Elt F e) t, (owns (c : Thread nD τ) (M.slice (r t) (hr t)) fullShare (fun j => X ((r t).emb j)) : sProp 𝕄)
      ⊢ iprop(∃ X, owns (c : Thread nD τ) (M.slice (r t) (hr t)) fullShare X) := fun X t => by iintro H; iexists _; iexact H
  have h2 : ∀ X : s.Idx → Elt F e, (owns (c : Thread nD τ) M fullShare X : sProp 𝕄)
      ⊢ bigSep Finset.univ fun t => iprop(∃ X, owns (c : Thread nD τ) (M.slice (r t) (hr t)) fullShare X) := fun X =>
    (owns_rects (Val := Elt F) (Ix := Unit) (Name := ℕ) (U := UU) (Lvl := ℕ) (c : Thread nD τ) M fullShare r hr hd hcov X).trans (bigSep_mono fun t _ => h1 X t)
  iintro ⟨%X, H⟩
  iapply (h2 X) $$ H

/-- The tokens device `c` pays with at peer `s`'s cells and at its own send cells. -/
def paid (c : Dev nD) (s : Fin 16) : sProp 𝕄 :=
  iprop(tok (barCell s) c ∗ tok (chCell 0 c s) s ∗ tok (chCell 1 s c) c ∗ tok (chCell 2 c s) s ∗ tok (chCell 3 s c) c)
/-- What device `c` holds of the exchange's cells: its places and its tokens. -/
def lin (c : Dev nD) : sProp 𝕄 :=
  iprop(at0 (barCell c) ∗ (bigSep Finset.univ fun s => paid c s) ∗ (bigSep Finset.univ fun s => at4 c s))
/-- The credit of what its peers owe it. -/
def creds (c : Dev nD) : sProp 𝕄 :=
  iprop(crd (barCell c) 15 ∗ bigSep (Finset.univ.erase c) fun s => iprop(crd (chCell 1 c s) (chAmt 1) ∗ crd (chCell 3 c s) (chAmt 3)))
/-- The arrays of the host as launched. -/
def arrs (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

theorem mk_peer (c : Dev nD) (s : Fin 16) :
    iprop((sndE c s ∗ rcvE c s ∗ amxE c s ∗ paid c s ∗ at4 c s) ∗ crd (chCell 1 c s) (chAmt 1) ∗ crd (chCell 3 c s) (chAmt 3)) ⊢ Peer m c s 0 := by
  simp only [Peer]; unfold paid at4 Ch0
  iintro ⟨⟨HS, HR, HA, ⟨Tb, T0, T1, T2, T3⟩, A0, A1, A2, A3⟩, C1, C3⟩
  isplitl [Tb]; · iexact Tb
  isplitl [HR HA]; · isplitl [HR] <;> iassumption
  isplitl [HS]; · iexact HS
  isplitl [T2 T3 A2 A3 C3]
  · isplitl [T2]; · iexact T2
    isplitl [T3]; · iexact T3
    isplitl [A2]; · iexact A2
    isplitl [A3]; · iexact A3
    iexact C3
  · isplitl [T0]; · iexact T0
    isplitl [T1]; · iexact T1
    isplitl [A0]; · iexact A0
    isplitl [A1]; · iexact A1
    iexact C1

/-- What a device starts with for `s`, before the credit. -/
def begins (c : Dev nD) (s : Fin 16) : sProp 𝕄 := iprop(sndE c s ∗ rcvE c s ∗ amxE c s ∗ paid c s ∗ at4 c s)

theorem begins_split (c : Dev nD) :
    iprop((bigSep Finset.univ fun s => sndE (F := F) c s) ∗ (bigSep Finset.univ fun s => rcvE c s) ∗ (bigSep Finset.univ fun s => amxE c s)
      ∗ (bigSep Finset.univ fun s => paid c s) ∗ (bigSep Finset.univ fun s => at4 c s))
      = iprop(begins (F := F) c c ∗ bigSep (Finset.univ.erase c) fun s => begins (F := F) c s) := by
  rw [← bigSep_sep', ← bigSep_sep', ← bigSep_sep', ← bigSep_sep']; exact BI.bigSep_univ_split (Φ := fun s => begins (F := F) c s) c

theorem peers_mk (c : Dev nD) :
    iprop((bigSep (Finset.univ.erase c) fun s => begins (F := F) c s)
      ∗ bigSep (Finset.univ.erase c) fun s => iprop(crd (chCell 1 c s) (chAmt 1) ∗ crd (chCell 3 c s) (chAmt 3)))
      ⊢ bigSep (Finset.univ.erase c) fun s => Peer m c s 0 := by
  rw [← bigSep_sep']; exact bigSep_mono fun s _ => mk_peer m c s

theorem St_mk (c : Dev nD) :
    iprop((∃ X, owns (c : Thread nD τ) sndM fullShare X) ∗ (∃ X, owns (c : Thread nD τ) rcvM fullShare X) ∗ (∃ X, owns (c : Thread nD τ) amxM fullShare X)
      ∗ (bigSep Finset.univ fun s => paid c s) ∗ (bigSep Finset.univ fun s => at4 c s)
      ∗ bigSep (Finset.univ.erase c) fun s => iprop(crd (chCell 1 c s) (chAmt 1) ∗ crd (chCell 3 c s) (chAmt 3)))
      ⊢ iprop(St m c (stg 0 1 0) ∗ at4 c c) := by
  rw [St_split m (σ := stg 0 1 0) (n := 0) (fun s => if_neg (Nat.not_lt_zero _))]
  have hS : (iprop(∃ X, owns (c : Thread nD τ) sndM fullShare X) : sProp 𝕄) ⊢ bigSep Finset.univ fun s => sndE c s := by
    unfold sndE; exact split_some sndM blkR (fun _ _ => rfl) blk_disj blk_cov
  have hR : (iprop(∃ X, owns (c : Thread nD τ) rcvM fullShare X) : sProp 𝕄) ⊢ bigSep Finset.univ fun s => rcvE c s := by
    unfold rcvE; exact split_some rcvM blkR (fun _ _ => rfl) blk_disj blk_cov
  have hA : (iprop(∃ X, owns (c : Thread nD τ) amxM fullShare X) : sProp 𝕄) ⊢ bigSep Finset.univ fun s => amxE c s := by
    unfold amxE; exact split_some amxM amxR (fun _ _ => rfl) amx_disj amx_cov
  iintro ⟨HS, HR, HA, HT, H4, HC⟩
  ihave HS := hS $$ HS
  ihave HR := hR $$ HR
  ihave HA := hA $$ HA
  ihave H := (Entails.of_eq (begins_split (F := F) c)) $$ [HS HR HA HT H4]
  · isplitl [HS]; · iexact HS
    isplitl [HR]; · iexact HR
    isplitl [HA]; · iexact HA
    isplitl [HT] <;> iassumption
  icases H with ⟨Hc, Hp⟩
  ihave Hp := (peers_mk m c) $$ [Hp HC]
  · isplitl [Hp] <;> iassumption
  simp only [Own]; unfold begins
  icases Hc with ⟨HS, HR, HA, -, H4⟩
  isplitr [H4]
  · isplitr [Hp]
    · isplitl [HS]; · iexact HS
      isplitl [HR] <;> iassumption
    iexact Hp
  iexact H4

theorem SG_mk (c : Dev nD) : (iprop(∃ X, owns (c : Thread nD τ) stgM fullShare X) : sProp 𝕄) ⊢ SG m c 0 := by
  have h := split_some (F := F) (c := c) stgM rowR (fun _ _ => rfl) row_disj row_cov
  refine h.trans (Entails.of_eq ?_)
  unfold SG
  exact bigSep_congr fun s _ => (if_neg (Nat.not_lt_zero _)).symm

theorem w_split (c : Dev nD) : (iprop(∃ X, owns (c : Thread nD τ) wM fullShare X) : sProp 𝕄)
    ⊢ iprop((∃ X, owns (c : Thread nD τ) (wSlot 0) fullShare X) ∗ (∃ X, owns (c : Thread nD τ) (wSlot 1) fullShare X)) :=
  (split_some wM wR (fun _ _ => rfl) w_disj w_cov).trans (Entails.of_eq (bigSep_fin_two (fun b => iprop(∃ X, owns (c : Thread nD τ) (wSlot b) fullShare X))))

/-- All a device has when its body starts. -/
def Start (c : Dev nD) : sProp 𝕄 :=
  iprop((∃ K, records m K) ∗ levAts L lv ∗ lin c ∗ creds c ∗ loc4 c ∗ arrs m c)

theorem enter_spec (c : Dev nD) :
    iprop(records m K ∗ levAts L lv ∗ (∃ W, owes (c : Thread nD τ) (Debt c (stg 0 1 0)) W) ∗ lin c ∗ creds c ∗ loc4 c ∗ arrs m c ∗ scopedRest (cfg0.spec) c)
      ⊢ Pre m K c (at4 c c) := by
  rw [scopedRest0_eq c, ← some_whole c cc0_scratch0, ← some_whole c cc0_scratch1, ← some_whole c cc0_scratch2,
    ← some_whole c cc0_scratch3, ← some_whole c cc0_scratch4, ← some_whole c cc0_scratch5]
  unfold arrs
  rw [← owns_whole (c : Thread nD τ) main_arg0, ← owns_whole (c : Thread nD τ) main_arg1, ← owns_whole (c : Thread nD τ) main_v1]
  unfold Pre Full X0 W0 O0 lin creds loc4
  iintro ⟨#Hr, #Hl, Ho, ⟨Hab, HT, H4⟩, ⟨Hcb, HC⟩, ⟨Hsx, Hs0, Hs1, Hso⟩, ⟨HxH, HwH, HoH⟩, Hx, Hw, Hsnd, Hrcv, Hstg, Hamx⟩
  ihave HS := (St_mk m c) $$ [Hsnd Hrcv Hamx HT H4 HC]
  · isplitl [Hsnd]; · iexact Hsnd
    isplitl [Hrcv]; · iexact Hrcv
    isplitl [Hamx]; · iexact Hamx
    isplitl [HT]; · iexact HT
    isplitl [H4]; · iexact H4
    iexact HC
  icases HS with ⟨HS, H4⟩
  ihave HW := (cols_split m c) $$ [HwH]
  · iexact HwH
  icases HW with ⟨Hc0, Hc1⟩
  ihave Hw := (w_split c) $$ Hw
  icases Hw with ⟨Hw0, Hw1⟩
  isplitl [Ho HS]
  · isplitr; · iexact Hr
    isplitr; · iexact Hl
    isplitl [Ho] <;> iassumption
  isplitl [HxH Hx Hsx]
  · isplitl [HxH]; · iexact HxH
    isplitl [Hx] <;> iassumption
  isplitl [Hc0 Hw0 Hs0]
  · isplitl [Hc0]; · iexact Hc0
    isplitl [Hw0] <;> iassumption
  isplitl [Hc1 Hw1 Hs1]
  · isplitl [Hc1]; · iexact Hc1
    isplitl [Hw1] <;> iassumption
  isplitl [Hcb Hab]
  · isplitl [Hcb] <;> iassumption
  isplitl [Hstg]; · iapply (SG_mk m c) $$ Hstg
  isplitl [HoH Hso]
  · isplitl [HoH]; · iexists _; iexact HoH
    iexact Hso
  iexact H4

end Cert.KernelIdeal.Hand
end
-- ==== Proof.KernelIdeal.Deal.lean ====
/-
What the launch deals out: every cell of the exchange becomes an invariant known to all, and each device
gets its places at its own cells and the tokens it pays with at its peers.
-/
module

public import proofs.«01_k».proof.Proof.KernelIdeal.Enter

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

open Idealize.ShloMosaic.Pipeline (ownSems0)

/-! ## Cells and tokens -/

theorem kcell_inj : Function.Injective (kcell : AllC → GSem nD τ sig) := by
  rintro ⟨c, k⟩ ⟨c', k'⟩ h
  have h1 : c = c' := congrArg (fun g : GSem nD τ sig => g.1.1) h
  subst h1
  exact congrArg (fun k => (c, k)) (csem_inj (congrArg Prod.snd h : csem k = csem k'))
def allCells : Finset (GSem nD τ sig) := Finset.univ.map ⟨kcell, kcell_inj⟩

/-- The token of `s` at the cell of `c` that belongs to `s` on a channel, or at `c`'s barrier cell. -/
abbrev TIx : Type := Dev nD × Fin 16 × Option (Fin 4)
def tokOf (t : TIx) : GSem nD τ sig × ℕ × Dev nD := (kcell (t.1, t.2.2.map fun k => (k, t.2.1)), 0, t.2.1)
theorem tokOf_inj : Function.Injective tokOf := by
  rintro ⟨c, s, o⟩ ⟨c', s', o'⟩ h
  have hs : s = s' := congrArg (fun x : GSem nD τ sig × ℕ × Dev nD => x.2.2) h
  subst hs
  have hk := kcell_inj (congrArg Prod.fst h)
  have hc : c = c' := congrArg Prod.fst hk
  have ho : (o.map fun k => (k, s)) = o'.map fun k => (k, s) := congrArg Prod.snd hk
  rw [hc, Option.map_injective (fun a b h => congrArg Prod.fst h) ho]
def allToks : Finset (GSem nD τ sig × ℕ × Dev nD) := Finset.univ.map ⟨tokOf, tokOf_inj⟩

theorem bigSep_opt (Φ : Option (Fin 4) → sProp 𝕄) :
    bigSep Finset.univ Φ = iprop(Φ none ∗ Φ (some 0) ∗ Φ (some 1) ∗ Φ (some 2) ∗ Φ (some 3)) :=
  BI.bigSep_univ_eq_bigSepL [none, some 0, some 1, some 2, some 3] (by decide) (by decide) Φ

/-- The cells of one device, listed peer by peer. -/
theorem cix_split (Φ : CIx → sProp 𝕄) : bigSep Finset.univ Φ
    = iprop(Φ none ∗ bigSep Finset.univ fun s : Fin 16 => iprop(Φ (some (0, s)) ∗ Φ (some (1, s)) ∗ Φ (some (2, s)) ∗ Φ (some (3, s)))) := by
  rw [BI.bigSep_univ_equiv (Equiv.optionEquivSumPUnit.{0} (Fin 4 × Fin 16)).symm Φ, BI.bigSep_univ_sum, BI.bigSep_univ_prod, bigSep_four,
    bigSep_sep', bigSep_sep', bigSep_sep', BI.bigSep_univ_of_subsingleton PUnit.unit]
  exact BI.equiv_iff.mp ⟨sep_comm, sep_comm⟩

/-- The tokens of the cells between `c` and `s` at `c`, as minted. -/
def minted (c : Dev nD) (s : Fin 16) : sProp 𝕄 :=
  iprop(tok (barCell c) s ∗ tok (chCell 0 c s) s ∗ tok (chCell 1 c s) s ∗ tok (chCell 2 c s) s ∗ tok (chCell 3 c s) s)

/-- A family over two devices, taken in the other order. -/
theorem swap (Φ : Dev nD → Fin 16 → sProp 𝕄) : (bigSep Finset.univ fun c => bigSep Finset.univ fun s => Φ c s)
    = bigSep Finset.univ fun s => bigSep Finset.univ fun c => Φ c s := by
  rw [← BI.bigSep_univ_prod (fun p : Dev nD × Fin 16 => Φ p.1 p.2), BI.bigSep_univ_equiv (Equiv.prodComm (Fin 16) (Dev nD)), BI.bigSep_univ_prod]; rfl

/-- Every token at the device that pays with it. -/
theorem toks_around : (bigSep Finset.univ fun c : Dev nD => bigSep Finset.univ fun s : Fin 16 => minted (F := F) c s)
    = bigSep Finset.univ fun c : Dev nD => bigSep Finset.univ fun s : Fin 16 => paid (F := F) c s := by
  have h5 : ∀ A B C D E : Dev nD → Fin 16 → sProp 𝕄,
      (bigSep Finset.univ fun c => bigSep Finset.univ fun s => iprop(A c s ∗ B c s ∗ C c s ∗ D c s ∗ E c s))
        = iprop((bigSep Finset.univ fun c => bigSep Finset.univ fun s => A c s) ∗ (bigSep Finset.univ fun c => bigSep Finset.univ fun s => B c s)
          ∗ (bigSep Finset.univ fun c => bigSep Finset.univ fun s => C c s) ∗ (bigSep Finset.univ fun c => bigSep Finset.univ fun s => D c s)
          ∗ (bigSep Finset.univ fun c => bigSep Finset.univ fun s => E c s)) := fun A B C D E => by simp only [bigSep_sep']
  unfold minted paid
  rw [h5, h5, swap (fun (c : Dev nD) (s : Fin 16) => (tok (barCell c) s : sProp 𝕄)),
    swap (fun (c : Dev nD) (s : Fin 16) => (tok (chCell 1 c s) s : sProp 𝕄)),
    swap (fun (c : Dev nD) (s : Fin 16) => (tok (chCell 3 c s) s : sProp 𝕄))]

/-! ## Dealing -/

/-- What the launch element deals device `c`. -/
def G (c : Dev nD) : sProp 𝕄 :=
  iprop((bigSep Finset.univ fun k : CIx => roundState ER (Rd m) (kcell (c, k)) 0)
    ∗ ((bigSep Finset.univ fun k : CIx => at0 (kcell (c, k))) ∗ (bigSep Finset.univ fun k : CIx => reached ER (kcell (c, k)) 0))
    ∗ bigSep Finset.univ fun s => minted c s)
/-- What it becomes once the cells are shared. -/
def G' (c : Dev nD) : sProp 𝕄 := iprop((∃ K, records m K) ∗ lin c ∗ loc4 c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [BI.bigSep_map, BI.bigSep_univ_prod]; rfl
  have hT : bigSep allToks (fun x => (dutyTok ER x.1 x.2.1 x.2.2 : sProp 𝕄)) = bigSep Finset.univ fun c : Dev nD => bigSep Finset.univ fun s => minted c s := by
    unfold allToks; rw [BI.bigSep_map, BI.bigSep_univ_prod]
    refine bigSep_congr fun c _ => ?_
    rw [BI.bigSep_univ_prod]
    refine bigSep_congr fun s _ => ?_
    rw [bigSep_opt]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem sems0_eq (c : Dev nD) : iprop(ownSems0 osem c ∗ unscopedSems0 c)
    ⊢ (iprop(loc4 c ∗ bigSep Finset.univ fun k : CIx => semVal (kcell (c, k)) 0) : sProp 𝕄) := by
  rw [ownSems0_eq, unscopedSems0_eq, cix_split]
  iintro ⟨⟨Hl, Hf⟩, Hb⟩
  isplitl [Hl]; · iexact Hl
  isplitl [Hb]; · iexact Hb
  iexact Hf

/-- The cells of one device become invariants. -/
theorem cells_alloc (c : Dev nD) : iprop((bigSep Finset.univ fun k : CIx => semVal (kcell (c, k)) 0) ∗ bigSep Finset.univ fun k : CIx => roundState ER (Rd m) (kcell (c, k)) 0)
      ⊢ (iprop(|={Set.univ}=> bigSep Finset.univ fun k : CIx => iprop(∃ κ : ℕ, cellInv ER (Rd m) κ (kcell (c, k)))) : sProp 𝕄) := by
  rw [← bigSep_sep']
  exact (bigSep_mono fun k _ => (Rounds.body_intro ER (Rd m) (kcell (c, k))).trans inv_alloc).trans (bigSep_fupd _ _)

def Mids (c : Dev nD) : sProp 𝕄 :=
  iprop((bigSep Finset.univ fun k : CIx => iprop(∃ κ : ℕ, cellInv ER (Rd m) κ (kcell (c, k))))
    ∗ (bigSep Finset.univ fun k : CIx => reached ER (kcell (c, k)) 0)
    ∗ (bigSep Finset.univ fun s => minted c s) ∗ (bigSep Finset.univ fun k : CIx => at0 (kcell (c, k))) ∗ loc4 c)

theorem core_alloc (c : Dev nD) : iprop(ownSems0 osem c ∗ unscopedSems0 c ∗ G m c) ⊢ iprop(|={Set.univ}=> Mids m c) := by
  unfold G Mids
  iintro ⟨Hos, Hus, Hst, ⟨Hat, Hr⟩, Htok⟩
  ihave Hv := (sems0_eq (F := F) c) $$ [Hos Hus]
  · isplitl [Hos] <;> iassumption
  icases Hv with ⟨Hl, Hv⟩
  imod (cells_alloc m c) $$ [Hv Hst] with Hinv
  · isplitl [Hv] <;> iassumption
  imodintro
  isplitl [Hinv]; · iexact Hinv
  isplitl [Hr]; · iexact Hr
  isplitl [Htok]; · iexact Htok
  isplitl [Hat] <;> iassumption

theorem at_eq (c : Dev nD) : (bigSep Finset.univ fun k : CIx => (at0 (kcell (c, k)) : sProp 𝕄))
    = iprop(at0 (barCell c) ∗ bigSep Finset.univ fun s => at4 c s) := by
  rw [cix_split]; rfl

/-- Beside what all share, what device `c` keeps. -/
def keeps (c : Dev nD) : sProp 𝕄 :=
  iprop((bigSep Finset.univ fun s => paid c s) ∗ (bigSep Finset.univ fun k : CIx => at0 (kcell (c, k))) ∗ loc4 c)
theorem keep_intro (c : Dev nD) : iprop(records m K ∗ keeps c) ⊢ G' m c := by
  unfold keeps G' lin; rw [at_eq]
  iintro ⟨#Hr, Ht, ⟨Ha, H4⟩, Hl⟩
  isplitr; · iexists K; iexact Hr
  isplitr [Hl]
  · isplitl [Ha]; · iexact Ha
    isplitl [Ht] <;> iassumption
  iexact Hl

theorem deal_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : bigSep Finset.univ (Mids m) ⊢ bigSep Finset.univ (G' m) := by
  have e : bigSep Finset.univ (Mids m) = iprop((bigSep Finset.univ fun ck : AllC => iprop(∃ κ : ℕ, cellInv ER (Rd m) κ (kcell ck)))
      ∗ (bigSep Finset.univ fun ck : AllC => reached ER (kcell ck) 0) ∗ bigSep Finset.univ fun c => keeps c) := by
    unfold Mids keeps
    rw [bigSep_sep', bigSep_sep', bigSep_sep', bigSep_sep', bigSep_sep', bigSep_sep', toks_around,
      BI.bigSep_univ_prod (fun ck : AllC => (iprop(∃ κ : ℕ, cellInv ER (Rd m) κ (kcell ck)) : sProp 𝕄)),
      BI.bigSep_univ_prod (fun ck : AllC => (reached ER (kcell ck) 0 : sProp 𝕄))]
  rw [e]
  iintro ⟨HI, #HR, Hk⟩
  ihave HK := (BI.bigSep_exists_pi Finset.univ (fun (ck : AllC) (κ : ℕ) => (cellInv ER (Rd m) κ (kcell ck) : sProp 𝕄))) $$ HI
  icases HK with ⟨%K, #HI⟩
  iapply (deal_all (R := records m K) fun c => keep_intro m K c)
  isplitr
  · unfold records; isplitl; · iexact HI
    iexact HR
  iexact Hk

/-- The one step of all devices at the launch. -/
theorem glob : (bigSep Finset.univ fun c => iprop(ownSems0 osem c ∗ unscopedSems0 c ∗ G m c) : sProp 𝕄) ⊢ iprop(|={Set.univ}=> bigSep Finset.univ (G' m)) :=
  ((bigSep_mono fun c _ => core_alloc m c).trans (bigSep_fupd _ _)).trans (BI.fupd_mono (regroup m))

end Cert.KernelIdeal.Hand
end
-- ==== Proof.KernelIdeal.Credit.lean ====
/-
The credit a device starts with is what its peers owe it: a unit each on its barrier cell, and a block and
a row of largest entries on the two cells each peer raises.
-/
module

public import proofs.«01_k».proof.Proof.KernelIdeal.Enter

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

/-- What every device owes when its body starts. -/
def O₀ (c : Dev nD) : CellTallies nD τ sig Unit := Debt c (stg 0 1 0)

theorem ch_eq_iff {k k' : Fin 4} {a b : Dev nD} {s s' : Fin 16} : chCell k a s = chCell k' b s' ↔ k = k' ∧ a = b ∧ s = s' := by
  constructor
  · intro h
    have h1 : a = b := congrArg (fun g : GSem nD τ sig => g.1.1) h
    have h2 := congrArg decode (congrArg Prod.snd h : (SemLoc.dma (chSem k s) : SemLoc sig) = .dma (chSem k' s'))
    rw [decode_ch, decode_ch] at h2
    have h3 := Option.some.inj h2
    exact ⟨congrArg Prod.fst h3, h1, congrArg Prod.snd h3⟩
  · rintro ⟨rfl, rfl, rfl⟩; rfl
theorem bar_eq_iff {a b : Dev nD} : barCell a = barCell b ↔ a = b :=
  ⟨fun h => congrArg (fun g : GSem nD τ sig => g.1.1) h, fun h => h ▸ rfl⟩
theorem ch_ne_barC {k : Fin 4} {a b : Dev nD} {s : Fin 16} : chCell k a s ≠ barCell b := fun h => ch_ne_bar k s (congrArg Prod.snd h)

theorem debt_start (d : Dev nD) (t : Fin 16) : debt d t (stg 0 1 0 t)
    = if t = d then 0 else (tallyAt (chCell 1 t d) () (chAmt 1) + tallyAt (chCell 3 t d) () (chAmt 3)) + tallyAt (barCell t) () 1 := by
  rw [show stg 0 1 0 t = 0 from if_neg (Nat.not_lt_zero _)]; unfold debt
  by_cases h : t = d
  · rw [if_pos h, if_pos h]
  · rw [if_neg h, if_neg h, if_pos (by decide), if_pos (by decide), if_pos (by decide)]

theorem O₀_apply (d : Dev nD) (g : GSem nD τ sig) (u : Unit) : O₀ d g u = ∑ t : Fin 16, debt d t (stg 0 1 0 t) g u := by
  unfold O₀ Debt; rw [Finset.sum_apply, Finsupp.finset_sum_apply]

/-- What `d` owes the barrier cell of `c`. -/
theorem owed_bar (d c : Dev nD) : O₀ d (barCell c) () = if d = c then 0 else 1 := by
  rw [O₀_apply, Finset.sum_eq_single c]
  · rw [debt_start]
    by_cases h : d = c
    · rw [if_pos h, if_pos h.symm]; rfl
    · rw [if_neg h, if_neg (Ne.symm h), Pi.add_apply, Finsupp.add_apply, Pi.add_apply, Finsupp.add_apply, tallyAt_apply, tallyAt_apply, tallyAt_apply,
        if_neg (fun h' => ch_ne_barC h'.1.symm), if_neg (fun h' => ch_ne_barC h'.1.symm), if_pos ⟨rfl, rfl⟩]
  · intro t _ ht
    rw [debt_start]
    by_cases h : t = d
    · rw [if_pos h]; rfl
    · rw [if_neg h, Pi.add_apply, Finsupp.add_apply, Pi.add_apply, Finsupp.add_apply, tallyAt_apply, tallyAt_apply, tallyAt_apply,
        if_neg (fun h' => ch_ne_barC h'.1.symm), if_neg (fun h' => ch_ne_barC h'.1.symm), if_neg (fun h' => ht (bar_eq_iff.mp h'.1).symm)]; rfl
  · intro h; exact absurd (Finset.mem_univ _) h

/-- What `d` owes the cell of `c` that `s` raises on channel 1 or 3. -/
theorem owed_ch {k : Fin 4} (hk : k = 1 ∨ k = 3) (d c : Dev nD) (s : Fin 16) (hs : s ≠ c) : O₀ d (chCell k c s) () = if d = s then chAmt k else 0 := by
  have hz : ∀ t : Fin 16, ¬ (t = c ∧ d = s) → debt d t (stg 0 1 0 t) (chCell k c s) () = 0 := fun t ht => by
    rw [debt_start]
    by_cases h : t = d
    · rw [if_pos h]; rfl
    · rw [if_neg h, Pi.add_apply, Finsupp.add_apply, Pi.add_apply, Finsupp.add_apply, tallyAt_apply, tallyAt_apply, tallyAt_apply,
        if_neg (fun h' => ht ⟨(ch_eq_iff.mp h'.1).2.1.symm, (ch_eq_iff.mp h'.1).2.2.symm⟩),
        if_neg (fun h' => ht ⟨(ch_eq_iff.mp h'.1).2.1.symm, (ch_eq_iff.mp h'.1).2.2.symm⟩), if_neg (fun h' => ch_ne_barC h'.1)]
  rw [O₀_apply]
  by_cases h : d = s
  · subst h
    rw [if_pos rfl, Finset.sum_eq_single c (fun t _ ht => hz t fun h' => ht h'.1) (fun h => absurd (Finset.mem_univ _) h), debt_start, if_neg (Ne.symm hs),
      Pi.add_apply, Finsupp.add_apply, Pi.add_apply, Finsupp.add_apply, tallyAt_apply, tallyAt_apply, tallyAt_apply]
    rcases hk with rfl | rfl
    · rw [if_pos ⟨rfl, rfl⟩, if_neg (fun h' => absurd (ch_eq_iff.mp h'.1).1 (by decide)), if_neg (fun h' => ch_ne_barC h'.1), Nat.add_zero]
    · rw [if_neg (fun h' => absurd (ch_eq_iff.mp h'.1).1 (by decide)), if_pos ⟨rfl, rfl⟩, if_neg (fun h' => ch_ne_barC h'.1), Nat.zero_add, Nat.add_zero]
  · rw [if_neg h]; exact Finset.sum_eq_zero fun t _ => hz t fun h' => h h'.2

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_ch {k : Fin 4} (hk : k = 1 ∨ k = 3) (c : Dev nD) (s : Fin 16) (hs : s ≠ c) :
    tallyOn (chCell k c s) (launchCredit (Pipeline.owing O₀) 0 (chCell k c s)) = (tallyAt (chCell k c s) () (chAmt k) : CellTallies nD τ sig Unit) := by
  unfold tallyAt; refine congrArg _ (Finsupp.ext fun u => ?_); cases u
  rw [Pipeline.launchCredit_owing, Finsupp.single_eq_same, Finset.sum_congr rfl fun d _ => owed_ch hk d c s hs,
    Finset.sum_ite_eq' Finset.univ s fun _ => chAmt k, if_pos (Finset.mem_univ _)]

/-- The semaphores whose credit is used: the barrier, and two per peer. -/
abbrev KIx : Type := Option (Fin 16 × Fin 2)
def ksem : KIx → SemLoc sig
  | none => .reg barS
  | some (s, j) => .dma (chSem (if j = 0 then 1 else 3) s)
theorem half_inj : ∀ j j' : Fin 2, (if j = 0 then (1 : Fin 4) else 3) = (if j' = 0 then 1 else 3) → j = j' := by decide
theorem ksem_inj : Function.Injective ksem := by
  rintro (_ | ⟨s, j⟩) (_ | ⟨s', j'⟩) h
  · rfl
  · cases h
  · cases h
  · have := congrArg decode h
    simp only [ksem, decode_ch] at this
    have h3 := Option.some.inj this
    have hs : s = s' := congrArg Prod.snd h3
    have hj : (if j = 0 then (1 : Fin 4) else 3) = if j' = 0 then 1 else 3 := congrArg Prod.fst h3
    have : j = j' := half_inj j j' hj
    rw [hs, this]

theorem credits (c : Dev nD) : (Pipeline.launchCred O₀ c : sProp 𝕄) ⊢ creds c := by
  unfold Pipeline.launchCred creds
  refine (BI.bigSep_subset (t := Finset.univ.map ⟨ksem, ksem_inj⟩) (Finset.subset_univ _)).trans ?_
  rw [BI.bigSep_map, BI.bigSep_univ_equiv (Equiv.optionEquivSumPUnit.{0} (Fin 16 × Fin 2)).symm, BI.bigSep_univ_sum, BI.bigSep_univ_prod,
    BI.bigSep_univ_of_subsingleton PUnit.unit]
  refine sep_comm.trans (sep_mono' (Entails.of_eq (congrArg cred (launch_bar c))) ?_)
  refine (BI.bigSep_subset (t := Finset.univ.erase c) (Finset.subset_univ _)).trans (bigSep_mono fun s hs => ?_)
  have hne := Finset.ne_of_mem_erase hs
  rw [bigSep_fin_two]
  exact sep_mono' (Entails.of_eq (congrArg cred (launch_ch (Or.inl rfl) c s hne))) (Entails.of_eq (congrArg cred (launch_ch (Or.inr rfl) c s hne)))

end Cert.KernelIdeal.Hand
end
-- ==== Proof.KernelIdeal.Main.lean ====
/-
The whole program: every execution ends, with the result of every device known, its arguments as they
were and every counter at zero.
-/
module

public import proofs.«01_k».proof.Proof.KernelIdeal.Deal
public import proofs.«01_k».proof.Proof.KernelIdeal.Credit
public import Idealize.ShloMosaic.Lib.Pipeline.CollectiveSegs

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : AllC → ℕ)

open Idealize.ShloMosaic.Pipeline (ownSems0 scopedRest Dat Cfg BodyObligation)

variable (ρ : Dev nD → PrngReg)

abbrev Φ₀ (c : Dev nD) : sProp 𝕄 := iprop(Start m c ∗ scopedRest (cfg0.spec) c)
abbrev Φ₁ (c : Dev nD) : sProp 𝕄 := iprop(Y m c ∗ ownSems0 osem c ∗ scopedRest (cfg0.spec) c)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body from what the launch leaves, to what the launch takes back. -/
theorem body_full (c : Dev nD) :
    iprop(Φ₀ m c ∗ ∃ W, owes (c : Thread nD τ) (O₀ c) W)
      ⊢ WPc c (App (cc0_body (F := F))) (fun _ => Final m c) := by
  have hb : ∀ K, Pre m K c (at4 c c) ⊢ WPc c (App (cc0_body (F := F))) (fun _ => Final m c) := fun K => by
    have h := body_spec m K c (at4 c c)
    unfold WPd at h
    exact (h.trans (wp_mono _ _ _ fun _ => exit_spec m K c)).trans (wp_fupd _ _ _ _ _)
  unfold Φ₀ Start O₀
  iintro ⟨⟨⟨⟨%K, Hr⟩, Hl, Hlin, Hc, H4, Ha⟩, Hs⟩, Ho⟩
  iapply (hb K)
  iapply (enter_spec m K c)
  isplitl [Hr]; · iexact Hr
  isplitl [Hl]; · iexact Hl
  isplitl [Ho]; · iexact Ho
  isplitl [Hlin]; · iexact Hlin
  isplitl [Hc]; · iexact Hc
  isplitl [H4]; · iexact H4
  isplitl [Ha] <;> iassumption

/-- There are no windows. -/
theorem no_windows (Φ : Fin cfg0.W → sProp 𝕄) : bigSep Finset.univ Φ = iprop(emp) := by
  rw [show (Finset.univ : Finset (Fin cfg0.W)) = ∅ from rfl, bigSep_empty]; rfl

/-- The library's obligation for the body, at the one point of its grid. -/
theorem body_obligation (c : Dev nD) : BodyObligation (dats (F := F) m ρ 0 c) (defs₀ (F := F)) 𝒱₀ () Set.univ := fun t => by
  rw [fin_N0 t, no_windows, no_windows]
  show iprop(Φ₀ m c ∗ (dats m ρ 0 c).owesAt () t0_0.castSucc ∗ emp)
    ⊢ WPc c (App (cc0_body (F := F))) (fun _ => iprop(Φ₁ m c ∗ (dats m ρ 0 c).owesAt () t0_0.succ ∗ emp))
  unfold Dat.owesAt Pipeline.owesWithin
  rw [show (dats m ρ 0 c).owed t0_0.castSucc = O₀ c from rfl, show (dats m ρ 0 c).owed t0_0.succ = 0 from rfl]
  refine (show _ ⊢ iprop(Φ₀ m c ∗ ∃ W, owes (c : Thread nD τ) (O₀ c) W) from ?_).trans ((body_full m c).trans (wp_mono _ _ _ fun _ => ?_))
  · iintro ⟨HP, ⟨%W, %hW, Ho⟩, -⟩
    isplitl [HP]; · iexact HP
    iexists W; iexact Ho
  · unfold Final
    iintro ⟨⟨%W, Ho⟩, HY, HO, HR⟩
    isplitl [HY HO HR]
    · isplitl [HY]; · iexact HY
      isplitl [HO] <;> iassumption
    isplitl [Ho]
    · iexists W
      isplitr; · ipureintro; exact fun _ _ => Or.inl trivial
      iexact Ho
    iempintro

/-! ## The launch's side conditions -/

theorem ownSemFacts : Pipeline.OwnSemFacts cfg0.spec osem :=
  ⟨by decide, by decide, fun _ w => w.elim0⟩
theorem share_eq (c : Dev nD) (w : Fin cfg0.W) : (dats m ρ 0 c).share w = fullShare := w.elim0

/-- The launch's ghost element: the library's, the exchange's, nothing for the local transfers. -/
def u₀ : UU := (initOf (Pipeline.cells cfgs cellOf_inj) (Pipeline.launchToks cfgs cellOf_inj), (initOf allCells allToks, 1))

theorem fund_all : (ownU (u₀) : sProp 𝕄) ⊢ iprop(|={Set.univ}=> (BI.own (EP (initOf (Pipeline.cells cfgs cellOf_inj) (Pipeline.launchToks cfgs cellOf_inj))) ∗ bigSep Finset.univ (G m))) := by
  unfold u₀
  iintro Hu
  ihave H := (ownU_pair _ _) $$ Hu
  icases H with ⟨HP, HX⟩
  ihave HX := (Entails.of_eq (show (BI.own (embR (initOf allCells allToks, (1 : Counters))) : sProp 𝕄) = BI.own (ER (initOf allCells allToks)) from rfl)) $$ HX
  imod (fund m) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ iprop(|={Set.univ}=> (Start m c ∗ emp)) := by
  have hu : (Pipeline.unscopedRestP Pipeline.Prefetch.none cfg0.spec c (fun b => m ((c : Thread nD τ).loc b)) : sProp 𝕄) ⊢ arrs m c :=
    Entails.of_eq (unscopedRest0_eq c _)
  iintro ⟨HU, Hlev, Hcr, -, HG⟩
  ihave HU := hu $$ HU
  ihave Hc := (credits (F := F) c) $$ Hcr
  unfold Start G'
  icases HG with ⟨HK, Hlin, H4⟩
  imodintro
  isplitl
  · isplitl [HK]; · iexact HK
    isplitl [Hlev]; · iexact Hlev
    isplitl [Hlin]; · iexact Hlin
    isplitl [Hc]; · iexact Hc
    isplitl [H4]; · iexact H4
    iexact HU
  iempintro

theorem phi0_intro (c : Dev nD) :
    iprop(Start m c ∗ Pipeline.prefHeld Pipeline.Prefetch.none c (fun _ => fullShare.right) (fun k => k.elim0) ∗ scopedRest cfg0.spec c)
      ⊢ (dats m ρ 0 c).Φ 0 := by
  rw [show (dats m ρ 0 c).Φ 0 = Φ₀ m c from rfl]
  iintro ⟨Hs, -, Hr⟩
  isplitl [Hs] <;> iassumption
theorem phi1_exit (c : Dev nD) :
    (dats m ρ 0 c).Φ (Fin.last cfg0.N) ⊢ iprop(Y m c ∗ ownSems0 osem c ∗ scopedRest cfg0.spec c) :=
  Entails.of_eq rfl

theorem waits (c : Dev nD) : (levAts L lv : sProp 𝕄) ⊢ Pipeline.cellsWaits cfgs (dats m ρ) () 0 c :=
  Pipeline.cellsWaits_intro cfgs (dats m ρ) () 0 c fun w _ _ => w.elim0

/-- What the final memory holds on device `c`. -/
def Res (c : Dev nD) (s : MemSt nD τ sig (Elt F)) : Prop :=
  (s.mem ((c : Thread nD τ).loc main_v1) = outV m c ∧ s.mem ((c : Thread nD τ).loc main_arg0) = m ((c : Thread nD τ).loc main_arg0)
    ∧ s.mem ((c : Thread nD τ).loc main_arg1) = m ((c : Thread nD τ).loc main_arg1))

theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨Hi, HSI⟩
  icombine HSI Hi gives %h
  isplitr
  · ipureintro; exact Buf.eq_of_forall_mem_univ h
  iexact HSI

theorem read_end (c : Dev nD) (s' : Phys nD τ sig (Elt F)) :
    iprop(Y m c ∗ emp ∗ SI s') ⊢ (iprop(|={Set.univ}=> (⌜Res m c s'.mem ∧ ∀ sm : SemLoc sig, sm.isScoped .tc = false → s'.mem.sem ((c.tc : Thread nD τ), sm) = 0⌝ ∗ SI s')) : sProp 𝕄) := by
  unfold Y
  rw [← unscopedSems0_eq c]
  iintro ⟨⟨Hb, H0, H1, H2⟩, -, HSI⟩
  ihave H := (read_one _ _ s') $$ [H0 HSI]
  · isplitl [H0] <;> iassumption
  icases H with ⟨%h0, HSI⟩
  ihave H := (read_one _ _ s') $$ [H1 HSI]
  · isplitl [H1] <;> iassumption
  icases H with ⟨%h1, HSI⟩
  ihave H := (read_one _ _ s') $$ [H2 HSI]
  · isplitl [H2] <;> iassumption
  icases H with ⟨%h2, HSI⟩
  imod (Pipeline.unscopedSems0_read (X := unscopedSems0 c) (c := c) fupd_intro s') $$ [Hb HSI] with ⟨%hs, HSI⟩
  · isplitl [Hb] <;> iassumption
  imodintro
  isplitr
  · ipureintro; exact ⟨⟨h2, h0, h1⟩, hs⟩
  iexact HSI

set_option maxRecDepth 8000 in
/-- Every execution of the program ends, with the result of every device known, its arguments as they were and every
    counter at zero. -/
theorem run_main : θ_run defs (onTc (τ := τ) (main (F := F))) (s₀ m ρ) (fun r => (∀ c : Dev nD, Res m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := Start m) (Y := Y m) (Z := fun _ => iprop(emp))
    (hX := start_intro m ρ) (hin := phi0_intro m ρ) (hout := phi1_exit m ρ)
    (QY := fun c s => Res m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdeal.Hand
end
-- ==== Proof.Value.Spec.lean ====
/-
The mathematics both programs compute over the extended reals: the product with its negative entries
replaced by zero, its largest entry, and every entry rounded to one of 255 levels of that entry.
With it, what a maximum over all of an array is.
-/
module

public import Idealize.ShloMosaic.PureOps.Ideal.Laws
public import Idealize.ShloMosaic.Lib.ValueIdx
public import Idealize.ShloMosaic.Lib.ValueLayout
public import Idealize.ShloMosaic.Lib.MatmulPlain
public import Idealize.ShloMosaic.Lib.StackMember
public import Idealize.ShloMosaic.Lib.IdealHost
public import Idealize.ShloMosaic.Lib.Layout

@[expose] public section

noncomputable section

namespace Cert.Value

open Idealize.ShloMosaic Idealize.ShloMosaic.ValueIdx

/-- Entry `(r, c)` of the product of `X` and `W`, zero where it is negative. -/
def relu (X : (⟨2, ![4096, 4096]⟩ : Shape).Idx → EReal) (W : (⟨2, ![4096, 2048]⟩ : Shape).Idx → EReal)
    (r : Fin 4096) (c : Fin 2048) : EReal :=
  max (∑ k : Fin 4096, X (ix2 r k) * W (ix2 k c)) 0

/-- The largest of these entries. -/
def top (X : (⟨2, ![4096, 4096]⟩ : Shape).Idx → EReal) (W : (⟨2, ![4096, 2048]⟩ : Shape).Idx → EReal) : EReal :=
  ⨆ r, ⨆ c, relu X W r c

/-- The number `y` on the grid of 255 levels with step `A / 127`. -/
def level (y A : EReal) : EReal :=
  min (Ideal.ofBits .f32 0x42FE0000#32) (max (Ideal.ofBits .f32 0xC2FE0000#32)
    (Ideal.liftRound Ideal.roundHalfEven (Ideal.div y (Ideal.div A (Ideal.ofBits .f32 0x42FE0000#32)))))
    * Ideal.div A (Ideal.ofBits .f32 0x42FE0000#32)

/-- The whole result. -/
def whole (X : (⟨2, ![4096, 4096]⟩ : Shape).Idx → EReal) (W : (⟨2, ![4096, 2048]⟩ : Shape).Idx → EReal) :
    (⟨2, ![4096, 2048]⟩ : Shape).Idx → EReal :=
  fun i => level (relu X W (i 0) (i 1)) (top X W)

variable {X : (⟨2, ![4096, 4096]⟩ : Shape).Idx → EReal} {W : (⟨2, ![4096, 2048]⟩ : Shape).Idx → EReal}

theorem relu_nonneg (r : Fin 4096) (c : Fin 2048) : 0 ≤ relu X W r c := le_max_right _ _

theorem relu_le_top (r : Fin 4096) (c : Fin 2048) : relu X W r c ≤ top X W :=
  (le_iSup (fun c => relu X W r c) c).trans (le_iSup (fun r => ⨆ c, relu X W r c) r)

theorem top_nonneg : 0 ≤ top X W := (relu_nonneg 0 0).trans (relu_le_top 0 0)

theorem top_le {M : EReal} (h : ∀ r c, relu X W r c ≤ M) : top X W ≤ M := iSup_le fun r => iSup_le fun c => h r c

/-! ## A maximum over a whole array -/

theorem ofBits_neg_top : Ideal.ofBits .f32 0xFF800000#32 = ⊥ := by simp [Ideal.ofBits, Ideal.ieee]

theorem fold_max_eq_iSup {ι : Type} [Fintype ι] (f : ι → EReal) :
    (Finset.univ : Finset ι).fold (FloatOps.maximumf (F := Ideal) (φ := .f32)) (⊥ : EReal) f = ⨆ i, f i := by
  rw [← Finset.sup_univ_eq_iSup]; rfl

/-- A kernel's maximum over every entry, from −∞. -/
theorem multiReduction_all {s t : Shape} {axes : List (Fin s.rank)} [Subsingleton t.Idx] (x : FVec Ideal s .f32)
    (h : s.Reduces axes t) (hφ : FKind.Formats .f32) (hacc : 0xFF800000#32 = FKind.maximumf.neutral .f32 hφ) (j : t.Idx) :
    multiReduction .maximumf axes t x 0xFF800000#32 h hφ hacc j = ⨆ i, x i := by
  rw [multiReduction_maximumf_eq_fold, Finset.filter_true_of_mem fun i _ => Subsingleton.elim _ _]
  exact (congrArg (fun b => Finset.fold _ b x Finset.univ) ofBits_neg_top).trans (fold_max_eq_iSup x)

/-- The host's maximum over every entry, from −∞. -/
theorem hostReduce_all {s t u : Shape} {axes : List (Fin s.rank)} [Subsingleton t.Idx] (x : FVec Ideal s .f32)
    (h : s.ReducesTo axes t) (hu : 0 < u.numel) (j : t.Idx) :
    Host.reduce FloatOps.maximumf x (constant u .f32 0xFF800000#32) h hu j = ⨆ i, x i := by
  rw [Host.reduce_eq_fold, Finset.filter_true_of_mem fun i _ => Subsingleton.elim _ _]
  exact (congrArg (fun b => Finset.fold _ b x Finset.univ) ofBits_neg_top).trans (fold_max_eq_iSup x)

/-- Recasting an array leaves its largest entry. -/
theorem iSup_shapeCast {s t : Shape} (x : s.Idx → EReal) (h : s.ShapeCasts t) : ⨆ j, shapeCast t x h j = ⨆ i, x i :=
  Equiv.iSup_comp (g := x) (Shape.reshapeEquiv h)

end Cert.Value

end
-- ==== Proof.Value.Ref.lean ====
/-
The reference's result is the whole result of Spec.lean.
-/
module

public import proofs.«01_k».proof.Proof.Value.Spec
public import proofs.«01_k».proof.Proof.Gen.ReferenceIdeal.Run

@[expose] public section

noncomputable section

namespace Cert.Value.Ref

open Cert.Value Cert.ReferenceIdeal Cert.ReferenceIdeal.Gen Idealize.ShloMosaic Idealize.ShloMosaic.ValueIdx

/-- The reference's product, zero where it is negative. -/
abbrev relu' (X : FVec Ideal S4096x4096 .f32) (W : FVec Ideal S4096x2048 .f32) : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))

theorem relu'_eq (X : FVec Ideal S4096x4096 .f32) (W : FVec Ideal S4096x2048 .f32) (i : S4096x2048.Idx) :
    relu' X W i = relu X W (i 0) (i 1) := by
  have hz : Ideal.ofBits .f32 0x00000000#32 = 0 := by simp [Ideal.ofBits, Ideal.ieee]
  rw [eq_ix2 i]
  exact congrArg₂ max (StackMember.dotGeneral_plain_apply none X W (i 0) (i 1)) hz

/-- Its scale. -/
abbrev scale' (X : FVec Ideal S4096x4096 .f32) (W : FVec Ideal S4096x2048 .f32) : FVec Ideal S_ .f32 :=
  Host.divf (Host.reduce FloatOps.maximumf (Host.absf (relu' X W)) (constant S_ .f32 0xFF800000#32) reducesTo_S4096x2048_S_d0_1 h_S_)
    (constant S_ .f32 0x42FE0000#32)

instance : Subsingleton S_.Idx := ⟨fun a b => funext fun k => k.elim0⟩

theorem scale'_eq (X : FVec Ideal S4096x4096 .f32) (W : FVec Ideal S4096x2048 .f32) (j : S_.Idx) :
    scale' X W j = Ideal.div (top X W) (Ideal.ofBits .f32 0x42FE0000#32) := by
  refine congrArg (fun a => Ideal.div a _) ((hostReduce_all _ _ _ j).trans ?_)
  have habs : ∀ i, Host.absf (relu' X W) i = relu X W (i 0) (i 1) := fun i =>
    (congrArg (fun a : EReal => max a (-a)) (relu'_eq X W i)).trans
      (max_eq_left ((EReal.neg_le_zero.2 (relu_nonneg _ _)).trans (relu_nonneg _ _)))
  refine le_antisymm (iSup_le fun i => (habs i).le.trans (relu_le_top _ _)) (top_le fun r c => ?_)
  exact (habs (ix2 r c)).ge.trans (le_iSup (Host.absf (relu' X W)) (ix2 r c))

/-- The reference's result. -/
abbrev result (X : FVec Ideal S4096x4096 .f32) (W : FVec Ideal S4096x2048 .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf (relu' X W) (broadcastInDim S4096x2048 ![] bcast_S_S4096x2048 (scale' X W))))))
    (broadcastInDim S4096x2048 ![] bcast_S_S4096x2048 (scale' X W))

theorem result_eq (X : FVec Ideal S4096x4096 .f32) (W : FVec Ideal S4096x2048 .f32) : result X W = whole X W := by
  funext i
  have hs : ∀ i, broadcastInDim S4096x2048 ![] bcast_S_S4096x2048 (scale' X W) i
      = Ideal.div (top X W) (Ideal.ofBits .f32 0x42FE0000#32) := fun i => scale'_eq X W _
  show min _ (max _ (Ideal.liftRound Ideal.roundHalfEven (Ideal.div (relu' X W i) _))) * _ = level _ _
  rw [relu'_eq, hs]
  rfl

end Cert.Value.Ref

end
-- ==== Proof.Value.Ker.lean ====
/-
What every device of the kernel computes, entry by entry, is its columns of the whole result of Spec.lean.
-/
module

public import proofs.«01_k».proof.Proof.Value.Spec
public import proofs.«01_k».proof.Proof.KernelIdeal.Base

@[expose] public section

noncomputable section

namespace Cert.Value.Ker

open Cert.Value Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)
variable (X : (⟨2, ![4096, 4096]⟩ : Shape).Idx → EReal) (W : (⟨2, ![4096, 2048]⟩ : Shape).Idx → EReal)

/-- Row `r` of device `c`'s rows. -/
abbrev rowOf (c : Fin 16) (r : Fin 256) : Fin 4096 := ⟨256 * c.val + r.val, by omega⟩
/-- Column `q` of block `u`'s columns. -/
abbrev colOf (u : Fin 8) (q : Fin 256) : Fin 2048 := ⟨256 * u.val + q.val, by omega⟩
/-- Column `q` of device `c`'s columns. -/
abbrev outCol (c : Fin 16) (q : Fin 128) : Fin 2048 := ⟨128 * c.val + q.val, by omega⟩

/-- Every device holds its rows of `X` and all of `W`. -/
structure Holds : Prop where
  x : ∀ (c : Dev nD) (r : Fin 256) (k : Fin 4096), xC m c (ix2 r k) = X (ix2 (rowOf c r) k)
  w : ∀ c : Dev nD, wC m c = W

variable {m X W}

theorem ofBits_zero : Ideal.ofBits .f32 0x00000000#32 = 0 := by simp [Ideal.ofBits, Ideal.ieee]

theorem wB_at (H : Holds m X W) (c : Dev nD) (u : Fin 8) (k : Fin 4096) (q : Fin 256) :
    wB m c u (ix3 0 k q) = W (ix2 k (colOf u q)) := by
  refine (congrFun (H.w c) _).trans (congrArg W ?_)
  funext a; apply Fin.ext
  match a with
  | ⟨0, _⟩ => show 0 + 1 * k.val = k.val; omega
  | ⟨1, _⟩ => show 256 * u.val + 1 * q.val = 256 * u.val + q.val; omega

/-- A block of the product, zero where it is negative. -/
theorem block_at (H : Holds m X W) (c : Dev nD) (u : Fin 8) (r q : Fin 256) :
    k0_pay11 (xC m c) (wB m c u) (ix2 r q) = relu X W (rowOf c r) (colOf u q) := by
  refine congrArg₂ max ((Ideal.matmul_plain_apply none (xC m c) _ _ r q).trans ?_) ofBits_zero
  rw [constant_apply, ofBits_zero, zero_add]
  refine Finset.sum_congr rfl fun k _ => ?_
  rw [shapeCast_1ab_ab_apply, wB_at H, H.x]

/-! ## The maximum -/

/-- The largest entry of a block. -/
def blockMax (m : (ℓ : Loc nD τ sig) → Buf (Elt Ideal) ℓ) (c : Dev nD) (u : Fin 8) : EReal :=
  ⨆ i, k0_pay11 (xC m c) (wB m c u) i

instance : Subsingleton S1.Idx := ⟨fun a b => funext fun k => Fin.ext (by
  have ha : (a k).val < 1 := by have := (a k).isLt; revert this; match k with | ⟨0, _⟩ => exact id
  have hb : (b k).val < 1 := by have := (b k).isLt; revert this; match k with | ⟨0, _⟩ => exact id
  omega)⟩

/-- The maximum over a block laid out with a leading axis of one. -/
theorem reduce_block (x : FVec Ideal S256x256 .f32) (j : S1.Idx) :
    multiReduction .maximumf [1, 2] S1 (shapeCast S1x256x256 x shapeCasts_S256x256_S1x256x256) 0xFF800000#32
      reduces_S1x256x256_S1 (.inl rfl) rfl j = ⨆ i, x i :=
  (multiReduction_all (t := S1) (shapeCast S1x256x256 x shapeCasts_S256x256_S1x256x256) reduces_S1x256x256_S1 (.inl rfl) rfl j).trans
    (iSup_shapeCast x _)

/-- The one entry of a recast array all of whose entries are `v`. -/
theorem pick {s t : Shape} (x : s.Idx → EReal) (h : s.ShapeCasts t) (pos : Fin t.rank → ℕ) (hp : ∀ a, pos a < t.size a)
    (v : EReal) (hx : ∀ j, x j = v) : extractAt pos (shapeCast t x h) hp = v := hx _

/-- The first chunk's block is worked out as the others are. -/
theorem first_block (x : Vec Ideal S256x4096 .f32) (w : Vec Ideal S1x4096x256 .f32) : k0_pay2 x w = k0_pay11 x w := by
  unfold k0_pay2 k0_pay11
  rfl

theorem scalar_max (a b : Ideal .f32) : Scalar.maximumf a b = max a b := rfl
theorem scalar_bits (b : BitVec 32) : (Scalar.ofBits .f32 b : Ideal .f32) = Ideal.ofBits .f32 b := rfl

theorem start_max (v : FVec Ideal S256x256 .f32) :
    k0_pay4 (shapeCast S1x256x256 v shapeCasts_S256x256_S1x256x256) = max 0 (⨆ i, v i) := by
  unfold k0_pay4
  exact (scalar_max _ _).trans (congrArg₂ max ((scalar_bits _).trans ofBits_zero) (pick _ shapeCasts_S1_S1x1x1 ![0, 0, 0] inpos_S1x1x1_p0_0_0 _ (reduce_block v)))

theorem first_max (x : Vec Ideal S256x4096 .f32) (w : Vec Ideal S1x4096x256 .f32) :
    k0_pay4 (k0_pay3 x w) = max 0 (⨆ i, k0_pay11 x w i) := by
  unfold k0_pay3
  rw [first_block]
  exact start_max (k0_pay11 x w)

theorem next_max (p : Ideal .f32) (x : Vec Ideal S256x4096 .f32) (w : Vec Ideal S1x4096x256 .f32) :
    k0_pay12 p x w = max p (⨆ i, k0_pay11 x w i) := by
  unfold k0_pay12
  exact congrArg (max p) (pick _ shapeCasts_S1_S1x1x1 ![0, 0, 0] inpos_S1x1x1_p0_0_0 _ (reduce_block (k0_pay11 x w)))

theorem blockMax_le (H : Holds m X W) (c : Dev nD) (u : Fin 8) : blockMax m c u ≤ top X W := iSup_le fun i => by
  rw [eq_ix2 i]; exact (block_at H c u (i 0) (i 1)).le.trans (relu_le_top _ _)

theorem relu_le_blockMax (H : Holds m X W) (c : Dev nD) (u : Fin 8) (r q : Fin 256) :
    relu X W (rowOf c r) (colOf u q) ≤ blockMax m c u :=
  (block_at H c u r q).ge.trans (le_iSup (k0_pay11 (xC m c) (wB m c u)) (ix2 r q))

theorem pmax_le (H : Holds m X W) (c : Dev nD) (t : ℕ) : pmax m c t ≤ top X W := by
  induction t with
  | zero => exact (first_max _ _).le.trans (max_le top_nonneg (blockMax_le H c _))
  | succ t ih => exact (next_max _ _ _).le.trans (max_le ih (blockMax_le H c _))

theorem blockMax_le_pmax (c : Dev nD) (t s : ℕ) (h : s ≤ t) :
    blockMax m c (chunkIx c (Fin.ofNat 8 s)) ≤ pmax m c t := by
  induction t with
  | zero => obtain rfl : s = 0 := by omega
            exact (le_max_right _ _).trans (first_max _ _).ge
  | succ t ih =>
    rcases Nat.lt_or_ge t s with hs | hs
    · obtain rfl : s = t + 1 := by omega
      exact (le_max_right _ _).trans (next_max _ _ _).ge
    · exact (ih hs).trans ((le_max_left _ _).trans (next_max _ _ _).ge)

/-- Every block of columns is one of a device's eight chunks. -/
theorem chunk_onto (c : Dev nD) (u : Fin 8) : ∃ s, s ≤ 7 ∧ chunkIx c (Fin.ofNat 8 s) = u := by
  refine ⟨(u.val + 8 - c.val / 2) % 8, by omega, Fin.ext ?_⟩
  have hc : c.val < 16 := c.isLt
  show ((u.val + 8 - c.val / 2) % 8 % 8 + c.val / 2) % 8 = u.val
  omega

theorem relu_le_pmax (H : Holds m X W) (c : Dev nD) (u : Fin 8) (r q : Fin 256) :
    relu X W (rowOf c r) (colOf u q) ≤ pmax m c 7 := by
  obtain ⟨s, hs, rfl⟩ := chunk_onto c u
  exact (relu_le_blockMax H c _ r q).trans (blockMax_le_pmax c 7 s hs)

theorem row_at (p : Ideal .f32) (i : S1x8x128.Idx) : k0_pay67 p i = p := rfl

theorem amaxAll_at (i : S16x8x128.Idx) : amaxAll m i = pmax m (i 0) 7 := by
  unfold amaxAll amaxV
  exact row_at _ _

theorem amaxAll_iSup (H : Holds m X W) : ⨆ i, amaxAll m i = top X W := by
  refine le_antisymm (iSup_le fun i => (amaxAll_at i).le.trans (pmax_le H _ _)) (top_le fun r c => ?_)
  have e := relu_le_pmax H (⟨r.val / 256, by omega⟩ : Fin 16) ⟨c.val / 256, by omega⟩ ⟨r.val % 256, Nat.mod_lt _ (by decide)⟩
    ⟨c.val % 256, Nat.mod_lt _ (by decide)⟩
  have hr : rowOf ⟨r.val / 256, by omega⟩ ⟨r.val % 256, Nat.mod_lt _ (by decide)⟩ = r := Fin.ext (Nat.div_add_mod _ _)
  have hc : colOf ⟨c.val / 256, by omega⟩ ⟨c.val % 256, Nat.mod_lt _ (by decide)⟩ = c := Fin.ext (Nat.div_add_mod _ _)
  rw [hr, hc] at e
  exact e.trans ((amaxAll_at (ix3 ⟨r.val / 256, by omega⟩ 0 0)).ge.trans (le_iSup (amaxAll m) _))

/-- The maximum over all sixteen rows. -/
theorem reduce_rows (x : FVec Ideal S16x8x128 .f32) (j : S1.Idx) :
    multiReduction .maximumf [1, 2, 3] S1 (shapeCast S1x16x8x128 x shapeCasts_S16x8x128_S1x16x8x128) 0xFF800000#32
      reduces_S1x16x8x128_S1 (.inl rfl) rfl j = ⨆ i, x i :=
  (multiReduction_all (t := S1) (shapeCast S1x16x8x128 x shapeCasts_S16x8x128_S1x16x8x128) reduces_S1x16x8x128_S1 (.inl rfl) rfl j).trans
    (iSup_shapeCast x _)

theorem scale_at (x : Vec Ideal S16x8x128 .f32) :
    k0_pay83 x = Ideal.div (⨆ i, x i) (Ideal.ofBits .f32 0x42FE0000#32) := by
  unfold k0_pay83
  exact congrArg (fun a => Ideal.div a _) (pick _ shapeCasts_S1_S1x1x1x1 ![0, 0, 0, 0] inpos_S1x1x1x1_p0_0_0_0 _ (reduce_rows x))

theorem scale_eq (H : Holds m X W) : scaleV m = Ideal.div (top X W) (Ideal.ofBits .f32 0x42FE0000#32) :=
  (scale_at (amaxAll m)).trans (congrArg (fun a => Ideal.div a _) (amaxAll_iSup H))

/-! ## The result -/

theorem even_at (x : Vec Ideal S256x4096 .f32) (w : Vec Ideal S1x4096x256 .f32) (r : Fin 256) (q : Fin 128) :
    k0_pay14 x w (ix3 0 r q) = k0_pay11 x w (ix2 r ⟨q.val, by omega⟩) :=
  (shapeCast_ab_1ab_apply (k0_pay13 x w) shapeCasts_S256x128_S1x256x128 0 r q).trans
    (slice2_axis1_apply 0 (k0_pay11 x w) slices_S256x256_o0_0_S256x128 r q ⟨q.val, by omega⟩ (Nat.zero_add _).symm)

theorem odd_at (x : Vec Ideal S256x4096 .f32) (w : Vec Ideal S1x4096x256 .f32) (r : Fin 256) (q : Fin 128) :
    k0_pay17 x w (ix3 0 r q) = k0_pay11 x w (ix2 r ⟨128 + q.val, by omega⟩) :=
  (shapeCast_ab_1ab_apply (k0_pay16 x w) shapeCasts_S256x128_S1x256x128 0 r q).trans
    (slice2_axis1_apply 128 (k0_pay11 x w) slices_S256x256_o0_128_S256x128 r q ⟨128 + q.val, by omega⟩ rfl)

/-- What device `s` sends to `c` is its rows of `c`'s columns. -/
theorem sendV_at (H : Holds m X W) (s c : Fin 16) (r : Fin 256) (q : Fin 128) :
    sendV m s c (ix3 0 r q) = relu X W (rowOf s r) (outCol c q) := by
  unfold sendV
  by_cases h : c.val % 2 = 0
  · rw [if_pos h, even_at, block_at H]
    exact congrArg _ (Fin.ext (show 256 * (c.val / 2) + q.val = 128 * c.val + q.val by omega))
  · rw [if_neg h, odd_at, block_at H]
    exact congrArg _ (Fin.ext (show 256 * (c.val / 2) + (128 + q.val) = 128 * c.val + q.val by omega))

theorem round_at (a : Ideal .f32) (v : Vec Ideal S1x256x128 .bf16) (r : Fin 256) (q : Fin 128) :
    k0_pay87 a v (ix2 r q) = min (Ideal.ofBits .f32 0x42FE0000#32) (max (Ideal.ofBits .f32 0xC2FE0000#32)
      (Ideal.liftRound Ideal.roundHalfEven (Ideal.div (shapeCast S256x128 v shapeCasts_S1x256x128_S256x128 (ix2 r q)) a))) * a := by
  unfold k0_pay87
  exact shapeCast_apply _ shapeCasts_S256x128_S256x128 (ix2 r q) (ix2 r q) rfl

theorem outB_at (H : Holds m X W) (c s : Fin 16) (r : Fin 256) (q : Fin 128) :
    outB m c s (ix2 r q) = level (relu X W (rowOf s r) (outCol c q)) (top X W) := by
  have e := shapeCast_1ab_ab_apply (sendV m s c) shapeCasts_S1x256x128_S256x128 r q
  rw [sendV_at H] at e
  refine (round_at (scaleV m) (sendV m s c) r q).trans ?_
  rw [e, scale_eq H]
  rfl

/-- Device `c`'s result is its columns of the whole result. -/
theorem outV_eq (H : Holds m X W) (c : Fin 16) :
    outV m c = Layout.block ⟨2, ![4096, 128]⟩ ⟨2, ![4096, 2048]⟩ 1 16 c (whole X W) := by
  funext i
  have h0 : (i 0).val < 4096 := (i 0).isLt
  refine (congrArg (outB m c _) (eq_ix2 _)).trans ((outB_at H c _ _ _).trans ?_)
  refine congrArg₂ (fun a b => level (relu X W a b) (top X W)) (Fin.ext ?_) (Fin.ext ?_)
  · exact Nat.div_add_mod _ _
  · show 128 * c.val + (i 1).val = c.val * 128 + (i 1).val
    omega

end Cert.Value.Ker

end
-- ==== Proof.lean ====
/-
The claim: the kernel and its reading over the extended reals end with their arguments as they were and every
counter at zero, and so does the reference; and over the extended reals every device of the kernel ends with its
columns of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Main
public import proofs.«01_k».proof.Proof.KernelIdeal.Main
public import proofs.«01_k».proof.Proof.Value.Ref
public import proofs.«01_k».proof.Proof.Value.Ker
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments as they were, and it has no counters. -/
theorem reference_frame : Cert.quiescent_ReferenceIdeal :=
  fun m g _ => (θ_run _ _ _).mono (fun r h => ⟨fun c => (h c).2, sem_eq_zero_of_no_sems rfl r.2⟩)
    (Cert.ReferenceIdeal.Value.run m g)

/-- Over the extended reals, every device of the kernel ends with its columns of the reference's result. -/
theorem value : Cert.algebraic_KernelIdeal_ReferenceIdeal := fun m g m' g' _ hm => by
  refine ⟨Cert.Value.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).1.trans (Cert.Value.Ker.outV_eq ⟨fun d r k => ?_, fun d => (hm d).2⟩ c), (h.1 c).2⟩)
      (Cert.KernelIdeal.Hand.run_main m g)
    refine (congrFun (hm d).1 (ValueIdx.ix2 r k)).trans (congrArg (m' _) ?_)
    funext a; apply Fin.ext
    match a with
    | ⟨0, _⟩ => show d.val * 256 + r.val = 256 * d.val + r.val; omega
    | ⟨1, _⟩ => rfl
  · exact (θ_run _ _ _).mono (fun r h => ⟨(h 0).1.trans (Cert.Value.Ref.result_eq _ _), (h 0).2⟩)
      (Cert.ReferenceIdeal.Value.run m' g')

theorem claim : Cert.Claim :=
  ⟨Cert.Kernel.Gen.facts, Cert.KernelIdeal.Gen.facts, Cert.ReferenceIdeal.Gen.facts,
    fun m g _ => (θ_run _ _ _).mono (fun _ h => ⟨fun c => (h.1 c).2, h.2⟩) (Cert.Kernel.Hand.run_main m g),
    fun m g _ => (θ_run _ _ _).mono (fun _ h => ⟨fun c => (h.1 c).2, h.2⟩) (Cert.KernelIdeal.Hand.run_main m g),
    reference_frame, trivial, value⟩

end Cert.Proof

end
